-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v8) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v2) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v14) = v0 c
          ∧ r.2.mem ((c.tc : Thread Cert.Reference31Ideal.nD Cert.Reference31Ideal.τ).loc Cert.Reference31Ideal.main_v15) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v41) = v0 c
          ∧ r.2.mem ((c.tc : Thread Cert.Reference32Ideal.nD Cert.Reference32Ideal.τ).loc Cert.Reference32Ideal.main_v24) = v1 c
          ∧ r.2.mem ((c.tc : Thread Cert.Reference32Ideal.nD Cert.Reference32Ideal.τ).loc Cert.Reference32Ideal.main_v21) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S8192x1024 : Shape := ⟨2, ![8192, 1024]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)

variable [Facts]

def fn {F : FTy → Type} [FloatOps F] (main_arg0 : FVec F S8192x1024 .f32) (main_arg1 : FVec F S8192x1024 .f32) (main_arg2 : FVec F S8192x512 .f32) (main_arg3 : FVec F S8192x512 .f32) : IVec S8192x1024 1 × IVec S8192x1024 1 × IVec S8192x512 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Kernel.lean ====
abbrev S8192x1024 : Shape := ⟨2, ![8192, 1024]⟩
abbrev S8192x512 : Shape := ⟨2, ![8192, 512]⟩
abbrev S8192x4x256 : Shape := ⟨3, ![8192, 4, 256]⟩
abbrev S4x8192x8192 : Shape := ⟨3, ![4, 8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S4x8192 : Shape := ⟨2, ![4, 8192]⟩
abbrev S4x8192x1 : Shape := ⟨3, ![4, 8192, 1]⟩
abbrev S8192x4x128 : Shape := ⟨3, ![8192, 4, 128]⟩
abbrev S4x128x8192 : Shape := ⟨3, ![4, 128, 8192]⟩
abbrev S4x8192x128 : Shape := ⟨3, ![4, 8192, 128]⟩
abbrev S1024x256 : Shape := ⟨2, ![1024, 256]⟩
abbrev S1024x128 : Shape := ⟨2, ![1024, 128]⟩
abbrev S1x1024x128 : Shape := ⟨3, ![1, 1024, 128]⟩
abbrev S8192x256 : Shape := ⟨2, ![8192, 256]⟩
abbrev S1024x1024 : Shape := ⟨2, ![1024, 1024]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 104
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x4x256, .f32⟩
  | .hbm, ⟨5, _⟩ => ⟨S8192x4x256, .f32⟩
  | .hbm, ⟨6, _⟩ => ⟨S4x8192x8192, .f32⟩
  | .hbm, ⟨7, _⟩ => ⟨S8192, .i32⟩
  | .hbm, ⟨8, _⟩ => ⟨S_, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S4x8192x8192, .i1⟩
  | .hbm, ⟨34, _⟩ => ⟨S4x8192x8192, .f32⟩
  | .hbm, ⟨35, _⟩ => ⟨S4x8192x8192, .f32⟩
  | .hbm, ⟨36, _⟩ => ⟨S_, .f32⟩
  | .hbm, ⟨37, _⟩ => ⟨S4x8192, .f32⟩
  | .hbm, ⟨38, _⟩ => ⟨S_, .f32⟩
  | .hbm, ⟨39, _⟩ => ⟨S4x8192, .f32⟩
  | .hbm, ⟨40, _⟩ => ⟨S4x8192, .f32⟩
  | .hbm, ⟨41, _⟩ => ⟨S4x8192x1, .f32⟩
  | .hbm, ⟨42, _⟩ => ⟨S4x8192x8192, .f32⟩
  | .hbm, ⟨43, _⟩ => ⟨S4x8192x8192, .f32⟩
  | .hbm, ⟨44, _⟩ => ⟨S4x8192x8192, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x8192, .f32⟩
  | .hbm, ⟨49, _⟩ => ⟨S4x8192x8192, .f32⟩
  | .hbm, ⟨50, _⟩ => ⟨S8192x4x128, .f32⟩
  | .hbm, ⟨51, _⟩ => ⟨S4x128x8192, .f32⟩
  | .hbm, ⟨52, _⟩ => ⟨S8192x4x128, .f32⟩
  | .hbm, ⟨53, _⟩ => ⟨S8192x512, .f32⟩
  | .hbm, ⟨54, _⟩ => ⟨S8192x4x256, .f32⟩
  | .hbm, ⟨55, _⟩ => ⟨S8192x4x256, .f32⟩
  | .hbm, ⟨56, _⟩ => ⟨S4x8192x8192, .f32⟩
  | .hbm, ⟨57, _⟩ => ⟨S8192, .i32⟩
  | .hbm, ⟨58, _⟩ => ⟨S_, .i32⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S8192, .i32⟩
  | .hbm, ⟨63, _⟩ => ⟨S_, .i32⟩
  | .hbm, ⟨64, _⟩ => ⟨S8192, .i32⟩
  | .hbm, ⟨65, _⟩ => ⟨S8192, .i1⟩
  | .hbm, ⟨66, _⟩ => ⟨S8192, .i32⟩
  | .hbm, ⟨67, _⟩ => ⟨S8192, .i32⟩
  | .hbm, ⟨68, _⟩ => ⟨S_, .i32⟩
  | .hbm, ⟨69, _⟩ => ⟨S8192, .i32⟩
  | .hbm, ⟨70, _⟩ => ⟨S8192, .i1⟩
  | .hbm, ⟨71, _⟩ => ⟨S8192, .i1⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S8192, .i32⟩
  | .hbm, ⟨76, _⟩ => ⟨S8192x1, .i32⟩
  | .hbm, ⟨77, _⟩ => ⟨S1x8192, .i32⟩
  | .hbm, ⟨78, _⟩ => ⟨S8192x8192, .i32⟩
  | .hbm, ⟨79, _⟩ => ⟨S8192x8192, .i32⟩
  | .hbm, ⟨80, _⟩ => ⟨S8192x8192, .i1⟩
  | .hbm, ⟨81, _⟩ => ⟨S_, .f32⟩
  | .hbm, ⟨82, _⟩ => ⟨S_, .f32⟩
  | .hbm, ⟨83, _⟩ => ⟨S4x8192x8192, .i1⟩
  | .hbm, ⟨84, _⟩ => ⟨S4x8192x8192, .f32⟩
  | .hbm, ⟨85, _⟩ => ⟨S4x8192x8192, .f32⟩
  | .hbm, ⟨86, _⟩ => ⟨S_, .f32⟩
  | .hbm, ⟨87, _⟩ => ⟨S4x8192, .f32⟩
  | .hbm, ⟨88, _⟩ => ⟨S4x8192x1, .f32⟩
  | .hbm, ⟨89, _⟩ => ⟨S4x8192x8192, .f32⟩
  | .hbm, ⟨90, _⟩ => ⟨S4x8192x8192, .f32⟩
  | .hbm, ⟨91, _⟩ => ⟨S4x8192x8192, .f32⟩
  | .hbm, ⟨92, _⟩ => ⟨S_, .f32⟩
  | .hbm, ⟨93, _⟩ => ⟨S4x8192, .f32⟩
  | .hbm, ⟨94, _⟩ => ⟨S4x8192x1, .f32⟩
  | .hbm, ⟨95, _⟩ => ⟨S4x8192x1, .f32⟩
  | .hbm, ⟨96, _⟩ => ⟨S4x8192x1, .f32⟩
  | .hbm, ⟨97, _⟩ => ⟨S4x8192x128, .f32⟩
  | .hbm, ⟨98, _⟩ => ⟨S8192x1024, .bf16⟩
  | .hbm, ⟨99, _⟩ => ⟨S8192x1024, .bf16⟩
  | .hbm, ⟨100, _⟩ => ⟨S8192x512, .bf16⟩
  | .hbm, ⟨101, _⟩ => ⟨S8192x1024, .f32⟩
  | .hbm, ⟨102, _⟩ => ⟨S8192x1024, .f32⟩
  | .hbm, ⟨103, _⟩ => ⟨S8192x512, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1024x128, .f32⟩
  | .local _ .vmem, ⟨11, _⟩ => ⟨S1x1024x128, .f32⟩
  | .local _ .vmem, ⟨12, _⟩ => ⟨S8192x256, .f32⟩
  | .local _ .vmem, ⟨13, _⟩ => ⟨S8192x256, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | .local _ .vmem, ⟨18, _⟩ => ⟨S1024x256, .f32⟩
  | .local _ .vmem, ⟨19, _⟩ => ⟨S1024x128, .f32⟩
  | .local _ .vmem, ⟨20, _⟩ => ⟨S8192x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_3 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_c : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_0 : Ref sig .tc := ⟨.hbm, 72, rfl⟩
abbrev main_call2_v12 : Ref sig .tc := ⟨.hbm, 73, rfl⟩
abbrev main_call2_v13 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_4 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v36 : Ref sig .tc := ⟨.hbm, 85, rfl⟩
abbrev main_cst_5 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_6 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50_0 : Ref sig .tc := ⟨.hbm, 101, rfl⟩
abbrev main_v50_1 : Ref sig .tc := ⟨.hbm, 102, rfl⟩
abbrev main_v50_2 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 8], ![false, false, false]⟩

def k0_cond3 (i : grid0.Coords) : BitVec 1 :=
  let arg2 : BitVec 32 := BitVec.ofNat 32 (i 2).val
  let arg1 : BitVec 32 := BitVec.ofNat 32 (i 1).val
  let v7 : BitVec 1 := Scalar.cmpi .sgt arg2 arg1
  let v8 : BitVec 32 := Scalar.extui v7
  let c0_i32_3 : BitVec 32 := 0#32
  let v9 : BitVec 1 := Scalar.cmpi .ne v8 c0_i32_3
  v9

def k0_mult1 (i : grid0.Coords) : BitVec 32 :=
  let arg2 : BitVec 32 := BitVec.ofNat 32 (i 2).val
  let c1024_i32 : BitVec 32 := 1024#32
  let v57 : BitVec 32 := Scalar.muli arg2 c1024_i32
  v57
def k0_off1 (i : grid0.Coords) : Fin 2 → Nat :=
  let arg2 : BitVec 32 := BitVec.ofNat 32 (i 2).val
  let c1024_i32 : BitVec 32 := 1024#32
  let v57 : BitVec 32 := Scalar.muli arg2 c1024_i32
  let v58 : BitVec 32 := v57
  let v59 : Index := Scalar.indexCast v58
  let c0_31 : Index := 0#32
  ![v59.toNat, 0]
def k0_cond4 (i : grid0.Coords) : BitVec 1 :=
  let arg2 : BitVec 32 := BitVec.ofNat 32 (i 2).val
  let arg1 : BitVec 32 := BitVec.ofNat 32 (i 1).val
  let v10 : BitVec 1 := Scalar.cmpi .eq arg2 arg1
  let v11 : BitVec 32 := Scalar.extui v10
  let c0_i32_4 : BitVec 32 := 0#32
  let v12 : BitVec 1 := Scalar.cmpi .ne v11 c0_i32_4
  v12

def k0_mult2 (i : grid0.Coords) : BitVec 32 :=
  let arg2 : BitVec 32 := BitVec.ofNat 32 (i 2).val
  let c1024_i32_45 : BitVec 32 := 1024#32
  let v116 : BitVec 32 := Scalar.muli arg2 c1024_i32_45
  v116
def k0_off2 (i : grid0.Coords) : Fin 2 → Nat :=
  let arg2 : BitVec 32 := BitVec.ofNat 32 (i 2).val
  let c1024_i32_45 : BitVec 32 := 1024#32
  let v116 : BitVec 32 := Scalar.muli arg2 c1024_i32_45
  let v117 : BitVec 32 := v116
  let v118 : Index := Scalar.indexCast v117
  let c0_46 : Index := 0#32
  ![v118.toNat, 0]
def k0_cond6 (i : grid0.Coords) : BitVec 1 :=
  let arg2 : BitVec 32 := BitVec.ofNat 32 (i 2).val
  let arg1 : BitVec 32 := BitVec.ofNat 32 (i 1).val
  let v16 : BitVec 32 := Scalar.addi arg2 arg1
  let c14_i32 : BitVec 32 := 14#32
  let v17 : BitVec 1 := Scalar.cmpi .eq v16 c14_i32
  let v18 : BitVec 32 := Scalar.extui v17
  let c0_i32_6 : BitVec 32 := 0#32
  let v19 : BitVec 1 := Scalar.cmpi .ne v18 c0_i32_6
  v19

def k0_cond5 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S8192x1024 : Shape := ⟨2, ![8192, 1024]⟩
abbrev S8192x512 : Shape := ⟨2, ![8192, 512]⟩
abbrev S8192x4x256 : Shape := ⟨3, ![8192, 4, 256]⟩
abbrev S4x8192x8192 : Shape := ⟨3, ![4, 8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S4x8192 : Shape := ⟨2, ![4, 8192]⟩
abbrev S4x8192x1 : Shape := ⟨3, ![4, 8192, 1]⟩
abbrev S8192x4x128 : Shape := ⟨3, ![8192, 4, 128]⟩
abbrev S4x128x8192 : Shape := ⟨3, ![4, 128, 8192]⟩
abbrev S4x8192x256 : Shape := ⟨3, ![4, 8192, 256]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x4x256, .f32⟩
  | .hbm, ⟨5, _⟩ => ⟨S8192x4x256, .f32⟩
  | .hbm, ⟨6, _⟩ => ⟨S4x8192x8192, .f32⟩
  | .hbm, ⟨7, _⟩ => ⟨S8192, .i32⟩
  | .hbm, ⟨8, _⟩ => ⟨S_, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S4x8192x8192, .i1⟩
  | .hbm, ⟨34, _⟩ => ⟨S4x8192x8192, .f32⟩
  | .hbm, ⟨35, _⟩ => ⟨S4x8192x8192, .f32⟩
  | .hbm, ⟨36, _⟩ => ⟨S_, .f32⟩
  | .hbm, ⟨37, _⟩ => ⟨S4x8192x8192, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S4x8192x8192, .f32⟩
  | .hbm, ⟨42, _⟩ => ⟨S4x8192x8192, .i1⟩
  | .hbm, ⟨43, _⟩ => ⟨S4x8192x8192, .f32⟩
  | .hbm, ⟨44, _⟩ => ⟨S_, .f32⟩
  | .hbm, ⟨45, _⟩ => ⟨S4x8192, .f32⟩
  | .hbm, ⟨46, _⟩ => ⟨S_, .f32⟩
  | .hbm, ⟨47, _⟩ => ⟨S4x8192, .f32⟩
  | .hbm, ⟨48, _⟩ => ⟨S4x8192, .f32⟩
  | .hbm, ⟨49, _⟩ => ⟨S_, .f32⟩
  | .hbm, ⟨50, _⟩ => ⟨S4x8192, .f32⟩
  | .hbm, ⟨51, _⟩ => ⟨S4x8192, .i1⟩
  | .hbm, ⟨52, _⟩ => ⟨S_, .f32⟩
  | .hbm, ⟨53, _⟩ => ⟨S4x8192, .f32⟩
  | .hbm, ⟨54, _⟩ => ⟨S4x8192, .i1⟩
  | .hbm, ⟨55, _⟩ => ⟨S_, .f32⟩
  | .hbm, ⟨56, _⟩ => ⟨S4x8192, .f32⟩
  | .hbm, ⟨57, _⟩ => ⟨S_, .f32⟩
  | .hbm, ⟨58, _⟩ => ⟨S4x8192, .f32⟩
  | .hbm, ⟨59, _⟩ => ⟨S_, .f32⟩
  | .hbm, ⟨60, _⟩ => ⟨S4x8192, .f32⟩
  | .hbm, ⟨61, _⟩ => ⟨S4x8192, .f32⟩
  | .hbm, ⟨62, _⟩ => ⟨S4x8192, .f32⟩
  | .hbm, ⟨63, _⟩ => ⟨S4x8192x1, .f32⟩
  | .hbm, ⟨64, _⟩ => ⟨S4x8192x8192, .f32⟩
  | .hbm, ⟨65, _⟩ => ⟨S4x8192x8192, .f32⟩
  | .hbm, ⟨66, _⟩ => ⟨S4x8192x8192, .f32⟩
  | .hbm, ⟨67, _⟩ => ⟨S_, .f32⟩
  | .hbm, ⟨68, _⟩ => ⟨S4x8192, .f32⟩
  | .hbm, ⟨69, _⟩ => ⟨S4x8192x1, .f32⟩
  | .hbm, ⟨70, _⟩ => ⟨S4x8192x8192, .f32⟩
  | .hbm, ⟨71, _⟩ => ⟨S4x8192x8192, .f32⟩
  | .hbm, ⟨72, _⟩ => ⟨S4x8192x1, .f32⟩
  | .hbm, ⟨73, _⟩ => ⟨S_, .f32⟩
  | .hbm, ⟨74, _⟩ => ⟨S4x8192x1, .f32⟩
  | .hbm, ⟨75, _⟩ => ⟨S4x8192x1, .f32⟩
  | .hbm, ⟨76, _⟩ => ⟨S8192x4x128, .f32⟩
  | .hbm, ⟨77, _⟩ => ⟨S4x128x8192, .f32⟩
  | .hbm, ⟨78, _⟩ => ⟨S8192x4x128, .f32⟩
  | .hbm, ⟨79, _⟩ => ⟨S8192x512, .f32⟩
  | .hbm, ⟨80, _⟩ => ⟨S8192x4x128, .f32⟩
  | .hbm, ⟨81, _⟩ => ⟨S4x128x8192, .f32⟩
  | .hbm, ⟨82, _⟩ => ⟨S4x8192x8192, .f32⟩
  | .hbm, ⟨83, _⟩ => ⟨S4x128x8192, .f32⟩
  | .hbm, ⟨84, _⟩ => ⟨S8192x4x128, .f32⟩
  | .hbm, ⟨85, _⟩ => ⟨S8192x512, .f32⟩
  | .hbm, ⟨86, _⟩ => ⟨S4x8192x8192, .f32⟩
  | .hbm, ⟨87, _⟩ => ⟨S4x8192x8192, .f32⟩
  | .hbm, ⟨88, _⟩ => ⟨S4x8192x8192, .f32⟩
  | .hbm, ⟨89, _⟩ => ⟨S_, .f32⟩
  | .hbm, ⟨90, _⟩ => ⟨S4x8192, .f32⟩
  | .hbm, ⟨91, _⟩ => ⟨S4x8192x1, .f32⟩
  | .hbm, ⟨92, _⟩ => ⟨S4x8192x1, .f32⟩
  | .hbm, ⟨93, _⟩ => ⟨S4x8192x8192, .f32⟩
  | .hbm, ⟨94, _⟩ => ⟨S4x8192x8192, .f32⟩
  | .hbm, ⟨95, _⟩ => ⟨S_, .f32⟩
  | .hbm, ⟨96, _⟩ => ⟨S4x8192, .f32⟩
  | .hbm, ⟨97, _⟩ => ⟨S4x8192x8192, .f32⟩
  | .hbm, ⟨98, _⟩ => ⟨S4x8192x8192, .f32⟩
  | .hbm, ⟨99, _⟩ => ⟨S4x8192x8192, .f32⟩
  | .hbm, ⟨100, _⟩ => ⟨S_, .f32⟩
  | .hbm, ⟨101, _⟩ => ⟨S4x8192x8192, .f32⟩
  | .hbm, ⟨102, _⟩ => ⟨S4x8192x8192, .f32⟩
  | .hbm, ⟨103, _⟩ => ⟨S4x8192x256, .f32⟩
  | .hbm, ⟨104, _⟩ => ⟨S8192x4x256, .f32⟩
  | .hbm, ⟨105, _⟩ => ⟨S4x8192x256, .f32⟩
  | .hbm, ⟨106, _⟩ => ⟨S8192x4x256, .f32⟩
  | .hbm, ⟨107, _⟩ => ⟨S8192x1024, .f32⟩
  | .hbm, ⟨108, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_call1_v0 : Ref sig .tc := ⟨.hbm, 32, rfl⟩
abbrev main_v10_1 : Ref sig .tc := ⟨.hbm, 33, rfl⟩
abbrev main_call1_v2 : Ref sig .tc := ⟨.hbm, 34, rfl⟩
abbrev main_v10_0 : Ref sig .tc := ⟨.hbm, 35, rfl⟩
abbrev main_call1_cst : Ref sig .tc := ⟨.hbm, 36, rfl⟩
abbrev main_v10_2 : Ref sig .tc := ⟨.hbm, 37, rfl⟩
abbrev main_cst_0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_cst_3 : Ref sig .tc := ⟨.hbm, 49, rfl⟩
abbrev main_v19 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_cst_5 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_8 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_9 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_10 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_11 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_call2_cst : Ref sig .tc := ⟨.hbm, 100, rfl⟩
abbrev main_call2_v0 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1024x8192, .f32⟩
  | .hbm, ⟨3, _⟩ => ⟨S1024x5632, .f32⟩
  | .hbm, ⟨4, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x5632, .bf16⟩
  | .hbm, ⟨3, _⟩ => ⟨S1024x5632, .bf16⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S1024x5632 : Shape := ⟨2, ![1024, 5632]⟩
abbrev S5632x1024 : Shape := ⟨2, ![5632, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S5632x1024, .f32⟩
  | .hbm, ⟨3, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x1024, .bf16⟩
  | .hbm, ⟨3, _⟩ => ⟨S2816x1024, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S1024x2816, .f32⟩
  | .hbm, ⟨3, _⟩ => ⟨S8192x2816, .f32⟩
  | .hbm, ⟨4, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x8192, .f32⟩
  | .hbm, ⟨3, _⟩ => ⟨S2816x1024, .f32⟩
  | .hbm, ⟨4, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8192x3072 : Shape := ⟨2, ![8192, 3072]⟩
abbrev S1024x3072 : Shape := ⟨2, ![1024, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x3072, .bf16⟩
  | .hbm, ⟨3, _⟩ => ⟨S1024x3072, .bf16⟩
  | .hbm, ⟨4, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x3072 : Shape := ⟨2, ![8192, 3072]⟩
abbrev S1024x3072 : Shape := ⟨2, ![1024, 3072]⟩
abbrev S3072x1024 : Shape := ⟨2, ![3072, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S3072x1024, .f32⟩
  | .hbm, ⟨3, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x3072 : Shape := ⟨2, ![8192, 3072]⟩
abbrev S1024x8192 : Shape := ⟨2, ![1024, 8192]⟩
abbrev S1024x3072 : Shape := ⟨2, ![1024, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S1024x8192, .f32⟩
  | .hbm, ⟨3, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x1024, .f32⟩
  | .hbm, ⟨4, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x1024 : Shape := ⟨2, ![8192, 1024]⟩
abbrev S384x1024 : Shape := ⟨2, ![384, 1024]⟩
abbrev S8192x384 : Shape := ⟨2, ![8192, 384]⟩
abbrev S1024x1024 : Shape := ⟨2, ![1024, 1024]⟩
abbrev S1024x384 : Shape := ⟨2, ![1024, 384]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S384x1024, .f32⟩
  | .hbm, ⟨2, _⟩ => ⟨S8192x1024, .bf16⟩
  | .hbm, ⟨3, _⟩ => ⟨S384x1024, .bf16⟩
  | .hbm, ⟨4, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S384x1024 : Shape := ⟨2, ![384, 1024]⟩
abbrev S1024x384 : Shape := ⟨2, ![1024, 384]⟩
abbrev S8192x384 : Shape := ⟨2, ![8192, 384]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S384x1024, .f32⟩
  | .hbm, ⟨2, _⟩ => ⟨S1024x384, .f32⟩
  | .hbm, ⟨3, _⟩ => ⟨S8192x384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S8192x384 : Shape := ⟨2, ![8192, 384]⟩
abbrev S8192x1024 : Shape := ⟨2, ![8192, 1024]⟩
abbrev S384x1024 : Shape := ⟨2, ![384, 1024]⟩
abbrev S1024x384 : Shape := ⟨2, ![1024, 384]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S8192x384, .bf16⟩
  | .hbm, ⟨3, _⟩ => ⟨S8192x1024, .bf16⟩
  | .hbm, ⟨4, _⟩ => ⟨S384x1024, .f32⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .f32⟩
  | .local _ .vmem, ⟨5, _⟩ => ⟨S384x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x384 : Shape := ⟨2, ![8192, 384]⟩
abbrev S8192x1024 : Shape := ⟨2, ![8192, 1024]⟩
abbrev S384x8192 : Shape := ⟨2, ![384, 8192]⟩
abbrev S384x1024 : Shape := ⟨2, ![384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S384x8192, .f32⟩
  | .hbm, ⟨3, _⟩ => ⟨S384x1024, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S8192x1024 : Shape := ⟨2, ![8192, 1024]⟩
abbrev S256x1024 : Shape := ⟨2, ![256, 1024]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S8192x1024, .bf16⟩
  | .hbm, ⟨3, _⟩ => ⟨S256x1024, .bf16⟩
  | .hbm, ⟨4, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S256x1024 : Shape := ⟨2, ![256, 1024]⟩
abbrev S1024x256 : Shape := ⟨2, ![1024, 256]⟩
abbrev S8192x256 : Shape := ⟨2, ![8192, 256]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1024x256, .f32⟩
  | .hbm, ⟨3, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x256 : Shape := ⟨2, ![8192, 256]⟩
abbrev S8192x1024 : Shape := ⟨2, ![8192, 1024]⟩
abbrev S256x8192 : Shape := ⟨2, ![256, 8192]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S256x8192, .f32⟩
  | .hbm, ⟨3, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x2816, .bf16⟩
  | .hbm, ⟨3, _⟩ => ⟨S2816x1024, .bf16⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x384, .bf16⟩
  | .hbm, ⟨3, _⟩ => ⟨S384x1024, .bf16⟩
  | .hbm, ⟨4, _⟩ => ⟨S8192x1024, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x384 : Shape := ⟨2, ![8192, 384]⟩
abbrev S384x1024 : Shape := ⟨2, ![384, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x256, .bf16⟩
  | .hbm, ⟨3, _⟩ => ⟨S256x1024, .bf16⟩
  | .hbm, ⟨4, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S1024x2304 : Shape := ⟨2, ![1024, 2304]⟩
abbrev S256x2304 : Shape := ⟨2, ![256, 2304]⟩

abbrev nBuf : Space → Nat
  | .hbm => 7
  | .vmem => 14
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S1024x2304 : Shape := ⟨2, ![1024, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S_, .f32⟩
  | .hbm, ⟨5, _⟩ => ⟨S1024x2304, .f32⟩
  | .hbm, ⟨6, _⟩ => ⟨S1024x2304, .f32⟩
  | .hbm, ⟨7, _⟩ => ⟨S_, .f32⟩
  | .hbm, ⟨8, _⟩ => ⟨S1024x2304, .f32⟩
  | .hbm, ⟨9, _⟩ => ⟨S1024x2304, .f32⟩
  | .hbm, ⟨10, _⟩ => ⟨S1024x2304, .f32⟩
  | .hbm, ⟨11, _⟩ => ⟨S_, .f32⟩
  | .hbm, ⟨12, _⟩ => ⟨S1024x2304, .f32⟩
  | .hbm, ⟨13, _⟩ => ⟨S1024x2304, .f32⟩
  | .hbm, ⟨14, _⟩ => ⟨S1024x2304, .f32⟩
  | .hbm, ⟨15, _⟩ => ⟨S_, .f32⟩
  | .hbm, ⟨16, _⟩ => ⟨S1024x2304, .f32⟩
  | .hbm, ⟨17, _⟩ => ⟨S1024x2304, .f32⟩
  | .hbm, ⟨18, _⟩ => ⟨S1024x2304, .f32⟩
  | .hbm, ⟨19, _⟩ => ⟨S_, .f32⟩
  | .hbm, ⟨20, _⟩ => ⟨S1024x2304, .f32⟩
  | .hbm, ⟨21, _⟩ => ⟨S1024x2304, .f32⟩
  | .hbm, ⟨22, _⟩ => ⟨S_, .f32⟩
  | .hbm, ⟨23, _⟩ => ⟨S1024x2304, .f32⟩
  | .hbm, ⟨24, _⟩ => ⟨S1024x2304, .f32⟩
  | .hbm, ⟨25, _⟩ => ⟨S1024x2304, .f32⟩
  | .hbm, ⟨26, _⟩ => ⟨S_, .f32⟩
  | .hbm, ⟨27, _⟩ => ⟨S1024x2304, .f32⟩
  | .hbm, ⟨28, _⟩ => ⟨S1024x2304, .f32⟩
  | .hbm, ⟨29, _⟩ => ⟨S1024x2304, .f32⟩
  | .hbm, ⟨30, _⟩ => ⟨S_, .f32⟩
  | .hbm, ⟨31, _⟩ => ⟨S1024x2304, .f32⟩
  | .hbm, ⟨32, _⟩ => ⟨S1024x2304, .f32⟩
  | .hbm, ⟨33, _⟩ => ⟨S1024x2304, .f32⟩
  | .hbm, ⟨34, _⟩ => ⟨S_, .f32⟩
  | .hbm, ⟨35, _⟩ => ⟨S1024x2304, .f32⟩
  | .hbm, ⟨36, _⟩ => ⟨S1024x2304, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1024x690 : Shape := ⟨2, ![1024, 690]⟩
abbrev S256x690 : Shape := ⟨2, ![256, 690]⟩

abbrev nBuf : Space → Nat
  | .hbm => 7
  | .vmem => 14
  | .smem => 0
  | _ => 0

abbrev bufTy : (tb : Table) → Fin (tcTables nBuf tb) → BufTy
  | .hbm, ⟨0, _⟩ => ⟨S1024x690, .f32⟩
  | .hbm, ⟨1, _⟩ => ⟨S1024x690, .f32⟩
  | .hbm, ⟨2, _⟩ => ⟨S1024x690, .f32⟩
  | .hbm, ⟨3, _⟩ => ⟨S1024x690, .f32⟩
  | .hbm, ⟨4, _⟩ => ⟨S1024x690, .f32⟩
  | .hbm, ⟨5, _⟩ => ⟨S1024x690, .f32⟩
  | .hbm, ⟨6, _⟩ => ⟨S1024x690, .f32⟩
  | .local _ .vmem, ⟨0, _⟩ => ⟨S256x690, .f32⟩
  | .local _ .vmem, ⟨1, _⟩ => ⟨S256x690, .f32⟩
  | .local _ .vmem, ⟨2, _⟩ => ⟨S256x690, .f32⟩
  | .local _ .vmem, ⟨3, _⟩ => ⟨S256x690, .f32⟩
  | .local _ .vmem, ⟨4, _⟩ => ⟨S256x690, .f32⟩
  | .local _ .vmem, ⟨5, _⟩ => ⟨S256x690, .f32⟩
  | .local _ .vmem, ⟨6, _⟩ => ⟨S256x690, .f32⟩
  | .local _ .vmem, ⟨7, _⟩ => ⟨S256x690, .f32⟩
  | .local _ .vmem, ⟨8, _⟩ => ⟨S256x690, .f32⟩
  | .local _ .vmem, ⟨9, _⟩ => ⟨S256x690, .f32⟩
  | .local _ .vmem, ⟨10, _⟩ => ⟨S256x690, .f32⟩
  | .local _ .vmem, ⟨11, _⟩ => ⟨S256x690, .f32⟩
  | .local _ .vmem, ⟨12, _⟩ => ⟨S256x690, .f32⟩
  | .local _ .vmem, ⟨13, _⟩ => ⟨S256x690, .f32⟩
  | _, _ => ⟨S1024x690, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x690 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x690 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x690 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x690 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x690 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x690 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x690 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S1024x690 : Shape := ⟨2, ![1024, 690]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x690, .f32⟩
  | .hbm, ⟨1, _⟩ => ⟨S1024x690, .f32⟩
  | .hbm, ⟨2, _⟩ => ⟨S1024x690, .f32⟩
  | .hbm, ⟨3, _⟩ => ⟨S1024x690, .f32⟩
  | .hbm, ⟨4, _⟩ => ⟨S_, .f32⟩
  | .hbm, ⟨5, _⟩ => ⟨S1024x690, .f32⟩
  | .hbm, ⟨6, _⟩ => ⟨S1024x690, .f32⟩
  | .hbm, ⟨7, _⟩ => ⟨S_, .f32⟩
  | .hbm, ⟨8, _⟩ => ⟨S1024x690, .f32⟩
  | .hbm, ⟨9, _⟩ => ⟨S1024x690, .f32⟩
  | .hbm, ⟨10, _⟩ => ⟨S1024x690, .f32⟩
  | .hbm, ⟨11, _⟩ => ⟨S_, .f32⟩
  | .hbm, ⟨12, _⟩ => ⟨S1024x690, .f32⟩
  | .hbm, ⟨13, _⟩ => ⟨S1024x690, .f32⟩
  | .hbm, ⟨14, _⟩ => ⟨S1024x690, .f32⟩
  | .hbm, ⟨15, _⟩ => ⟨S_, .f32⟩
  | .hbm, ⟨16, _⟩ => ⟨S1024x690, .f32⟩
  | .hbm, ⟨17, _⟩ => ⟨S1024x690, .f32⟩
  | .hbm, ⟨18, _⟩ => ⟨S1024x690, .f32⟩
  | .hbm, ⟨19, _⟩ => ⟨S_, .f32⟩
  | .hbm, ⟨20, _⟩ => ⟨S1024x690, .f32⟩
  | .hbm, ⟨21, _⟩ => ⟨S1024x690, .f32⟩
  | .hbm, ⟨22, _⟩ => ⟨S_, .f32⟩
  | .hbm, ⟨23, _⟩ => ⟨S1024x690, .f32⟩
  | .hbm, ⟨24, _⟩ => ⟨S1024x690, .f32⟩
  | .hbm, ⟨25, _⟩ => ⟨S1024x690, .f32⟩
  | .hbm, ⟨26, _⟩ => ⟨S_, .f32⟩
  | .hbm, ⟨27, _⟩ => ⟨S1024x690, .f32⟩
  | .hbm, ⟨28, _⟩ => ⟨S1024x690, .f32⟩
  | .hbm, ⟨29, _⟩ => ⟨S1024x690, .f32⟩
  | .hbm, ⟨30, _⟩ => ⟨S_, .f32⟩
  | .hbm, ⟨31, _⟩ => ⟨S1024x690, .f32⟩
  | .hbm, ⟨32, _⟩ => ⟨S1024x690, .f32⟩
  | .hbm, ⟨33, _⟩ => ⟨S1024x690, .f32⟩
  | .hbm, ⟨34, _⟩ => ⟨S_, .f32⟩
  | .hbm, ⟨35, _⟩ => ⟨S1024x690, .f32⟩
  | .hbm, ⟨36, _⟩ => ⟨S1024x690, .f32⟩
  | _, _ => ⟨S1024x690, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S384x192 : Shape := ⟨2, ![384, 192]⟩
abbrev S192x192 : Shape := ⟨2, ![192, 192]⟩

abbrev nBuf : Space → Nat
  | .hbm => 7
  | .vmem => 14
  | .smem => 0
  | _ => 0

abbrev bufTy : (tb : Table) → Fin (tcTables nBuf tb) → BufTy
  | .hbm, ⟨0, _⟩ => ⟨S384x192, .f32⟩
  | .hbm, ⟨1, _⟩ => ⟨S384x192, .f32⟩
  | .hbm, ⟨2, _⟩ => ⟨S384x192, .f32⟩
  | .hbm, ⟨3, _⟩ => ⟨S384x192, .f32⟩
  | .hbm, ⟨4, _⟩ => ⟨S384x192, .f32⟩
  | .hbm, ⟨5, _⟩ => ⟨S384x192, .f32⟩
  | .hbm, ⟨6, _⟩ => ⟨S384x192, .f32⟩
  | .local _ .vmem, ⟨0, _⟩ => ⟨S192x192, .f32⟩
  | .local _ .vmem, ⟨1, _⟩ => ⟨S192x192, .f32⟩
  | .local _ .vmem, ⟨2, _⟩ => ⟨S192x192, .f32⟩
  | .local _ .vmem, ⟨3, _⟩ => ⟨S192x192, .f32⟩
  | .local _ .vmem, ⟨4, _⟩ => ⟨S192x192, .f32⟩
  | .local _ .vmem, ⟨5, _⟩ => ⟨S192x192, .f32⟩
  | .local _ .vmem, ⟨6, _⟩ => ⟨S192x192, .f32⟩
  | .local _ .vmem, ⟨7, _⟩ => ⟨S192x192, .f32⟩
  | .local _ .vmem, ⟨8, _⟩ => ⟨S192x192, .f32⟩
  | .local _ .vmem, ⟨9, _⟩ => ⟨S192x192, .f32⟩
  | .local _ .vmem, ⟨10, _⟩ => ⟨S192x192, .f32⟩
  | .local _ .vmem, ⟨11, _⟩ => ⟨S192x192, .f32⟩
  | .local _ .vmem, ⟨12, _⟩ => ⟨S192x192, .f32⟩
  | .local _ .vmem, ⟨13, _⟩ => ⟨S192x192, .f32⟩
  | _, _ => ⟨S384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S384x192 : Shape := ⟨2, ![384, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x192, .f32⟩
  | .hbm, ⟨1, _⟩ => ⟨S384x192, .f32⟩
  | .hbm, ⟨2, _⟩ => ⟨S384x192, .f32⟩
  | .hbm, ⟨3, _⟩ => ⟨S384x192, .f32⟩
  | .hbm, ⟨4, _⟩ => ⟨S_, .f32⟩
  | .hbm, ⟨5, _⟩ => ⟨S384x192, .f32⟩
  | .hbm, ⟨6, _⟩ => ⟨S384x192, .f32⟩
  | .hbm, ⟨7, _⟩ => ⟨S_, .f32⟩
  | .hbm, ⟨8, _⟩ => ⟨S384x192, .f32⟩
  | .hbm, ⟨9, _⟩ => ⟨S384x192, .f32⟩
  | .hbm, ⟨10, _⟩ => ⟨S384x192, .f32⟩
  | .hbm, ⟨11, _⟩ => ⟨S_, .f32⟩
  | .hbm, ⟨12, _⟩ => ⟨S384x192, .f32⟩
  | .hbm, ⟨13, _⟩ => ⟨S384x192, .f32⟩
  | .hbm, ⟨14, _⟩ => ⟨S384x192, .f32⟩
  | .hbm, ⟨15, _⟩ => ⟨S_, .f32⟩
  | .hbm, ⟨16, _⟩ => ⟨S384x192, .f32⟩
  | .hbm, ⟨17, _⟩ => ⟨S384x192, .f32⟩
  | .hbm, ⟨18, _⟩ => ⟨S384x192, .f32⟩
  | .hbm, ⟨19, _⟩ => ⟨S_, .f32⟩
  | .hbm, ⟨20, _⟩ => ⟨S384x192, .f32⟩
  | .hbm, ⟨21, _⟩ => ⟨S384x192, .f32⟩
  | .hbm, ⟨22, _⟩ => ⟨S_, .f32⟩
  | .hbm, ⟨23, _⟩ => ⟨S384x192, .f32⟩
  | .hbm, ⟨24, _⟩ => ⟨S384x192, .f32⟩
  | .hbm, ⟨25, _⟩ => ⟨S384x192, .f32⟩
  | .hbm, ⟨26, _⟩ => ⟨S_, .f32⟩
  | .hbm, ⟨27, _⟩ => ⟨S384x192, .f32⟩
  | .hbm, ⟨28, _⟩ => ⟨S384x192, .f32⟩
  | .hbm, ⟨29, _⟩ => ⟨S384x192, .f32⟩
  | .hbm, ⟨30, _⟩ => ⟨S_, .f32⟩
  | .hbm, ⟨31, _⟩ => ⟨S384x192, .f32⟩
  | .hbm, ⟨32, _⟩ => ⟨S384x192, .f32⟩
  | .hbm, ⟨33, _⟩ => ⟨S384x192, .f32⟩
  | .hbm, ⟨34, _⟩ => ⟨S_, .f32⟩
  | .hbm, ⟨35, _⟩ => ⟨S384x192, .f32⟩
  | .hbm, ⟨36, _⟩ => ⟨S384x192, .f32⟩
  | _, _ => ⟨S384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S8192x5632 : Shape := ⟨2, ![8192, 5632]⟩
abbrev S8192x2816 : Shape := ⟨2, ![8192, 2816]⟩
abbrev S256x2816 : Shape := ⟨2, ![256, 2816]⟩
abbrev S256x5632 : Shape := ⟨2, ![256, 5632]⟩

abbrev nBuf : Space → Nat
  | .hbm => 5
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S8192x5632, .bf16⟩
  | .hbm, ⟨3, _⟩ => ⟨S8192x2816, .bf16⟩
  | .hbm, ⟨4, _⟩ => ⟨S8192x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x5632, .bf16⟩
  | .local _ .vmem, ⟨7, _⟩ => ⟨S256x5632, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference26Ideal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x5632, .f32⟩
  | .hbm, ⟨25, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Kernel27.lean ====
abbrev S8192x5632 : Shape := ⟨2, ![8192, 5632]⟩
abbrev S8192x2816 : Shape := ⟨2, ![8192, 2816]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S8192x5632, .bf16⟩
  | .hbm, ⟨2, _⟩ => ⟨S8192x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S_, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Kernel28.lean ====
abbrev S168x128 : Shape := ⟨2, ![168, 128]⟩

abbrev nBuf : Space → Nat
  | .hbm => 7
  | .vmem => 7
  | .smem => 0
  | _ => 0

abbrev bufTy : (tb : Table) → Fin (tcTables nBuf tb) → BufTy
  | .hbm, ⟨0, _⟩ => ⟨S168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S168x128, .f32⟩
  | .hbm, ⟨5, _⟩ => ⟨S168x128, .f32⟩
  | .hbm, ⟨6, _⟩ => ⟨S168x128, .f32⟩
  | .local _ .vmem, ⟨0, _⟩ => ⟨S168x128, .f32⟩
  | .local _ .vmem, ⟨1, _⟩ => ⟨S168x128, .f32⟩
  | .local _ .vmem, ⟨2, _⟩ => ⟨S168x128, .f32⟩
  | .local _ .vmem, ⟨3, _⟩ => ⟨S168x128, .f32⟩
  | .local _ .vmem, ⟨4, _⟩ => ⟨S168x128, .f32⟩
  | .local _ .vmem, ⟨5, _⟩ => ⟨S168x128, .f32⟩
  | .local _ .vmem, ⟨6, _⟩ => ⟨S168x128, .f32⟩
  | _, _ => ⟨S168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S168x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S168x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S168x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S168x128 : Shape := ⟨2, ![168, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S_, .f32⟩
  | .hbm, ⟨5, _⟩ => ⟨S168x128, .f32⟩
  | .hbm, ⟨6, _⟩ => ⟨S168x128, .f32⟩
  | .hbm, ⟨7, _⟩ => ⟨S_, .f32⟩
  | .hbm, ⟨8, _⟩ => ⟨S168x128, .f32⟩
  | .hbm, ⟨9, _⟩ => ⟨S168x128, .f32⟩
  | .hbm, ⟨10, _⟩ => ⟨S168x128, .f32⟩
  | .hbm, ⟨11, _⟩ => ⟨S_, .f32⟩
  | .hbm, ⟨12, _⟩ => ⟨S168x128, .f32⟩
  | .hbm, ⟨13, _⟩ => ⟨S168x128, .f32⟩
  | .hbm, ⟨14, _⟩ => ⟨S168x128, .f32⟩
  | .hbm, ⟨15, _⟩ => ⟨S_, .f32⟩
  | .hbm, ⟨16, _⟩ => ⟨S168x128, .f32⟩
  | .hbm, ⟨17, _⟩ => ⟨S168x128, .f32⟩
  | .hbm, ⟨18, _⟩ => ⟨S168x128, .f32⟩
  | .hbm, ⟨19, _⟩ => ⟨S_, .f32⟩
  | .hbm, ⟨20, _⟩ => ⟨S168x128, .f32⟩
  | .hbm, ⟨21, _⟩ => ⟨S168x128, .f32⟩
  | .hbm, ⟨22, _⟩ => ⟨S_, .f32⟩
  | .hbm, ⟨23, _⟩ => ⟨S168x128, .f32⟩
  | .hbm, ⟨24, _⟩ => ⟨S168x128, .f32⟩
  | .hbm, ⟨25, _⟩ => ⟨S168x128, .f32⟩
  | .hbm, ⟨26, _⟩ => ⟨S_, .f32⟩
  | .hbm, ⟨27, _⟩ => ⟨S168x128, .f32⟩
  | .hbm, ⟨28, _⟩ => ⟨S168x128, .f32⟩
  | .hbm, ⟨29, _⟩ => ⟨S168x128, .f32⟩
  | .hbm, ⟨30, _⟩ => ⟨S_, .f32⟩
  | .hbm, ⟨31, _⟩ => ⟨S168x128, .f32⟩
  | .hbm, ⟨32, _⟩ => ⟨S168x128, .f32⟩
  | .hbm, ⟨33, _⟩ => ⟨S168x128, .f32⟩
  | .hbm, ⟨34, _⟩ => ⟨S_, .f32⟩
  | .hbm, ⟨35, _⟩ => ⟨S168x128, .f32⟩
  | .hbm, ⟨36, _⟩ => ⟨S168x128, .f32⟩
  | _, _ => ⟨S168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S8x1024 : Shape := ⟨2, ![8, 1024]⟩
abbrev S8x2304 : Shape := ⟨2, ![8, 2304]⟩
abbrev S1024x8 : Shape := ⟨2, ![1024, 8]⟩
abbrev S_ : Shape := ⟨0, ![]⟩
abbrev S1024x128 : Shape := ⟨2, ![1024, 128]⟩
abbrev S1024x2304 : Shape := ⟨2, ![1024, 2304]⟩
abbrev S256x128 : Shape := ⟨2, ![256, 128]⟩
abbrev S256x2304 : Shape := ⟨2, ![256, 2304]⟩
abbrev S256x1 : Shape := ⟨2, ![256, 1]⟩
abbrev S1x2304 : Shape := ⟨2, ![1, 2304]⟩

abbrev nBuf : Space → Nat
  | .hbm => 7
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S1024x8, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1024x2304, .f32⟩
  | .local _ .vmem, ⟨0, _⟩ => ⟨S256x128, .f32⟩
  | .local _ .vmem, ⟨1, _⟩ => ⟨S256x128, .f32⟩
  | .local _ .vmem, ⟨2, _⟩ => ⟨S8x2304, .f32⟩
  | .local _ .vmem, ⟨3, _⟩ => ⟨S256x2304, .f32⟩
  | .local _ .vmem, ⟨4, _⟩ => ⟨S256x2304, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference29Ideal.lean ====
abbrev S8x1024 : Shape := ⟨2, ![8, 1024]⟩
abbrev S8x2304 : Shape := ⟨2, ![8, 2304]⟩
abbrev S1024x8 : Shape := ⟨2, ![1024, 8]⟩
abbrev S1024x2304 : Shape := ⟨2, ![1024, 2304]⟩

abbrev nBuf : Space → Nat
  | .hbm => 4
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S1024x8, .f32⟩
  | .hbm, ⟨3, _⟩ => ⟨S1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel30.lean ====
abbrev S8x200x128 : Shape := ⟨3, ![8, 200, 128]⟩
abbrev S200x128 : Shape := ⟨2, ![200, 128]⟩
abbrev S1x200x128 : Shape := ⟨3, ![1, 200, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x200x128, .f32⟩
  | .hbm, ⟨1, _⟩ => ⟨S200x128, .f32⟩
  | .local _ .vmem, ⟨0, _⟩ => ⟨S8x200x128, .f32⟩
  | .local _ .vmem, ⟨1, _⟩ => ⟨S200x128, .f32⟩
  | _, _ => ⟨S8x200x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference30Ideal.lean ====
abbrev S8x200x128 : Shape := ⟨3, ![8, 200, 128]⟩
abbrev S_ : Shape := ⟨0, ![]⟩
abbrev S200x128 : Shape := ⟨2, ![200, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x200x128, .f32⟩
  | .hbm, ⟨1, _⟩ => ⟨S_, .f32⟩
  | .hbm, ⟨2, _⟩ => ⟨S200x128, .f32⟩
  | _, _ => ⟨S8x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel31.lean ====
abbrev S8192x1024 : Shape := ⟨2, ![8192, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference31Ideal.lean ====
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel32.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference32Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.Products.FeedInWeights.lean ====
/- The gradient of the feed-forward's first product h @ w_in in w_in: the array the kernel leaves is the
   reference's product. -/
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pipeline.ReadBack

@[expose] public section

set_option maxRecDepth 16384

noncomputable section

namespace Cert.Kernel2Ideal.Product

open Idealize.ShloMosaic Idealize.ShloMosaic.TcCoe Idealize.ShloMosaic.StableHlo Idealize.SL.Sem Cert.Kernel2Ideal Cert.Kernel2Ideal.Gen

/-- The product, as a sum over 8192 places. -/
def product (a : FVec Ideal S8192x1024 .f32) (b : FVec Ideal S8192x5632 .f32) : FVec Ideal S1024x5632 .bf16 :=
  fun y => ∑ x : Fin 8192, a (ix2 x (y 0)) * b (ix2 x (y 1))

/-- It is the reference's product. -/
theorem reference_eq (a : FVec Ideal S8192x1024 .f32) (b : FVec Ideal S8192x5632 .f32) (ht : Cert.Reference2Ideal.S8192x1024.Transposes [1, 0] Cert.Reference2Ideal.S1024x8192) (hb : FTy.bits .bf16 < FTy.bits .f32) :
    truncf (F := Ideal) .bf16 (Host.dotGeneral (F := Ideal) (φ₁ := .f32) (φ₂ := .f32) Cert.Reference2Ideal.dot_S1024x8192_S8192x5632_S1024x5632_1_0_0_1_n_n none (transpose Cert.Reference2Ideal.S1024x8192 [1, 0] a ht) b) hb = product a b := by
  funext y
  pointwise [product]

variable (m : (ℓ : Loc nD τ sig) → Buf (Elt Ideal) ℓ) (c : Dev nD) (t : Fin cfg0.N)

/-- The first argument. -/
abbrev argA : FVec Ideal S8192x1024 .f32 := m ((c.tc : Thread nD τ).loc main_arg0)

/-- The second argument. -/
abbrev argB : FVec Ideal S8192x5632 .f32 := m ((c.tc : Thread nD τ).loc main_arg1)

theorem step_lt (t : Fin cfg0.N) : t.val < 32 := t.isLt

/-- The block each window takes at a step. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The result's block is written back at the last step of its run. -/
theorem flush : ∀ t : Fin cfg0.N, (cfg0.win 2).flush t = true → t.val % 8 = 7 := (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (x : Fin 1024) (r : Fin 1024) : (iblk m c 0 t : Vec Ideal S1024x1024 .bf16) (ix2 x r) = argA m c (ix2 ⟨t.val % 8 * 1024 + x.val, by have := step_lt t; omega⟩ r) := by
  have e : (iblk m c 0 t : Vec Ideal S1024x1024 .bf16) (ix2 x r) = (V m c main_v0 : Vec Ideal S8192x1024 .bf16) (ix2 ⟨t.val % 8 * 1024 + x.val, by have := step_lt t; omega⟩ r) := by
    blk_ext [iblk, idx t]
  rw [e, V_a]
  pointwise

/-- A step's block of it, place by place. -/
theorem blk_b (x : Fin 1024) (s : Fin 1408) : (iblk m c 1 t : Vec Ideal S1024x1408 .bf16) (ix2 x s) = argB m c (ix2 ⟨t.val % 8 * 1024 + x.val, by have := step_lt t; omega⟩ ⟨t.val / 8 * 1408 + s.val, by have := step_lt t; omega⟩) := by
  have e : (iblk m c 1 t : Vec Ideal S1024x1408 .bf16) (ix2 x s) = (V m c main_v1 : Vec Ideal S8192x5632 .bf16) (ix2 ⟨t.val % 8 * 1024 + x.val, by have := step_lt t; omega⟩ ⟨t.val / 8 * 1408 + s.val, by have := step_lt t; omega⟩) := by
    blk_ext [iblk, idx t]
  rw [e, V_b]
  pointwise

/-- What a step adds. -/
def term (y : S1024x1408.Idx) : EReal := ∑ x : Fin 1024,
  argA m c (ix2 ⟨t.val % 8 * 1024 + x.val, by have := step_lt t; omega⟩ (y 0))
    * argB m c (ix2 ⟨t.val % 8 * 1024 + x.val, by have := step_lt t; omega⟩ ⟨t.val / 8 * 1408 + (y 1).val, by have := step_lt t; have : (y 1).val < 1408 := (y 1).isLt; omega⟩)

theorem pay_zero (y : S1024x1408.Idx) : k0_pay1 (F := Ideal) y = 0 := by pointwise [k0_pay1]

theorem pay_at (A : FVec Ideal S1024x1024 .bf16) (B : FVec Ideal S1024x1408 .bf16) (acc : FVec Ideal S1024x1408 .f32) (y : S1024x1408.Idx) :
    k0_pay2 (F := Ideal) A B acc y = acc y + ∑ x : Fin 1024, A (ix2 x (y 0)) * B (ix2 x (y 1)) := by
  pointwise [k0_pay2]

/-- A step adds its term to the accumulator. -/
theorem pay_step (acc : Vec Ideal S1024x1408 .f32) (y : S1024x1408.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t x (y 0)) (blk_b m c t x (y 1))))

/-- The first step of a run sets the accumulator to its term. -/
theorem acc_first (h : t.val % 8 = 0) (y : S1024x1408.Idx) : (outsAt0 m c t.val t.isLt).2 y = 0 + term m c t y := by
  have e : (outsAt0 m c t.val t.isLt).2 = k0_pay2 (iblk m c 0 t) (iblk m c 1 t) (k0_pay1 (F := Ideal)) := by
    rw [outsAt0_A m c t h (by omega)]
    frame_out
  rw [e, pay_step, pay_zero]

/-- A later step adds its term to what the step before left. -/
theorem acc_next (h : ¬t.val % 8 = 0) (y : S1024x1408.Idx) : (outsAt0 m c t.val t.isLt).2 y
    = (outsAt0 m c (t.val - 1) (Nat.lt_of_le_of_lt (Nat.sub_le _ _) t.isLt)).2 y + term m c t y := by
  have e : (outsAt0 m c t.val t.isLt).2 = k0_pay2 (iblk m c 0 t) (iblk m c 1 t) (outsAt0 m c (t.val - 1) (Nat.lt_of_le_of_lt (Nat.sub_le _ _) t.isLt)).2 := by
    by_cases h1 : t.val % 8 = 7
    · rw [outsAt0_C m c t h h1]
      frame_out
      simp only [read_unread_whole]
    · rw [outsAt0_B m c t h h1]
      frame_out
      simp only [read_unread_whole]
  rw [e, pay_step]

/-- The last step of a run stores the accumulator. -/
theorem out_last (h : t.val % 8 = 7) (y : S1024x1408.Idx) : (outsAt0 m c t.val t.isLt).1 y = (outsAt0 m c t.val t.isLt).2 y := by
  have e : (outsAt0 m c t.val t.isLt).1 = k0_pay3 (outsAt0 m c t.val t.isLt).2 := by
    rw [outsAt0_C m c t (by omega) h]
    frame_out
  rw [e]
  pointwise [k0_pay3]

/-- So a block of the result is the product's. -/
theorem out_sum (h : t.val % 8 = 7) (r : Fin 1024) (s : Fin 1408) : (outsAt0 m c t.val t.isLt).1 (ix2 r s)
    = product (argA m c) (argB m c) (ix2 r ⟨t.val / 8 * 1408 + s.val, by have := step_lt t; omega⟩) := by
  rw [out_last m c t h]
  refine (Pipeline.eq_sum_fin_of_reset_step_apply_of_flush (fun n h => (outsAt0 m c n h).2) 8 (fun _ => (0 : EReal)) _ (acc_first m c)
    (acc_next m c) t h (ix2 r s)).trans ?_
  rw [zero_add]
  refine Fin.sum_mul_add_congr (n := 1024) fun z x hl => ?_
  have e1 : (8 * (t.val / 8) + z.val) % 8 = z.val := by have := step_lt t; have := z.isLt; omega
  have e3 : (8 * (t.val / 8) + z.val) / 8 = t.val / 8 := by omega
  simp only [e1, e3]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (flush t hf) (y 0) (y 1)).trans ?_)
  generalize product (argA m c) (argB m c) = X
  blk_ext [idx t]

end Cert.Kernel2Ideal.Product
-- ==== Proof.Products.FeedIn.lean ====
/- The gradient of the feed-forward's first product h @ w_in in h: the array the kernel leaves is the
   reference's product. -/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pipeline.ReadBack

@[expose] public section

set_option maxRecDepth 16384

noncomputable section

namespace Cert.Kernel3Ideal.Product

open Idealize.ShloMosaic Idealize.ShloMosaic.TcCoe Idealize.ShloMosaic.StableHlo Idealize.SL.Sem Cert.Kernel3Ideal Cert.Kernel3Ideal.Gen

/-- The product, as a sum over 5632 places. -/
def product (a : FVec Ideal S8192x5632 .f32) (b : FVec Ideal S1024x5632 .f32) : FVec Ideal S8192x1024 .f32 :=
  fun y => ∑ x : Fin 5632, a (ix2 (y 0) x) * b (ix2 (y 1) x)

/-- It is the reference's product. -/
theorem reference_eq (a : FVec Ideal S8192x5632 .f32) (b : FVec Ideal S1024x5632 .f32) (ht : Cert.Reference3Ideal.S1024x5632.Transposes [1, 0] Cert.Reference3Ideal.S5632x1024) :
    Host.dotGeneral (F := Ideal) (φ₁ := .f32) (φ₂ := .f32) Cert.Reference3Ideal.dot_S8192x5632_S5632x1024_S8192x1024_1_0_0_1_n_n none a (transpose Cert.Reference3Ideal.S5632x1024 [1, 0] b ht) = product a b := by
  funext y
  pointwise [product]

variable (m : (ℓ : Loc nD τ sig) → Buf (Elt Ideal) ℓ) (c : Dev nD) (t : Fin cfg0.N)

/-- The first argument. -/
abbrev argA : FVec Ideal S8192x5632 .f32 := m ((c.tc : Thread nD τ).loc main_arg0)

/-- The second argument. -/
abbrev argB : FVec Ideal S1024x5632 .f32 := m ((c.tc : Thread nD τ).loc main_arg1)

theorem step_lt (t : Fin cfg0.N) : t.val < 32 := t.isLt

/-- The block each window takes at a step. -/
theorem idx : ∀ t : Fin cfg0.N, win0_0.index t = ![t.val / 4, t.val % 4] ∧ win0_1.index t = ![0, t.val % 4] ∧ win0_2.index t = ![t.val / 4, 0] :=
  (by decide +kernel : ∀ t : Fin grid0.N, _)

/-- The result's block is written back at the last step of its run. -/
theorem flush : ∀ t : Fin cfg0.N, (cfg0.win 2).flush t = true → t.val % 4 = 3 := (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (r : Fin 1024) (x : Fin 1408) : (iblk m c 0 t : Vec Ideal S1024x1408 .bf16) (ix2 r x) = argA m c (ix2 ⟨t.val / 4 * 1024 + r.val, by have := step_lt t; omega⟩ ⟨t.val % 4 * 1408 + x.val, by have := step_lt t; omega⟩) := by
  have e : (iblk m c 0 t : Vec Ideal S1024x1408 .bf16) (ix2 r x) = (V m c main_v0 : Vec Ideal S8192x5632 .bf16) (ix2 ⟨t.val / 4 * 1024 + r.val, by have := step_lt t; omega⟩ ⟨t.val % 4 * 1408 + x.val, by have := step_lt t; omega⟩) := by
    blk_ext [iblk, idx t]
  rw [e, V_a]
  pointwise

/-- A step's block of it, place by place. -/
theorem blk_b (s : Fin 1024) (x : Fin 1408) : (iblk m c 1 t : Vec Ideal S1024x1408 .bf16) (ix2 s x) = argB m c (ix2 s ⟨t.val % 4 * 1408 + x.val, by have := step_lt t; omega⟩) := by
  have e : (iblk m c 1 t : Vec Ideal S1024x1408 .bf16) (ix2 s x) = (V m c main_v1 : Vec Ideal S1024x5632 .bf16) (ix2 s ⟨t.val % 4 * 1408 + x.val, by have := step_lt t; omega⟩) := by
    blk_ext [iblk, idx t]
  rw [e, V_b]
  pointwise

/-- What a step adds. -/
def term (y : S1024x1024.Idx) : EReal := ∑ x : Fin 1408,
  argA m c (ix2 ⟨t.val / 4 * 1024 + (y 0).val, by have := step_lt t; have : (y 0).val < 1024 := (y 0).isLt; omega⟩ ⟨t.val % 4 * 1408 + x.val, by have := step_lt t; omega⟩)
    * argB m c (ix2 (y 1) ⟨t.val % 4 * 1408 + x.val, by have := step_lt t; omega⟩)

theorem pay_zero (y : S1024x1024.Idx) : k0_pay1 (F := Ideal) y = 0 := by pointwise [k0_pay1]

theorem pay_at (A : FVec Ideal S1024x1408 .bf16) (B : FVec Ideal S1024x1408 .bf16) (acc : FVec Ideal S1024x1024 .f32) (y : S1024x1024.Idx) :
    k0_pay2 (F := Ideal) A B acc y = acc y + ∑ x : Fin 1408, A (ix2 (y 0) x) * B (ix2 (y 1) x) := by
  pointwise [k0_pay2]

/-- A step adds its term to the accumulator. -/
theorem pay_step (acc : Vec Ideal S1024x1024 .f32) (y : S1024x1024.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t (y 0) x) (blk_b m c t (y 1) x)))

/-- The first step of a run sets the accumulator to its term. -/
theorem acc_first (h : t.val % 4 = 0) (y : S1024x1024.Idx) : (outsAt0 m c t.val t.isLt).2 y = 0 + term m c t y := by
  have e : (outsAt0 m c t.val t.isLt).2 = k0_pay2 (iblk m c 0 t) (iblk m c 1 t) (k0_pay1 (F := Ideal)) := by
    rw [outsAt0_A m c t h (by omega)]
    frame_out
  rw [e, pay_step, pay_zero]

/-- A later step adds its term to what the step before left. -/
theorem acc_next (h : ¬t.val % 4 = 0) (y : S1024x1024.Idx) : (outsAt0 m c t.val t.isLt).2 y
    = (outsAt0 m c (t.val - 1) (Nat.lt_of_le_of_lt (Nat.sub_le _ _) t.isLt)).2 y + term m c t y := by
  have e : (outsAt0 m c t.val t.isLt).2 = k0_pay2 (iblk m c 0 t) (iblk m c 1 t) (outsAt0 m c (t.val - 1) (Nat.lt_of_le_of_lt (Nat.sub_le _ _) t.isLt)).2 := by
    by_cases h1 : t.val % 4 = 3
    · rw [outsAt0_C m c t h h1]
      frame_out
      simp only [read_unread_whole]
    · rw [outsAt0_B m c t h h1]
      frame_out
      simp only [read_unread_whole]
  rw [e, pay_step]

/-- The last step of a run stores the accumulator. -/
theorem out_last (h : t.val % 4 = 3) (y : S1024x1024.Idx) : (outsAt0 m c t.val t.isLt).1 y = (outsAt0 m c t.val t.isLt).2 y := by
  have e : (outsAt0 m c t.val t.isLt).1 = (outsAt0 m c t.val t.isLt).2 := by
    rw [outsAt0_C m c t (by omega) h]
    frame_out
  rw [e]

/-- So a block of the result is the product's. -/
theorem out_sum (h : t.val % 4 = 3) (r : Fin 1024) (s : Fin 1024) : (outsAt0 m c t.val t.isLt).1 (ix2 r s)
    = product (argA m c) (argB m c) (ix2 ⟨t.val / 4 * 1024 + r.val, by have := step_lt t; omega⟩ s) := by
  rw [out_last m c t h]
  refine (Pipeline.eq_sum_fin_of_reset_step_apply_of_flush (fun n h => (outsAt0 m c n h).2) 4 (fun _ => (0 : EReal)) _ (acc_first m c)
    (acc_next m c) t h (ix2 r s)).trans ?_
  rw [zero_add]
  refine Fin.sum_mul_add_congr (n := 1408) fun z x hl => ?_
  have e1 : (4 * (t.val / 4) + z.val) % 4 = z.val := by have := step_lt t; have := z.isLt; omega
  have e2 : (4 * (t.val / 4) + z.val) / 4 = t.val / 4 := by omega
  simp only [e1, e2]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (flush t hf) (y 0) (y 1)).trans ?_)
  generalize product (argA m c) (argB m c) = X
  blk_ext [idx t]

end Cert.Kernel3Ideal.Product
-- ==== Proof.Products.FeedOut.lean ====
/- The gradient of the feed-forward's second product act @ w_out in act: the array the kernel leaves is the
   reference's product. -/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pipeline.ReadBack

@[expose] public section

set_option maxRecDepth 16384

noncomputable section

namespace Cert.Kernel4Ideal.Product

open Idealize.ShloMosaic Idealize.ShloMosaic.TcCoe Idealize.ShloMosaic.StableHlo Idealize.SL.Sem Cert.Kernel4Ideal Cert.Kernel4Ideal.Gen

/-- The product, as a sum over 1024 places. -/
def product (a : FVec Ideal S8192x1024 .f32) (b : FVec Ideal S2816x1024 .f32) : FVec Ideal S8192x2816 .bf16 :=
  fun y => ∑ x : Fin 1024, a (ix2 (y 0) x) * b (ix2 (y 1) x)

/-- It is the reference's product. -/
theorem reference_eq (a : FVec Ideal S8192x1024 .f32) (b : FVec Ideal S2816x1024 .f32) (ht : Cert.Reference4Ideal.S2816x1024.Transposes [1, 0] Cert.Reference4Ideal.S1024x2816) (hb : FTy.bits .bf16 < FTy.bits .f32) :
    truncf (F := Ideal) .bf16 (Host.dotGeneral (F := Ideal) (φ₁ := .f32) (φ₂ := .f32) Cert.Reference4Ideal.dot_S8192x1024_S1024x2816_S8192x2816_1_0_0_1_n_n none a (transpose Cert.Reference4Ideal.S1024x2816 [1, 0] b ht)) hb = product a b := by
  funext y
  pointwise [product]

variable (m : (ℓ : Loc nD τ sig) → Buf (Elt Ideal) ℓ) (c : Dev nD) (t : Fin cfg0.N)

/-- The first argument. -/
abbrev argA : FVec Ideal S8192x1024 .f32 := m ((c.tc : Thread nD τ).loc main_arg0)

/-- The second argument. -/
abbrev argB : FVec Ideal S2816x1024 .f32 := m ((c.tc : Thread nD τ).loc main_arg1)

theorem step_lt (t : Fin cfg0.N) : t.val < 16 := t.isLt

/-- The block each window takes at a step. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (r : Fin 1024) (x : Fin 1024) : (iblk m c 0 t : Vec Ideal S1024x1024 .bf16) (ix2 r x) = argA m c (ix2 ⟨t.val / 2 * 1024 + r.val, by have := step_lt t; omega⟩ x) := by
  have e : (iblk m c 0 t : Vec Ideal S1024x1024 .bf16) (ix2 r x) = (V m c main_v0 : Vec Ideal S8192x1024 .bf16) (ix2 ⟨t.val / 2 * 1024 + r.val, by have := step_lt t; omega⟩ x) := by
    blk_ext [iblk, idx t]
  rw [e, V_a]
  pointwise

/-- A step's block of it, place by place. -/
theorem blk_b (s : Fin 1408) (x : Fin 1024) : (iblk m c 1 t : Vec Ideal S1408x1024 .bf16) (ix2 s x) = argB m c (ix2 ⟨t.val % 2 * 1408 + s.val, by have := step_lt t; omega⟩ x) := by
  have e : (iblk m c 1 t : Vec Ideal S1408x1024 .bf16) (ix2 s x) = (V m c main_v1 : Vec Ideal S2816x1024 .bf16) (ix2 ⟨t.val % 2 * 1408 + s.val, by have := step_lt t; omega⟩ x) := by
    blk_ext [iblk, idx t]
  rw [e, V_b]
  pointwise

/-- What a step adds. -/
def term (y : S1024x1408.Idx) : EReal := ∑ x : Fin 1024,
  argA m c (ix2 ⟨t.val / 2 * 1024 + (y 0).val, by have := step_lt t; have : (y 0).val < 1024 := (y 0).isLt; omega⟩ x)
    * argB m c (ix2 ⟨t.val % 2 * 1408 + (y 1).val, by have := step_lt t; have : (y 1).val < 1408 := (y 1).isLt; omega⟩ x)

theorem pay_zero (y : S1024x1408.Idx) : k0_pay1 (F := Ideal) y = 0 := by pointwise [k0_pay1]

theorem pay_at (A : FVec Ideal S1024x1024 .bf16) (B : FVec Ideal S1408x1024 .bf16) (acc : FVec Ideal S1024x1408 .f32) (y : S1024x1408.Idx) :
    k0_pay2 (F := Ideal) A B acc y = acc y + ∑ x : Fin 1024, A (ix2 (y 0) x) * B (ix2 (y 1) x) := by
  pointwise [k0_pay2]

/-- A step adds its term to the accumulator. -/
theorem pay_step (acc : Vec Ideal S1024x1408 .f32) (y : S1024x1408.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t (y 0) x) (blk_b m c t (y 1) x)))

theorem pay_out (A : FVec Ideal S1024x1408 .f32) (y : S1024x1408.Idx) : k0_pay3 (F := Ideal) A y = A y := by pointwise [k0_pay3]

/-- A block of the result is the product's. -/
theorem out_sum (r : Fin 1024) (s : Fin 1408) : outsAt0 m c t (ix2 r s) = product (argA m c) (argB m c) (ix2 ⟨t.val / 2 * 1024 + r.val, by have := step_lt t; omega⟩ ⟨t.val % 2 * 1408 + s.val, by have := step_lt t; omega⟩) := by
  have e : outsAt0 m c t = k0_pay3 (k0_pay2 (iblk m c 0 t) (iblk m c 1 t) (k0_pay1 (F := Ideal))) := by
    unfold outsAt0
    frame_out
  rw [e, pay_out, pay_step, pay_zero, zero_add]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (y 0) (y 1)).trans ?_)
  generalize product (argA m c) (argB m c) = X
  blk_ext [idx t]

end Cert.Kernel4Ideal.Product
-- ==== Proof.Products.FeedOutWeights.lean ====
/- The gradient of the feed-forward's second product act @ w_out in w_out: the array the kernel leaves is the
   reference's product. -/
module

public import proofs.«01_k».proof.Proof.Gen.Kernel5Ideal.Frame
public import proofs.«01_k».proof.Proof.Gen.Reference5Ideal.Run
public import Idealize.ShloMosaic.Lib.Pipeline.ValueKit
public import Idealize.ShloMosaic.Lib.Pipeline.ReadBack

@[expose] public section

set_option maxRecDepth 16384

noncomputable section

namespace Cert.Kernel5Ideal.Product

open Idealize.ShloMosaic Idealize.ShloMosaic.TcCoe Idealize.ShloMosaic.StableHlo Idealize.SL.Sem Cert.Kernel5Ideal Cert.Kernel5Ideal.Gen

/-- The product, as a sum over 8192 places. -/
def product (a : FVec Ideal S8192x2816 .f32) (b : FVec Ideal S8192x1024 .f32) : FVec Ideal S2816x1024 .bf16 :=
  fun y => ∑ x : Fin 8192, a (ix2 x (y 0)) * b (ix2 x (y 1))

/-- It is the reference's product. -/
theorem reference_eq (a : FVec Ideal S8192x2816 .f32) (b : FVec Ideal S8192x1024 .f32) (ht : Cert.Reference5Ideal.S8192x2816.Transposes [1, 0] Cert.Reference5Ideal.S2816x8192) (hb : FTy.bits .bf16 < FTy.bits .f32) :
    truncf (F := Ideal) .bf16 (Host.dotGeneral (F := Ideal) (φ₁ := .f32) (φ₂ := .f32) Cert.Reference5Ideal.dot_S2816x8192_S8192x1024_S2816x1024_1_0_0_1_n_n none (transpose Cert.Reference5Ideal.S2816x8192 [1, 0] a ht) b) hb = product a b := by
  funext y
  pointwise [product]

variable (m : (ℓ : Loc nD τ sig) → Buf (Elt Ideal) ℓ) (c : Dev nD) (t : Fin cfg0.N)

/-- The first argument. -/
abbrev argA : FVec Ideal S8192x2816 .f32 := m ((c.tc : Thread nD τ).loc main_arg0)

/-- The second argument. -/
abbrev argB : FVec Ideal S8192x1024 .f32 := m ((c.tc : Thread nD τ).loc main_arg1)

theorem step_lt (t : Fin cfg0.N) : t.val < 16 := t.isLt

/-- The block each window takes at a step. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The result's block is written back at the last step of its run. -/
theorem flush : ∀ t : Fin cfg0.N, (cfg0.win 2).flush t = true → t.val % 8 = 7 := (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (x : Fin 1024) (r : Fin 1408) : (iblk m c 0 t : Vec Ideal S1024x1408 .bf16) (ix2 x r) = argA m c (ix2 ⟨t.val % 8 * 1024 + x.val, by have := step_lt t; omega⟩ ⟨t.val / 8 * 1408 + r.val, by have := step_lt t; omega⟩) := by
  have e : (iblk m c 0 t : Vec Ideal S1024x1408 .bf16) (ix2 x r) = (V m c main_v0 : Vec Ideal S8192x2816 .bf16) (ix2 ⟨t.val % 8 * 1024 + x.val, by have := step_lt t; omega⟩ ⟨t.val / 8 * 1408 + r.val, by have := step_lt t; omega⟩) := by
    blk_ext [iblk, idx t]
  rw [e, V_a]
  pointwise

/-- A step's block of it, place by place. -/
theorem blk_b (x : Fin 1024) (s : Fin 1024) : (iblk m c 1 t : Vec Ideal S1024x1024 .bf16) (ix2 x s) = argB m c (ix2 ⟨t.val % 8 * 1024 + x.val, by have := step_lt t; omega⟩ s) := by
  have e : (iblk m c 1 t : Vec Ideal S1024x1024 .bf16) (ix2 x s) = (V m c main_v1 : Vec Ideal S8192x1024 .bf16) (ix2 ⟨t.val % 8 * 1024 + x.val, by have := step_lt t; omega⟩ s) := by
    blk_ext [iblk, idx t]
  rw [e, V_b]
  pointwise

/-- What a step adds. -/
def term (y : S1408x1024.Idx) : EReal := ∑ x : Fin 1024,
  argA m c (ix2 ⟨t.val % 8 * 1024 + x.val, by have := step_lt t; omega⟩ ⟨t.val / 8 * 1408 + (y 0).val, by have := step_lt t; have : (y 0).val < 1408 := (y 0).isLt; omega⟩)
    * argB m c (ix2 ⟨t.val % 8 * 1024 + x.val, by have := step_lt t; omega⟩ (y 1))

theorem pay_zero (y : S1408x1024.Idx) : k0_pay1 (F := Ideal) y = 0 := by pointwise [k0_pay1]

theorem pay_at (A : FVec Ideal S1024x1408 .bf16) (B : FVec Ideal S1024x1024 .bf16) (acc : FVec Ideal S1408x1024 .f32) (y : S1408x1024.Idx) :
    k0_pay2 (F := Ideal) A B acc y = acc y + ∑ x : Fin 1024, A (ix2 x (y 0)) * B (ix2 x (y 1)) := by
  pointwise [k0_pay2]

/-- A step adds its term to the accumulator. -/
theorem pay_step (acc : Vec Ideal S1408x1024 .f32) (y : S1408x1024.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t x (y 0)) (blk_b m c t x (y 1))))

/-- The first step of a run sets the accumulator to its term. -/
theorem acc_first (h : t.val % 8 = 0) (y : S1408x1024.Idx) : (outsAt0 m c t.val t.isLt).2 y = 0 + term m c t y := by
  have e : (outsAt0 m c t.val t.isLt).2 = k0_pay2 (iblk m c 0 t) (iblk m c 1 t) (k0_pay1 (F := Ideal)) := by
    rw [outsAt0_A m c t h (by omega)]
    frame_out
  rw [e, pay_step, pay_zero]

/-- A later step adds its term to what the step before left. -/
theorem acc_next (h : ¬t.val % 8 = 0) (y : S1408x1024.Idx) : (outsAt0 m c t.val t.isLt).2 y
    = (outsAt0 m c (t.val - 1) (Nat.lt_of_le_of_lt (Nat.sub_le _ _) t.isLt)).2 y + term m c t y := by
  have e : (outsAt0 m c t.val t.isLt).2 = k0_pay2 (iblk m c 0 t) (iblk m c 1 t) (outsAt0 m c (t.val - 1) (Nat.lt_of_le_of_lt (Nat.sub_le _ _) t.isLt)).2 := by
    by_cases h1 : t.val % 8 = 7
    · rw [outsAt0_C m c t h h1]
      frame_out
      simp only [read_unread_whole]
    · rw [outsAt0_B m c t h h1]
      frame_out
      simp only [read_unread_whole]
  rw [e, pay_step]

/-- The last step of a run stores the accumulator. -/
theorem out_last (h : t.val % 8 = 7) (y : S1408x1024.Idx) : (outsAt0 m c t.val t.isLt).1 y = (outsAt0 m c t.val t.isLt).2 y := by
  have e : (outsAt0 m c t.val t.isLt).1 = k0_pay3 (outsAt0 m c t.val t.isLt).2 := by
    rw [outsAt0_C m c t (by omega) h]
    frame_out
  rw [e]
  pointwise [k0_pay3]

/-- So a block of the result is the product's. -/
theorem out_sum (h : t.val % 8 = 7) (r : Fin 1408) (s : Fin 1024) : (outsAt0 m c t.val t.isLt).1 (ix2 r s)
    = product (argA m c) (argB m c) (ix2 ⟨t.val / 8 * 1408 + r.val, by have := step_lt t; omega⟩ s) := by
  rw [out_last m c t h]
  refine (Pipeline.eq_sum_fin_of_reset_step_apply_of_flush (fun n h => (outsAt0 m c n h).2) 8 (fun _ => (0 : EReal)) _ (acc_first m c)
    (acc_next m c) t h (ix2 r s)).trans ?_
  rw [zero_add]
  refine Fin.sum_mul_add_congr (n := 1024) fun z x hl => ?_
  have e1 : (8 * (t.val / 8) + z.val) % 8 = z.val := by have := step_lt t; have := z.isLt; omega
  have e2 : (8 * (t.val / 8) + z.val) / 8 = t.val / 8 := by omega
  simp only [e1, e2]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (flush t hf) (y 0) (y 1)).trans ?_)
  generalize product (argA m c) (argB m c) = X
  blk_ext [idx t]

end Cert.Kernel5Ideal.Product
-- ==== Proof.Products.MixIn.lean ====
/- The gradient of the mixer's product h @ w_in, its columns packed to 3072, in h: the array the kernel leaves is the
   reference's product. -/
module

public import proofs.«01_k».proof.Proof.Gen.Kernel6Ideal.Frame
public import proofs.«01_k».proof.Proof.Gen.Reference6Ideal.Run
public import Idealize.ShloMosaic.Lib.Pipeline.ValueKit
public import Idealize.ShloMosaic.Lib.Pipeline.ReadBack

@[expose] public section

set_option maxRecDepth 16384

noncomputable section

namespace Cert.Kernel6Ideal.Product

open Idealize.ShloMosaic Idealize.ShloMosaic.TcCoe Idealize.ShloMosaic.StableHlo Idealize.SL.Sem Cert.Kernel6Ideal Cert.Kernel6Ideal.Gen

/-- The product, as a sum over 3072 places. -/
def product (a : FVec Ideal S8192x3072 .f32) (b : FVec Ideal S1024x3072 .f32) : FVec Ideal S8192x1024 .f32 :=
  fun y => ∑ x : Fin 3072, a (ix2 (y 0) x) * b (ix2 (y 1) x)

/-- It is the reference's product. -/
theorem reference_eq (a : FVec Ideal S8192x3072 .f32) (b : FVec Ideal S1024x3072 .f32) (ht : Cert.Reference6Ideal.S1024x3072.Transposes [1, 0] Cert.Reference6Ideal.S3072x1024) :
    Host.dotGeneral (F := Ideal) (φ₁ := .f32) (φ₂ := .f32) Cert.Reference6Ideal.dot_S8192x3072_S3072x1024_S8192x1024_1_0_0_1_n_n none a (transpose Cert.Reference6Ideal.S3072x1024 [1, 0] b ht) = product a b := by
  funext y
  pointwise [product]

variable (m : (ℓ : Loc nD τ sig) → Buf (Elt Ideal) ℓ) (c : Dev nD) (t : Fin cfg0.N)

/-- The first argument. -/
abbrev argA : FVec Ideal S8192x3072 .f32 := m ((c.tc : Thread nD τ).loc main_arg0)

/-- The second argument. -/
abbrev argB : FVec Ideal S1024x3072 .f32 := m ((c.tc : Thread nD τ).loc main_arg1)

theorem step_lt (t : Fin cfg0.N) : t.val < 16 := t.isLt

/-- The block each window takes at a step. -/
theorem idx : ∀ t : Fin cfg0.N, win0_0.index t = ![t.val / 2, t.val % 2] ∧ win0_1.index t = ![0, t.val % 2] ∧ win0_2.index t = ![t.val / 2, 0] :=
  (by decide +kernel : ∀ t : Fin grid0.N, _)

/-- The result's block is written back at the last step of its run. -/
theorem flush : ∀ t : Fin cfg0.N, (cfg0.win 2).flush t = true → t.val % 2 = 1 := (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (r : Fin 1024) (x : Fin 1536) : (iblk m c 0 t : Vec Ideal S1024x1536 .bf16) (ix2 r x) = argA m c (ix2 ⟨t.val / 2 * 1024 + r.val, by have := step_lt t; omega⟩ ⟨t.val % 2 * 1536 + x.val, by have := step_lt t; omega⟩) := by
  have e : (iblk m c 0 t : Vec Ideal S1024x1536 .bf16) (ix2 r x) = (V m c main_v0 : Vec Ideal S8192x3072 .bf16) (ix2 ⟨t.val / 2 * 1024 + r.val, by have := step_lt t; omega⟩ ⟨t.val % 2 * 1536 + x.val, by have := step_lt t; omega⟩) := by
    blk_ext [iblk, idx t]
  rw [e, V_a]
  pointwise

/-- A step's block of it, place by place. -/
theorem blk_b (s : Fin 1024) (x : Fin 1536) : (iblk m c 1 t : Vec Ideal S1024x1536 .bf16) (ix2 s x) = argB m c (ix2 s ⟨t.val % 2 * 1536 + x.val, by have := step_lt t; omega⟩) := by
  have e : (iblk m c 1 t : Vec Ideal S1024x1536 .bf16) (ix2 s x) = (V m c main_v1 : Vec Ideal S1024x3072 .bf16) (ix2 s ⟨t.val % 2 * 1536 + x.val, by have := step_lt t; omega⟩) := by
    blk_ext [iblk, idx t]
  rw [e, V_b]
  pointwise

/-- What a step adds. -/
def term (y : S1024x1024.Idx) : EReal := ∑ x : Fin 1536,
  argA m c (ix2 ⟨t.val / 2 * 1024 + (y 0).val, by have := step_lt t; have : (y 0).val < 1024 := (y 0).isLt; omega⟩ ⟨t.val % 2 * 1536 + x.val, by have := step_lt t; omega⟩)
    * argB m c (ix2 (y 1) ⟨t.val % 2 * 1536 + x.val, by have := step_lt t; omega⟩)

theorem pay_zero (y : S1024x1024.Idx) : k0_pay1 (F := Ideal) y = 0 := by pointwise [k0_pay1]

theorem pay_at (A : FVec Ideal S1024x1536 .bf16) (B : FVec Ideal S1024x1536 .bf16) (acc : FVec Ideal S1024x1024 .f32) (y : S1024x1024.Idx) :
    k0_pay2 (F := Ideal) A B acc y = acc y + ∑ x : Fin 1536, A (ix2 (y 0) x) * B (ix2 (y 1) x) := by
  pointwise [k0_pay2]

/-- A step adds its term to the accumulator. -/
theorem pay_step (acc : Vec Ideal S1024x1024 .f32) (y : S1024x1024.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t (y 0) x) (blk_b m c t (y 1) x)))

/-- The first step of a run sets the accumulator to its term. -/
theorem acc_first (h : t.val % 2 = 0) (y : S1024x1024.Idx) : (outsAt0 m c t.val t.isLt).2 y = 0 + term m c t y := by
  have e : (outsAt0 m c t.val t.isLt).2 = k0_pay2 (iblk m c 0 t) (iblk m c 1 t) (k0_pay1 (F := Ideal)) := by
    rw [outsAt0_A m c t h (by omega)]
    frame_out
  rw [e, pay_step, pay_zero]

/-- A later step adds its term to what the step before left. -/
theorem acc_next (h : ¬t.val % 2 = 0) (y : S1024x1024.Idx) : (outsAt0 m c t.val t.isLt).2 y
    = (outsAt0 m c (t.val - 1) (Nat.lt_of_le_of_lt (Nat.sub_le _ _) t.isLt)).2 y + term m c t y := by
  have e : (outsAt0 m c t.val t.isLt).2 = k0_pay2 (iblk m c 0 t) (iblk m c 1 t) (outsAt0 m c (t.val - 1) (Nat.lt_of_le_of_lt (Nat.sub_le _ _) t.isLt)).2 := by
    rw [outsAt0_B m c t h (by omega)]
    frame_out
    simp only [read_unread_whole]
  rw [e, pay_step]

/-- The last step of a run stores the accumulator. -/
theorem out_last (h : t.val % 2 = 1) (y : S1024x1024.Idx) : (outsAt0 m c t.val t.isLt).1 y = (outsAt0 m c t.val t.isLt).2 y := by
  have e : (outsAt0 m c t.val t.isLt).1 = (outsAt0 m c t.val t.isLt).2 := by
    rw [outsAt0_B m c t (by omega) h]
    frame_out
  rw [e]

/-- So a block of the result is the product's. -/
theorem out_sum (h : t.val % 2 = 1) (r : Fin 1024) (s : Fin 1024) : (outsAt0 m c t.val t.isLt).1 (ix2 r s)
    = product (argA m c) (argB m c) (ix2 ⟨t.val / 2 * 1024 + r.val, by have := step_lt t; omega⟩ s) := by
  rw [out_last m c t h]
  refine (Pipeline.eq_sum_fin_of_reset_step_apply_of_flush (fun n h => (outsAt0 m c n h).2) 2 (fun _ => (0 : EReal)) _ (acc_first m c)
    (acc_next m c) t h (ix2 r s)).trans ?_
  rw [zero_add]
  refine Fin.sum_mul_add_congr (n := 1536) fun z x hl => ?_
  have e1 : (2 * (t.val / 2) + z.val) % 2 = z.val := by have := step_lt t; have := z.isLt; omega
  have e2 : (2 * (t.val / 2) + z.val) / 2 = t.val / 2 := by omega
  simp only [e1, e2]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (flush t hf) (y 0) (y 1)).trans ?_)
  generalize product (argA m c) (argB m c) = X
  blk_ext [idx t]

end Cert.Kernel6Ideal.Product
-- ==== Proof.Products.MixInWeights.lean ====
/- The gradient of the mixer's product h @ w_in, its columns packed to 3072, in w_in: the array the kernel leaves is the
   reference's product. -/
module

public import proofs.«01_k».proof.Proof.Gen.Kernel7Ideal.Frame
public import proofs.«01_k».proof.Proof.Gen.Reference7Ideal.Run
public import Idealize.ShloMosaic.Lib.Pipeline.ValueKit
public import Idealize.ShloMosaic.Lib.Pipeline.ReadBack

@[expose] public section

set_option maxRecDepth 16384

noncomputable section

namespace Cert.Kernel7Ideal.Product

open Idealize.ShloMosaic Idealize.ShloMosaic.TcCoe Idealize.ShloMosaic.StableHlo Idealize.SL.Sem Cert.Kernel7Ideal Cert.Kernel7Ideal.Gen

/-- The product, as a sum over 8192 places. -/
def product (a : FVec Ideal S8192x1024 .f32) (b : FVec Ideal S8192x3072 .f32) : FVec Ideal S1024x3072 .f32 :=
  fun y => ∑ x : Fin 8192, a (ix2 x (y 0)) * b (ix2 x (y 1))

/-- It is the reference's product. -/
theorem reference_eq (a : FVec Ideal S8192x1024 .f32) (b : FVec Ideal S8192x3072 .f32) (ht : Cert.Reference7Ideal.S8192x1024.Transposes [1, 0] Cert.Reference7Ideal.S1024x8192) :
    Host.dotGeneral (F := Ideal) (φ₁ := .f32) (φ₂ := .f32) Cert.Reference7Ideal.dot_S1024x8192_S8192x3072_S1024x3072_1_0_0_1_n_n none (transpose Cert.Reference7Ideal.S1024x8192 [1, 0] a ht) b = product a b := by
  funext y
  pointwise [product]

variable (m : (ℓ : Loc nD τ sig) → Buf (Elt Ideal) ℓ) (c : Dev nD) (t : Fin cfg0.N)

/-- The first argument. -/
abbrev argA : FVec Ideal S8192x1024 .f32 := m ((c.tc : Thread nD τ).loc main_arg0)

/-- The second argument. -/
abbrev argB : FVec Ideal S8192x3072 .f32 := m ((c.tc : Thread nD τ).loc main_arg1)

theorem step_lt (t : Fin cfg0.N) : t.val < 16 := t.isLt

/-- The block each window takes at a step. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The result's block is written back at the last step of its run. -/
theorem flush : ∀ t : Fin cfg0.N, (cfg0.win 2).flush t = true → t.val % 8 = 7 := (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (x : Fin 1024) (r : Fin 1024) : (iblk m c 0 t : Vec Ideal S1024x1024 .bf16) (ix2 x r) = argA m c (ix2 ⟨t.val % 8 * 1024 + x.val, by have := step_lt t; omega⟩ r) := by
  have e : (iblk m c 0 t : Vec Ideal S1024x1024 .bf16) (ix2 x r) = (V m c main_v0 : Vec Ideal S8192x1024 .bf16) (ix2 ⟨t.val % 8 * 1024 + x.val, by have := step_lt t; omega⟩ r) := by
    blk_ext [iblk, idx t]
  rw [e, V_a]
  pointwise

/-- A step's block of it, place by place. -/
theorem blk_b (x : Fin 1024) (s : Fin 1536) : (iblk m c 1 t : Vec Ideal S1024x1536 .bf16) (ix2 x s) = argB m c (ix2 ⟨t.val % 8 * 1024 + x.val, by have := step_lt t; omega⟩ ⟨t.val / 8 * 1536 + s.val, by have := step_lt t; omega⟩) := by
  have e : (iblk m c 1 t : Vec Ideal S1024x1536 .bf16) (ix2 x s) = (V m c main_v1 : Vec Ideal S8192x3072 .bf16) (ix2 ⟨t.val % 8 * 1024 + x.val, by have := step_lt t; omega⟩ ⟨t.val / 8 * 1536 + s.val, by have := step_lt t; omega⟩) := by
    blk_ext [iblk, idx t]
  rw [e, V_b]
  pointwise

/-- What a step adds. -/
def term (y : S1024x1536.Idx) : EReal := ∑ x : Fin 1024,
  argA m c (ix2 ⟨t.val % 8 * 1024 + x.val, by have := step_lt t; omega⟩ (y 0))
    * argB m c (ix2 ⟨t.val % 8 * 1024 + x.val, by have := step_lt t; omega⟩ ⟨t.val / 8 * 1536 + (y 1).val, by have := step_lt t; have : (y 1).val < 1536 := (y 1).isLt; omega⟩)

theorem pay_zero (y : S1024x1536.Idx) : k0_pay1 (F := Ideal) y = 0 := by pointwise [k0_pay1]

theorem pay_at (A : FVec Ideal S1024x1024 .bf16) (B : FVec Ideal S1024x1536 .bf16) (acc : FVec Ideal S1024x1536 .f32) (y : S1024x1536.Idx) :
    k0_pay2 (F := Ideal) A B acc y = acc y + ∑ x : Fin 1024, A (ix2 x (y 0)) * B (ix2 x (y 1)) := by
  pointwise [k0_pay2]

/-- A step adds its term to the accumulator. -/
theorem pay_step (acc : Vec Ideal S1024x1536 .f32) (y : S1024x1536.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t x (y 0)) (blk_b m c t x (y 1))))

/-- The first step of a run sets the accumulator to its term. -/
theorem acc_first (h : t.val % 8 = 0) (y : S1024x1536.Idx) : (outsAt0 m c t.val t.isLt).2 y = 0 + term m c t y := by
  have e : (outsAt0 m c t.val t.isLt).2 = k0_pay2 (iblk m c 0 t) (iblk m c 1 t) (k0_pay1 (F := Ideal)) := by
    rw [outsAt0_A m c t h (by omega)]
    frame_out
  rw [e, pay_step, pay_zero]

/-- A later step adds its term to what the step before left. -/
theorem acc_next (h : ¬t.val % 8 = 0) (y : S1024x1536.Idx) : (outsAt0 m c t.val t.isLt).2 y
    = (outsAt0 m c (t.val - 1) (Nat.lt_of_le_of_lt (Nat.sub_le _ _) t.isLt)).2 y + term m c t y := by
  have e : (outsAt0 m c t.val t.isLt).2 = k0_pay2 (iblk m c 0 t) (iblk m c 1 t) (outsAt0 m c (t.val - 1) (Nat.lt_of_le_of_lt (Nat.sub_le _ _) t.isLt)).2 := by
    by_cases h1 : t.val % 8 = 7
    · rw [outsAt0_C m c t h h1]
      frame_out
      simp only [read_unread_whole]
    · rw [outsAt0_B m c t h h1]
      frame_out
      simp only [read_unread_whole]
  rw [e, pay_step]

/-- The last step of a run stores the accumulator. -/
theorem out_last (h : t.val % 8 = 7) (y : S1024x1536.Idx) : (outsAt0 m c t.val t.isLt).1 y = (outsAt0 m c t.val t.isLt).2 y := by
  have e : (outsAt0 m c t.val t.isLt).1 = (outsAt0 m c t.val t.isLt).2 := by
    rw [outsAt0_C m c t (by omega) h]
    frame_out
  rw [e]

/-- So a block of the result is the product's. -/
theorem out_sum (h : t.val % 8 = 7) (r : Fin 1024) (s : Fin 1536) : (outsAt0 m c t.val t.isLt).1 (ix2 r s)
    = product (argA m c) (argB m c) (ix2 r ⟨t.val / 8 * 1536 + s.val, by have := step_lt t; omega⟩) := by
  rw [out_last m c t h]
  refine (Pipeline.eq_sum_fin_of_reset_step_apply_of_flush (fun n h => (outsAt0 m c n h).2) 8 (fun _ => (0 : EReal)) _ (acc_first m c)
    (acc_next m c) t h (ix2 r s)).trans ?_
  rw [zero_add]
  refine Fin.sum_mul_add_congr (n := 1024) fun z x hl => ?_
  have e1 : (8 * (t.val / 8) + z.val) % 8 = z.val := by have := step_lt t; have := z.isLt; omega
  have e3 : (8 * (t.val / 8) + z.val) / 8 = t.val / 8 := by omega
  simp only [e1, e3]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (flush t hf) (y 0) (y 1)).trans ?_)
  generalize product (argA m c) (argB m c) = X
  blk_ext [idx t]

end Cert.Kernel7Ideal.Product
-- ==== Proof.Products.MixOut.lean ====
/- The gradient of the mixer's product mixed @ w_out in mixed: the array the kernel leaves is the
   reference's product. -/
module

public import proofs.«01_k».proof.Proof.Gen.Kernel8Ideal.Frame
public import proofs.«01_k».proof.Proof.Gen.Reference8Ideal.Run
public import Idealize.ShloMosaic.Lib.Pipeline.ValueKit
public import Idealize.ShloMosaic.Lib.Pipeline.ReadBack

@[expose] public section

set_option maxRecDepth 16384

noncomputable section

namespace Cert.Kernel8Ideal.Product

open Idealize.ShloMosaic Idealize.ShloMosaic.TcCoe Idealize.ShloMosaic.StableHlo Idealize.SL.Sem Cert.Kernel8Ideal Cert.Kernel8Ideal.Gen

/-- The product, as a sum over 1024 places. -/
def product (a : FVec Ideal S8192x1024 .f32) (b : FVec Ideal S1024x1024 .f32) : FVec Ideal S8192x1024 .f32 :=
  fun y => ∑ x : Fin 1024, a (ix2 (y 0) x) * b (ix2 (y 1) x)

/-- It is the reference's product. -/
theorem reference_eq (a : FVec Ideal S8192x1024 .f32) (b : FVec Ideal S1024x1024 .f32) (ht : Cert.Reference8Ideal.S1024x1024.Transposes [1, 0] Cert.Reference8Ideal.S1024x1024) :
    Host.dotGeneral (F := Ideal) (φ₁ := .f32) (φ₂ := .f32) Cert.Reference8Ideal.dot_S8192x1024_S1024x1024_S8192x1024_1_0_0_1_n_n none a (transpose Cert.Reference8Ideal.S1024x1024 [1, 0] b ht) = product a b := by
  funext y
  pointwise [product]

variable (m : (ℓ : Loc nD τ sig) → Buf (Elt Ideal) ℓ) (c : Dev nD) (t : Fin cfg0.N)

/-- The first argument. -/
abbrev argA : FVec Ideal S8192x1024 .f32 := m ((c.tc : Thread nD τ).loc main_arg0)

/-- The second argument. -/
abbrev argB : FVec Ideal S1024x1024 .f32 := m ((c.tc : Thread nD τ).loc main_arg1)

theorem step_lt (t : Fin cfg0.N) : t.val < 8 := t.isLt

/-- The block each window takes at a step. -/
theorem idx : ∀ t : Fin cfg0.N, win0_0.index t = ![t.val, 0] ∧ win0_1.index t = ![0, 0] ∧ win0_2.index t = ![t.val, 0] :=
  (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (r : Fin 1024) (x : Fin 1024) : (iblk m c 0 t : Vec Ideal S1024x1024 .bf16) (ix2 r x) = argA m c (ix2 ⟨t.val * 1024 + r.val, by have := step_lt t; omega⟩ x) := by
  have e : (iblk m c 0 t : Vec Ideal S1024x1024 .bf16) (ix2 r x) = (V m c main_v0 : Vec Ideal S8192x1024 .bf16) (ix2 ⟨t.val * 1024 + r.val, by have := step_lt t; omega⟩ x) := by
    blk_ext [iblk, idx t]
  rw [e, V_a]
  pointwise

/-- A step's block of it, place by place. -/
theorem blk_b (s : Fin 1024) (x : Fin 1024) : (iblk m c 1 t : Vec Ideal S1024x1024 .bf16) (ix2 s x) = argB m c (ix2 s x) := by
  have e : (iblk m c 1 t : Vec Ideal S1024x1024 .bf16) (ix2 s x) = (V m c main_v1 : Vec Ideal S1024x1024 .bf16) (ix2 s x) := by
    blk_ext [iblk, idx t]
  rw [e, V_b]
  pointwise

/-- What a step adds. -/
def term (y : S1024x1024.Idx) : EReal := ∑ x : Fin 1024,
  argA m c (ix2 ⟨t.val * 1024 + (y 0).val, by have := step_lt t; have : (y 0).val < 1024 := (y 0).isLt; omega⟩ x)
    * argB m c (ix2 (y 1) x)

theorem pay_zero (y : S1024x1024.Idx) : k0_pay1 (F := Ideal) y = 0 := by pointwise [k0_pay1]

theorem pay_at (A : FVec Ideal S1024x1024 .bf16) (B : FVec Ideal S1024x1024 .bf16) (acc : FVec Ideal S1024x1024 .f32) (y : S1024x1024.Idx) :
    k0_pay2 (F := Ideal) A B acc y = acc y + ∑ x : Fin 1024, A (ix2 (y 0) x) * B (ix2 (y 1) x) := by
  pointwise [k0_pay2]

/-- A step adds its term to the accumulator. -/
theorem pay_step (acc : Vec Ideal S1024x1024 .f32) (y : S1024x1024.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t (y 0) x) (blk_b m c t (y 1) x)))

/-- A block of the result is the product's. -/
theorem out_sum (r : Fin 1024) (s : Fin 1024) : outsAt0 m c t (ix2 r s) = product (argA m c) (argB m c) (ix2 ⟨t.val * 1024 + r.val, by have := step_lt t; omega⟩ s) := by
  have e : outsAt0 m c t = k0_pay2 (iblk m c 0 t) (iblk m c 1 t) (k0_pay1 (F := Ideal)) := by
    unfold outsAt0
    frame_out
  rw [e, pay_step, pay_zero, zero_add]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (y 0) (y 1)).trans ?_)
  generalize product (argA m c) (argB m c) = X
  blk_ext [idx t]

end Cert.Kernel8Ideal.Product
-- ==== Proof.Products.MixOutWeights.lean ====
/- The gradient of the mixer's product mixed @ w_out in w_out: the array the kernel leaves is the
   reference's product. -/
module

public import proofs.«01_k».proof.Proof.Gen.Kernel9Ideal.Frame
public import proofs.«01_k».proof.Proof.Gen.Reference9Ideal.Run
public import Idealize.ShloMosaic.Lib.Pipeline.ValueKit
public import Idealize.ShloMosaic.Lib.Pipeline.ReadBack

@[expose] public section

set_option maxRecDepth 16384

noncomputable section

namespace Cert.Kernel9Ideal.Product

open Idealize.ShloMosaic Idealize.ShloMosaic.TcCoe Idealize.ShloMosaic.StableHlo Idealize.SL.Sem Cert.Kernel9Ideal Cert.Kernel9Ideal.Gen

/-- The product, as a sum over 8192 places. -/
def product (a : FVec Ideal S8192x1024 .f32) (b : FVec Ideal S8192x1024 .f32) : FVec Ideal S1024x1024 .bf16 :=
  fun y => ∑ x : Fin 8192, a (ix2 x (y 0)) * b (ix2 x (y 1))

/-- It is the reference's product. -/
theorem reference_eq (a : FVec Ideal S8192x1024 .f32) (b : FVec Ideal S8192x1024 .f32) (ht : Cert.Reference9Ideal.S8192x1024.Transposes [1, 0] Cert.Reference9Ideal.S1024x8192) (hb : FTy.bits .bf16 < FTy.bits .f32) :
    truncf (F := Ideal) .bf16 (Host.dotGeneral (F := Ideal) (φ₁ := .f32) (φ₂ := .f32) Cert.Reference9Ideal.dot_S1024x8192_S8192x1024_S1024x1024_1_0_0_1_n_n none (transpose Cert.Reference9Ideal.S1024x8192 [1, 0] a ht) b) hb = product a b := by
  funext y
  pointwise [product]

variable (m : (ℓ : Loc nD τ sig) → Buf (Elt Ideal) ℓ) (c : Dev nD) (t : Fin cfg0.N)

/-- The first argument. -/
abbrev argA : FVec Ideal S8192x1024 .f32 := m ((c.tc : Thread nD τ).loc main_arg0)

/-- The second argument. -/
abbrev argB : FVec Ideal S8192x1024 .f32 := m ((c.tc : Thread nD τ).loc main_arg1)

theorem step_lt (t : Fin cfg0.N) : t.val < 8 := t.isLt

/-- The block each window takes at a step. -/
theorem idx : ∀ t : Fin cfg0.N, win0_0.index t = ![t.val, 0] ∧ win0_1.index t = ![t.val, 0] ∧ win0_2.index t = ![0, 0] :=
  (by decide +kernel : ∀ t : Fin grid0.N, _)

/-- The result's block is written back at the last step of its run. -/
theorem flush : ∀ t : Fin cfg0.N, (cfg0.win 2).flush t = true → t.val % 8 = 7 := (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (x : Fin 1024) (r : Fin 1024) : (iblk m c 0 t : Vec Ideal S1024x1024 .bf16) (ix2 x r) = argA m c (ix2 ⟨t.val * 1024 + x.val, by have := step_lt t; omega⟩ r) := by
  have e : (iblk m c 0 t : Vec Ideal S1024x1024 .bf16) (ix2 x r) = (V m c main_v0 : Vec Ideal S8192x1024 .bf16) (ix2 ⟨t.val * 1024 + x.val, by have := step_lt t; omega⟩ r) := by
    blk_ext [iblk, idx t]
  rw [e, V_a]
  pointwise

/-- A step's block of it, place by place. -/
theorem blk_b (x : Fin 1024) (s : Fin 1024) : (iblk m c 1 t : Vec Ideal S1024x1024 .bf16) (ix2 x s) = argB m c (ix2 ⟨t.val * 1024 + x.val, by have := step_lt t; omega⟩ s) := by
  have e : (iblk m c 1 t : Vec Ideal S1024x1024 .bf16) (ix2 x s) = (V m c main_v1 : Vec Ideal S8192x1024 .bf16) (ix2 ⟨t.val * 1024 + x.val, by have := step_lt t; omega⟩ s) := by
    blk_ext [iblk, idx t]
  rw [e, V_b]
  pointwise

/-- What a step adds. -/
def term (y : S1024x1024.Idx) : EReal := ∑ x : Fin 1024,
  argA m c (ix2 ⟨t.val * 1024 + x.val, by have := step_lt t; omega⟩ (y 0))
    * argB m c (ix2 ⟨t.val * 1024 + x.val, by have := step_lt t; omega⟩ (y 1))

theorem pay_zero (y : S1024x1024.Idx) : k0_pay1 (F := Ideal) y = 0 := by pointwise [k0_pay1]

theorem pay_at (A : FVec Ideal S1024x1024 .bf16) (B : FVec Ideal S1024x1024 .bf16) (acc : FVec Ideal S1024x1024 .f32) (y : S1024x1024.Idx) :
    k0_pay2 (F := Ideal) A B acc y = acc y + ∑ x : Fin 1024, A (ix2 x (y 0)) * B (ix2 x (y 1)) := by
  pointwise [k0_pay2]

/-- A step adds its term to the accumulator. -/
theorem pay_step (acc : Vec Ideal S1024x1024 .f32) (y : S1024x1024.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t x (y 0)) (blk_b m c t x (y 1))))

/-- The first step of a run sets the accumulator to its term. -/
theorem acc_first (h : t.val % 8 = 0) (y : S1024x1024.Idx) : (outsAt0 m c t.val t.isLt).2 y = 0 + term m c t y := by
  have e : (outsAt0 m c t.val t.isLt).2 = k0_pay2 (iblk m c 0 t) (iblk m c 1 t) (k0_pay1 (F := Ideal)) := by
    rw [outsAt0_A m c t h (by omega)]
    frame_out
  rw [e, pay_step, pay_zero]

/-- A later step adds its term to what the step before left. -/
theorem acc_next (h : ¬t.val % 8 = 0) (y : S1024x1024.Idx) : (outsAt0 m c t.val t.isLt).2 y
    = (outsAt0 m c (t.val - 1) (Nat.lt_of_le_of_lt (Nat.sub_le _ _) t.isLt)).2 y + term m c t y := by
  have e : (outsAt0 m c t.val t.isLt).2 = k0_pay2 (iblk m c 0 t) (iblk m c 1 t) (outsAt0 m c (t.val - 1) (Nat.lt_of_le_of_lt (Nat.sub_le _ _) t.isLt)).2 := by
    by_cases h1 : t.val % 8 = 7
    · rw [outsAt0_C m c t h h1]
      frame_out
      simp only [read_unread_whole]
    · rw [outsAt0_B m c t h h1]
      frame_out
      simp only [read_unread_whole]
  rw [e, pay_step]

/-- The last step of a run stores the accumulator. -/
theorem out_last (h : t.val % 8 = 7) (y : S1024x1024.Idx) : (outsAt0 m c t.val t.isLt).1 y = (outsAt0 m c t.val t.isLt).2 y := by
  have e : (outsAt0 m c t.val t.isLt).1 = k0_pay3 (outsAt0 m c t.val t.isLt).2 := by
    rw [outsAt0_C m c t (by omega) h]
    frame_out
  rw [e]
  pointwise [k0_pay3]

/-- So a block of the result is the product's. -/
theorem out_sum (h : t.val % 8 = 7) (r : Fin 1024) (s : Fin 1024) : (outsAt0 m c t.val t.isLt).1 (ix2 r s)
    = product (argA m c) (argB m c) (ix2 r s) := by
  rw [out_last m c t h]
  refine (Pipeline.eq_sum_fin_of_reset_step_apply_of_flush (fun n h => (outsAt0 m c n h).2) 8 (fun _ => (0 : EReal)) _ (acc_first m c)
    (acc_next m c) t h (ix2 r s)).trans ?_
  rw [zero_add]
  refine Fin.sum_mul_add_congr (n := 1024) fun z x hl => ?_
  have e1 : (8 * (t.val / 8) + z.val) = z.val := by have := step_lt t; have := z.isLt; omega
  simp only [e1]

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (flush t hf) (y 0) (y 1)).trans ?_)
  generalize product (argA m c) (argB m c) = X
  blk_ext [idx t]

end Cert.Kernel9Ideal.Product
-- ==== Proof.Products.Queries.lean ====
/- The gradient of the queries' product cq @ mla_w_uq, its columns packed to 1024, in cq: the array the kernel leaves is the
   reference's product. -/
module

public import proofs.«01_k».proof.Proof.Gen.Kernel10Ideal.Frame
public import proofs.«01_k».proof.Proof.Gen.Reference10Ideal.Run
public import Idealize.ShloMosaic.Lib.Pipeline.ValueKit
public import Idealize.ShloMosaic.Lib.Pipeline.ReadBack

@[expose] public section

set_option maxRecDepth 16384

noncomputable section

namespace Cert.Kernel10Ideal.Product

open Idealize.ShloMosaic Idealize.ShloMosaic.TcCoe Idealize.ShloMosaic.StableHlo Idealize.SL.Sem Cert.Kernel10Ideal Cert.Kernel10Ideal.Gen

/-- The product, as a sum over 1024 places. -/
def product (a : FVec Ideal S8192x1024 .f32) (b : FVec Ideal S384x1024 .f32) : FVec Ideal S8192x384 .f32 :=
  fun y => ∑ x : Fin 1024, a (ix2 (y 0) x) * b (ix2 (y 1) x)

/-- It is the reference's product. -/
theorem reference_eq (a : FVec Ideal S8192x1024 .f32) (b : FVec Ideal S384x1024 .f32) (ht : Cert.Reference10Ideal.S384x1024.Transposes [1, 0] Cert.Reference10Ideal.S1024x384) :
    Host.dotGeneral (F := Ideal) (φ₁ := .f32) (φ₂ := .f32) Cert.Reference10Ideal.dot_S8192x1024_S1024x384_S8192x384_1_0_0_1_n_n none a (transpose Cert.Reference10Ideal.S1024x384 [1, 0] b ht) = product a b := by
  funext y
  pointwise [product]

variable (m : (ℓ : Loc nD τ sig) → Buf (Elt Ideal) ℓ) (c : Dev nD) (t : Fin cfg0.N)

/-- The first argument. -/
abbrev argA : FVec Ideal S8192x1024 .f32 := m ((c.tc : Thread nD τ).loc main_arg0)

/-- The second argument. -/
abbrev argB : FVec Ideal S384x1024 .f32 := m ((c.tc : Thread nD τ).loc main_arg1)

theorem step_lt (t : Fin cfg0.N) : t.val < 8 := t.isLt

/-- The block each window takes at a step. -/
theorem idx : ∀ t : Fin cfg0.N, win0_0.index t = ![t.val, 0] ∧ win0_1.index t = ![0, 0] ∧ win0_2.index t = ![t.val, 0] :=
  (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (r : Fin 1024) (x : Fin 1024) : (iblk m c 0 t : Vec Ideal S1024x1024 .bf16) (ix2 r x) = argA m c (ix2 ⟨t.val * 1024 + r.val, by have := step_lt t; omega⟩ x) := by
  have e : (iblk m c 0 t : Vec Ideal S1024x1024 .bf16) (ix2 r x) = (V m c main_v0 : Vec Ideal S8192x1024 .bf16) (ix2 ⟨t.val * 1024 + r.val, by have := step_lt t; omega⟩ x) := by
    blk_ext [iblk, idx t]
  rw [e, V_a]
  pointwise

/-- A step's block of it, place by place. -/
theorem blk_b (s : Fin 384) (x : Fin 1024) : (iblk m c 1 t : Vec Ideal S384x1024 .bf16) (ix2 s x) = argB m c (ix2 s x) := by
  have e : (iblk m c 1 t : Vec Ideal S384x1024 .bf16) (ix2 s x) = (V m c main_v1 : Vec Ideal S384x1024 .bf16) (ix2 s x) := by
    blk_ext [iblk, idx t]
  rw [e, V_b]
  pointwise

/-- What a step adds. -/
def term (y : S1024x384.Idx) : EReal := ∑ x : Fin 1024,
  argA m c (ix2 ⟨t.val * 1024 + (y 0).val, by have := step_lt t; have : (y 0).val < 1024 := (y 0).isLt; omega⟩ x)
    * argB m c (ix2 (y 1) x)

theorem pay_zero (y : S1024x384.Idx) : k0_pay1 (F := Ideal) y = 0 := by pointwise [k0_pay1]

theorem pay_at (A : FVec Ideal S1024x1024 .bf16) (B : FVec Ideal S384x1024 .bf16) (acc : FVec Ideal S1024x384 .f32) (y : S1024x384.Idx) :
    k0_pay2 (F := Ideal) A B acc y = acc y + ∑ x : Fin 1024, A (ix2 (y 0) x) * B (ix2 (y 1) x) := by
  pointwise [k0_pay2]

/-- A step adds its term to the accumulator. -/
theorem pay_step (acc : Vec Ideal S1024x384 .f32) (y : S1024x384.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t (y 0) x) (blk_b m c t (y 1) x)))

/-- A block of the result is the product's. -/
theorem out_sum (r : Fin 1024) (s : Fin 384) : outsAt0 m c t (ix2 r s) = product (argA m c) (argB m c) (ix2 ⟨t.val * 1024 + r.val, by have := step_lt t; omega⟩ s) := by
  have e : outsAt0 m c t = k0_pay2 (iblk m c 0 t) (iblk m c 1 t) (k0_pay1 (F := Ideal)) := by
    unfold outsAt0
    frame_out
  rw [e, pay_step, pay_zero, zero_add]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (y 0) (y 1)).trans ?_)
  generalize product (argA m c) (argB m c) = X
  blk_ext [idx t]

end Cert.Kernel10Ideal.Product
-- ==== Proof.Products.QueriesWeights.lean ====
/- The gradient of the queries' product cq @ mla_w_uq, its columns packed to 1024, in mla_w_uq: the array the kernel leaves is the
   reference's product. -/
module

public import proofs.«01_k».proof.Proof.Gen.Kernel11Ideal.Frame
public import proofs.«01_k».proof.Proof.Gen.Reference11Ideal.Run
public import Idealize.ShloMosaic.Lib.Pipeline.ValueKit
public import Idealize.ShloMosaic.Lib.Pipeline.ReadBack

@[expose] public section

set_option maxRecDepth 16384

noncomputable section

namespace Cert.Kernel11Ideal.Product

open Idealize.ShloMosaic Idealize.ShloMosaic.TcCoe Idealize.ShloMosaic.StableHlo Idealize.SL.Sem Cert.Kernel11Ideal Cert.Kernel11Ideal.Gen

/-- The product, as a sum over 8192 places. -/
def product (a : FVec Ideal S8192x384 .f32) (b : FVec Ideal S8192x1024 .f32) : FVec Ideal S384x1024 .f32 :=
  fun y => ∑ x : Fin 8192, a (ix2 x (y 0)) * b (ix2 x (y 1))

/-- It is the reference's product. -/
theorem reference_eq (a : FVec Ideal S8192x384 .f32) (b : FVec Ideal S8192x1024 .f32) (ht : Cert.Reference11Ideal.S8192x384.Transposes [1, 0] Cert.Reference11Ideal.S384x8192) :
    Host.dotGeneral (F := Ideal) (φ₁ := .f32) (φ₂ := .f32) Cert.Reference11Ideal.dot_S384x8192_S8192x1024_S384x1024_1_0_0_1_n_n none (transpose Cert.Reference11Ideal.S384x8192 [1, 0] a ht) b = product a b := by
  funext y
  pointwise [product]

variable (m : (ℓ : Loc nD τ sig) → Buf (Elt Ideal) ℓ) (c : Dev nD) (t : Fin cfg0.N)

/-- The first argument. -/
abbrev argA : FVec Ideal S8192x384 .f32 := m ((c.tc : Thread nD τ).loc main_arg0)

/-- The second argument. -/
abbrev argB : FVec Ideal S8192x1024 .f32 := m ((c.tc : Thread nD τ).loc main_arg1)

theorem step_lt (t : Fin cfg0.N) : t.val < 8 := t.isLt

/-- The block each window takes at a step. -/
theorem idx : ∀ t : Fin cfg0.N, win0_0.index t = ![t.val, 0] ∧ win0_1.index t = ![t.val, 0] ∧ win0_2.index t = ![0, 0] :=
  (by decide +kernel : ∀ t : Fin grid0.N, _)

/-- The result's block is written back at the last step of its run. -/
theorem flush : ∀ t : Fin cfg0.N, (cfg0.win 2).flush t = true → t.val % 8 = 7 := (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (x : Fin 1024) (r : Fin 384) : (iblk m c 0 t : Vec Ideal S1024x384 .bf16) (ix2 x r) = argA m c (ix2 ⟨t.val * 1024 + x.val, by have := step_lt t; omega⟩ r) := by
  have e : (iblk m c 0 t : Vec Ideal S1024x384 .bf16) (ix2 x r) = (V m c main_v0 : Vec Ideal S8192x384 .bf16) (ix2 ⟨t.val * 1024 + x.val, by have := step_lt t; omega⟩ r) := by
    blk_ext [iblk, idx t]
  rw [e, V_a]
  pointwise

/-- A step's block of it, place by place. -/
theorem blk_b (x : Fin 1024) (s : Fin 1024) : (iblk m c 1 t : Vec Ideal S1024x1024 .bf16) (ix2 x s) = argB m c (ix2 ⟨t.val * 1024 + x.val, by have := step_lt t; omega⟩ s) := by
  have e : (iblk m c 1 t : Vec Ideal S1024x1024 .bf16) (ix2 x s) = (V m c main_v1 : Vec Ideal S8192x1024 .bf16) (ix2 ⟨t.val * 1024 + x.val, by have := step_lt t; omega⟩ s) := by
    blk_ext [iblk, idx t]
  rw [e, V_b]
  pointwise

/-- What a step adds. -/
def term (y : S384x1024.Idx) : EReal := ∑ x : Fin 1024,
  argA m c (ix2 ⟨t.val * 1024 + x.val, by have := step_lt t; omega⟩ (y 0))
    * argB m c (ix2 ⟨t.val * 1024 + x.val, by have := step_lt t; omega⟩ (y 1))

theorem pay_zero (y : S384x1024.Idx) : k0_pay1 (F := Ideal) y = 0 := by pointwise [k0_pay1]

theorem pay_at (A : FVec Ideal S1024x384 .bf16) (B : FVec Ideal S1024x1024 .bf16) (acc : FVec Ideal S384x1024 .f32) (y : S384x1024.Idx) :
    k0_pay2 (F := Ideal) A B acc y = acc y + ∑ x : Fin 1024, A (ix2 x (y 0)) * B (ix2 x (y 1)) := by
  pointwise [k0_pay2]

/-- A step adds its term to the accumulator. -/
theorem pay_step (acc : Vec Ideal S384x1024 .f32) (y : S384x1024.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t x (y 0)) (blk_b m c t x (y 1))))

/-- The first step of a run sets the accumulator to its term. -/
theorem acc_first (h : t.val % 8 = 0) (y : S384x1024.Idx) : (outsAt0 m c t.val t.isLt).2 y = 0 + term m c t y := by
  have e : (outsAt0 m c t.val t.isLt).2 = k0_pay2 (iblk m c 0 t) (iblk m c 1 t) (k0_pay1 (F := Ideal)) := by
    rw [outsAt0_A m c t h (by omega)]
    frame_out
  rw [e, pay_step, pay_zero]

/-- A later step adds its term to what the step before left. -/
theorem acc_next (h : ¬t.val % 8 = 0) (y : S384x1024.Idx) : (outsAt0 m c t.val t.isLt).2 y
    = (outsAt0 m c (t.val - 1) (Nat.lt_of_le_of_lt (Nat.sub_le _ _) t.isLt)).2 y + term m c t y := by
  have e : (outsAt0 m c t.val t.isLt).2 = k0_pay2 (iblk m c 0 t) (iblk m c 1 t) (outsAt0 m c (t.val - 1) (Nat.lt_of_le_of_lt (Nat.sub_le _ _) t.isLt)).2 := by
    by_cases h1 : t.val % 8 = 7
    · rw [outsAt0_C m c t h h1]
      frame_out
      simp only [read_unread_whole]
    · rw [outsAt0_B m c t h h1]
      frame_out
      simp only [read_unread_whole]
  rw [e, pay_step]

/-- The last step of a run stores the accumulator. -/
theorem out_last (h : t.val % 8 = 7) (y : S384x1024.Idx) : (outsAt0 m c t.val t.isLt).1 y = (outsAt0 m c t.val t.isLt).2 y := by
  have e : (outsAt0 m c t.val t.isLt).1 = (outsAt0 m c t.val t.isLt).2 := by
    rw [outsAt0_C m c t (by omega) h]
    frame_out
  rw [e]

/-- So a block of the result is the product's. -/
theorem out_sum (h : t.val % 8 = 7) (r : Fin 384) (s : Fin 1024) : (outsAt0 m c t.val t.isLt).1 (ix2 r s)
    = product (argA m c) (argB m c) (ix2 r s) := by
  rw [out_last m c t h]
  refine (Pipeline.eq_sum_fin_of_reset_step_apply_of_flush (fun n h => (outsAt0 m c n h).2) 8 (fun _ => (0 : EReal)) _ (acc_first m c)
    (acc_next m c) t h (ix2 r s)).trans ?_
  rw [zero_add]
  refine Fin.sum_mul_add_congr (n := 1024) fun z x hl => ?_
  have e1 : (8 * (t.val / 8) + z.val) = z.val := by have := step_lt t; have := z.isLt; omega
  simp only [e1]

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (flush t hf) (y 0) (y 1)).trans ?_)
  generalize product (argA m c) (argB m c) = X
  blk_ext [idx t]

end Cert.Kernel11Ideal.Product
-- ==== Proof.Products.KeysValues.lean ====
/- The gradient of the keys' and values' product ckv @ mla_w_ukv in ckv: the array the kernel leaves is the
   reference's product. -/
module

public import proofs.«01_k».proof.Proof.Gen.Kernel12Ideal.Frame
public import proofs.«01_k».proof.Proof.Gen.Reference12Ideal.Run
public import Idealize.ShloMosaic.Lib.Pipeline.ValueKit
public import Idealize.ShloMosaic.Lib.Pipeline.ReadBack

@[expose] public section

set_option maxRecDepth 16384

noncomputable section

namespace Cert.Kernel12Ideal.Product

open Idealize.ShloMosaic Idealize.ShloMosaic.TcCoe Idealize.ShloMosaic.StableHlo Idealize.SL.Sem Cert.Kernel12Ideal Cert.Kernel12Ideal.Gen

/-- The product, as a sum over 1024 places. -/
def product (a : FVec Ideal S8192x1024 .f32) (b : FVec Ideal S256x1024 .f32) : FVec Ideal S8192x256 .f32 :=
  fun y => ∑ x : Fin 1024, a (ix2 (y 0) x) * b (ix2 (y 1) x)

/-- It is the reference's product. -/
theorem reference_eq (a : FVec Ideal S8192x1024 .f32) (b : FVec Ideal S256x1024 .f32) (ht : Cert.Reference12Ideal.S256x1024.Transposes [1, 0] Cert.Reference12Ideal.S1024x256) :
    Host.dotGeneral (F := Ideal) (φ₁ := .f32) (φ₂ := .f32) Cert.Reference12Ideal.dot_S8192x1024_S1024x256_S8192x256_1_0_0_1_n_n none a (transpose Cert.Reference12Ideal.S1024x256 [1, 0] b ht) = product a b := by
  funext y
  pointwise [product]

variable (m : (ℓ : Loc nD τ sig) → Buf (Elt Ideal) ℓ) (c : Dev nD) (t : Fin cfg0.N)

/-- The first argument. -/
abbrev argA : FVec Ideal S8192x1024 .f32 := m ((c.tc : Thread nD τ).loc main_arg0)

/-- The second argument. -/
abbrev argB : FVec Ideal S256x1024 .f32 := m ((c.tc : Thread nD τ).loc main_arg1)

theorem step_lt (t : Fin cfg0.N) : t.val < 8 := t.isLt

/-- The block each window takes at a step. -/
theorem idx : ∀ t : Fin cfg0.N, win0_0.index t = ![t.val, 0] ∧ win0_1.index t = ![0, 0] ∧ win0_2.index t = ![t.val, 0] :=
  (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (r : Fin 1024) (x : Fin 1024) : (iblk m c 0 t : Vec Ideal S1024x1024 .bf16) (ix2 r x) = argA m c (ix2 ⟨t.val * 1024 + r.val, by have := step_lt t; omega⟩ x) := by
  have e : (iblk m c 0 t : Vec Ideal S1024x1024 .bf16) (ix2 r x) = (V m c main_v0 : Vec Ideal S8192x1024 .bf16) (ix2 ⟨t.val * 1024 + r.val, by have := step_lt t; omega⟩ x) := by
    blk_ext [iblk, idx t]
  rw [e, V_a]
  pointwise

/-- A step's block of it, place by place. -/
theorem blk_b (s : Fin 256) (x : Fin 1024) : (iblk m c 1 t : Vec Ideal S256x1024 .bf16) (ix2 s x) = argB m c (ix2 s x) := by
  have e : (iblk m c 1 t : Vec Ideal S256x1024 .bf16) (ix2 s x) = (V m c main_v1 : Vec Ideal S256x1024 .bf16) (ix2 s x) := by
    blk_ext [iblk, idx t]
  rw [e, V_b]
  pointwise

/-- What a step adds. -/
def term (y : S1024x256.Idx) : EReal := ∑ x : Fin 1024,
  argA m c (ix2 ⟨t.val * 1024 + (y 0).val, by have := step_lt t; have : (y 0).val < 1024 := (y 0).isLt; omega⟩ x)
    * argB m c (ix2 (y 1) x)

theorem pay_zero (y : S1024x256.Idx) : k0_pay1 (F := Ideal) y = 0 := by pointwise [k0_pay1]

theorem pay_at (A : FVec Ideal S1024x1024 .bf16) (B : FVec Ideal S256x1024 .bf16) (acc : FVec Ideal S1024x256 .f32) (y : S1024x256.Idx) :
    k0_pay2 (F := Ideal) A B acc y = acc y + ∑ x : Fin 1024, A (ix2 (y 0) x) * B (ix2 (y 1) x) := by
  pointwise [k0_pay2]

/-- A step adds its term to the accumulator. -/
theorem pay_step (acc : Vec Ideal S1024x256 .f32) (y : S1024x256.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t (y 0) x) (blk_b m c t (y 1) x)))

/-- A block of the result is the product's. -/
theorem out_sum (r : Fin 1024) (s : Fin 256) : outsAt0 m c t (ix2 r s) = product (argA m c) (argB m c) (ix2 ⟨t.val * 1024 + r.val, by have := step_lt t; omega⟩ s) := by
  have e : outsAt0 m c t = k0_pay2 (iblk m c 0 t) (iblk m c 1 t) (k0_pay1 (F := Ideal)) := by
    unfold outsAt0
    frame_out
  rw [e, pay_step, pay_zero, zero_add]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (y 0) (y 1)).trans ?_)
  generalize product (argA m c) (argB m c) = X
  blk_ext [idx t]

end Cert.Kernel12Ideal.Product
-- ==== Proof.Products.KeysValuesWeights.lean ====
/- The gradient of the keys' and values' product ckv @ mla_w_ukv in mla_w_ukv: the array the kernel leaves is the
   reference's product. -/
module

public import proofs.«01_k».proof.Proof.Gen.Kernel13Ideal.Frame
public import proofs.«01_k».proof.Proof.Gen.Reference13Ideal.Run
public import Idealize.ShloMosaic.Lib.Pipeline.ValueKit
public import Idealize.ShloMosaic.Lib.Pipeline.ReadBack

@[expose] public section

set_option maxRecDepth 16384

noncomputable section

namespace Cert.Kernel13Ideal.Product

open Idealize.ShloMosaic Idealize.ShloMosaic.TcCoe Idealize.ShloMosaic.StableHlo Idealize.SL.Sem Cert.Kernel13Ideal Cert.Kernel13Ideal.Gen

/-- The product, as a sum over 8192 places. -/
def product (a : FVec Ideal S8192x256 .f32) (b : FVec Ideal S8192x1024 .f32) : FVec Ideal S256x1024 .f32 :=
  fun y => ∑ x : Fin 8192, a (ix2 x (y 0)) * b (ix2 x (y 1))

/-- It is the reference's product. -/
theorem reference_eq (a : FVec Ideal S8192x256 .f32) (b : FVec Ideal S8192x1024 .f32) (ht : Cert.Reference13Ideal.S8192x256.Transposes [1, 0] Cert.Reference13Ideal.S256x8192) :
    Host.dotGeneral (F := Ideal) (φ₁ := .f32) (φ₂ := .f32) Cert.Reference13Ideal.dot_S256x8192_S8192x1024_S256x1024_1_0_0_1_n_n none (transpose Cert.Reference13Ideal.S256x8192 [1, 0] a ht) b = product a b := by
  funext y
  pointwise [product]

variable (m : (ℓ : Loc nD τ sig) → Buf (Elt Ideal) ℓ) (c : Dev nD) (t : Fin cfg0.N)

/-- The first argument. -/
abbrev argA : FVec Ideal S8192x256 .f32 := m ((c.tc : Thread nD τ).loc main_arg0)

/-- The second argument. -/
abbrev argB : FVec Ideal S8192x1024 .f32 := m ((c.tc : Thread nD τ).loc main_arg1)

theorem step_lt (t : Fin cfg0.N) : t.val < 8 := t.isLt

/-- The block each window takes at a step. -/
theorem idx : ∀ t : Fin cfg0.N, win0_0.index t = ![t.val, 0] ∧ win0_1.index t = ![t.val, 0] ∧ win0_2.index t = ![0, 0] :=
  (by decide +kernel : ∀ t : Fin grid0.N, _)

/-- The result's block is written back at the last step of its run. -/
theorem flush : ∀ t : Fin cfg0.N, (cfg0.win 2).flush t = true → t.val % 8 = 7 := (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (x : Fin 1024) (r : Fin 256) : (iblk m c 0 t : Vec Ideal S1024x256 .bf16) (ix2 x r) = argA m c (ix2 ⟨t.val * 1024 + x.val, by have := step_lt t; omega⟩ r) := by
  have e : (iblk m c 0 t : Vec Ideal S1024x256 .bf16) (ix2 x r) = (V m c main_v0 : Vec Ideal S8192x256 .bf16) (ix2 ⟨t.val * 1024 + x.val, by have := step_lt t; omega⟩ r) := by
    blk_ext [iblk, idx t]
  rw [e, V_a]
  pointwise

/-- A step's block of it, place by place. -/
theorem blk_b (x : Fin 1024) (s : Fin 1024) : (iblk m c 1 t : Vec Ideal S1024x1024 .bf16) (ix2 x s) = argB m c (ix2 ⟨t.val * 1024 + x.val, by have := step_lt t; omega⟩ s) := by
  have e : (iblk m c 1 t : Vec Ideal S1024x1024 .bf16) (ix2 x s) = (V m c main_v1 : Vec Ideal S8192x1024 .bf16) (ix2 ⟨t.val * 1024 + x.val, by have := step_lt t; omega⟩ s) := by
    blk_ext [iblk, idx t]
  rw [e, V_b]
  pointwise

/-- What a step adds. -/
def term (y : S256x1024.Idx) : EReal := ∑ x : Fin 1024,
  argA m c (ix2 ⟨t.val * 1024 + x.val, by have := step_lt t; omega⟩ (y 0))
    * argB m c (ix2 ⟨t.val * 1024 + x.val, by have := step_lt t; omega⟩ (y 1))

theorem pay_zero (y : S256x1024.Idx) : k0_pay1 (F := Ideal) y = 0 := by pointwise [k0_pay1]

theorem pay_at (A : FVec Ideal S1024x256 .bf16) (B : FVec Ideal S1024x1024 .bf16) (acc : FVec Ideal S256x1024 .f32) (y : S256x1024.Idx) :
    k0_pay2 (F := Ideal) A B acc y = acc y + ∑ x : Fin 1024, A (ix2 x (y 0)) * B (ix2 x (y 1)) := by
  pointwise [k0_pay2]

/-- A step adds its term to the accumulator. -/
theorem pay_step (acc : Vec Ideal S256x1024 .f32) (y : S256x1024.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t x (y 0)) (blk_b m c t x (y 1))))

/-- The first step of a run sets the accumulator to its term. -/
theorem acc_first (h : t.val % 8 = 0) (y : S256x1024.Idx) : (outsAt0 m c t.val t.isLt).2 y = 0 + term m c t y := by
  have e : (outsAt0 m c t.val t.isLt).2 = k0_pay2 (iblk m c 0 t) (iblk m c 1 t) (k0_pay1 (F := Ideal)) := by
    rw [outsAt0_A m c t h (by omega)]
    frame_out
  rw [e, pay_step, pay_zero]

/-- A later step adds its term to what the step before left. -/
theorem acc_next (h : ¬t.val % 8 = 0) (y : S256x1024.Idx) : (outsAt0 m c t.val t.isLt).2 y
    = (outsAt0 m c (t.val - 1) (Nat.lt_of_le_of_lt (Nat.sub_le _ _) t.isLt)).2 y + term m c t y := by
  have e : (outsAt0 m c t.val t.isLt).2 = k0_pay2 (iblk m c 0 t) (iblk m c 1 t) (outsAt0 m c (t.val - 1) (Nat.lt_of_le_of_lt (Nat.sub_le _ _) t.isLt)).2 := by
    by_cases h1 : t.val % 8 = 7
    · rw [outsAt0_C m c t h h1]
      frame_out
      simp only [read_unread_whole]
    · rw [outsAt0_B m c t h h1]
      frame_out
      simp only [read_unread_whole]
  rw [e, pay_step]

/-- The last step of a run stores the accumulator. -/
theorem out_last (h : t.val % 8 = 7) (y : S256x1024.Idx) : (outsAt0 m c t.val t.isLt).1 y = (outsAt0 m c t.val t.isLt).2 y := by
  have e : (outsAt0 m c t.val t.isLt).1 = (outsAt0 m c t.val t.isLt).2 := by
    rw [outsAt0_C m c t (by omega) h]
    frame_out
  rw [e]

/-- So a block of the result is the product's. -/
theorem out_sum (h : t.val % 8 = 7) (r : Fin 256) (s : Fin 1024) : (outsAt0 m c t.val t.isLt).1 (ix2 r s)
    = product (argA m c) (argB m c) (ix2 r s) := by
  rw [out_last m c t h]
  refine (Pipeline.eq_sum_fin_of_reset_step_apply_of_flush (fun n h => (outsAt0 m c n h).2) 8 (fun _ => (0 : EReal)) _ (acc_first m c)
    (acc_next m c) t h (ix2 r s)).trans ?_
  rw [zero_add]
  refine Fin.sum_mul_add_congr (n := 1024) fun z x hl => ?_
  have e1 : (8 * (t.val / 8) + z.val) = z.val := by have := step_lt t; have := z.isLt; omega
  simp only [e1]

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (flush t hf) (y 0) (y 1)).trans ?_)
  generalize product (argA m c) (argB m c) = X
  blk_ext [idx t]

end Cert.Kernel13Ideal.Product
-- ==== Proof.Products.ForwardFeedIn.lean ====
/- The second feed-forward's first product: the array the kernel leaves is the
   reference's product. -/
module

public import proofs.«01_k».proof.Proof.Gen.Kernel14Ideal.Frame
public import proofs.«01_k».proof.Proof.Gen.Reference14Ideal.Run
public import Idealize.ShloMosaic.Lib.Pipeline.ValueKit
public import Idealize.ShloMosaic.Lib.Pipeline.ReadBack

@[expose] public section

set_option maxRecDepth 16384

noncomputable section

namespace Cert.Kernel14Ideal.Product

open Idealize.ShloMosaic Idealize.ShloMosaic.TcCoe Idealize.ShloMosaic.StableHlo Idealize.SL.Sem Cert.Kernel14Ideal Cert.Kernel14Ideal.Gen

/-- The product, as a sum over 1024 places. -/
def product (a : FVec Ideal S8192x1024 .f32) (b : FVec Ideal S1024x5632 .f32) : FVec Ideal S8192x5632 .bf16 :=
  fun y => ∑ x : Fin 1024, a (ix2 (y 0) x) * b (ix2 x (y 1))

/-- It is the reference's product. -/
theorem reference_eq (a : FVec Ideal S8192x1024 .f32) (b : FVec Ideal S1024x5632 .f32) (hb : FTy.bits .bf16 < FTy.bits .f32) :
    truncf (F := Ideal) .bf16 (Host.dotGeneral (F := Ideal) (φ₁ := .f32) (φ₂ := .f32) Cert.Reference14Ideal.dot_S8192x1024_S1024x5632_S8192x5632_1_0_0_1_n_n none a b) hb = product a b := by
  funext y
  pointwise [product]

variable (m : (ℓ : Loc nD τ sig) → Buf (Elt Ideal) ℓ) (c : Dev nD) (t : Fin cfg0.N)

/-- The first argument. -/
abbrev argA : FVec Ideal S8192x1024 .f32 := m ((c.tc : Thread nD τ).loc main_arg0)

/-- The second argument. -/
abbrev argB : FVec Ideal S1024x5632 .f32 := m ((c.tc : Thread nD τ).loc main_arg1)

theorem step_lt (t : Fin cfg0.N) : t.val < 32 := t.isLt

/-- The block each window takes at a step. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (r : Fin 1024) (x : Fin 1024) : (iblk m c 0 t : Vec Ideal S1024x1024 .bf16) (ix2 r x) = argA m c (ix2 ⟨t.val / 4 * 1024 + r.val, by have := step_lt t; omega⟩ x) := by
  have e : (iblk m c 0 t : Vec Ideal S1024x1024 .bf16) (ix2 r x) = (V m c main_v0 : Vec Ideal S8192x1024 .bf16) (ix2 ⟨t.val / 4 * 1024 + r.val, by have := step_lt t; omega⟩ x) := by
    blk_ext [iblk, idx t]
  rw [e, V_a]
  pointwise

/-- A step's block of it, place by place. -/
theorem blk_b (x : Fin 1024) (s : Fin 1408) : (iblk m c 1 t : Vec Ideal S1024x1408 .bf16) (ix2 x s) = argB m c (ix2 x ⟨t.val % 4 * 1408 + s.val, by have := step_lt t; omega⟩) := by
  have e : (iblk m c 1 t : Vec Ideal S1024x1408 .bf16) (ix2 x s) = (V m c main_v1 : Vec Ideal S1024x5632 .bf16) (ix2 x ⟨t.val % 4 * 1408 + s.val, by have := step_lt t; omega⟩) := by
    blk_ext [iblk, idx t]
  rw [e, V_b]
  pointwise

/-- What a step adds. -/
def term (y : S1024x1408.Idx) : EReal := ∑ x : Fin 1024,
  argA m c (ix2 ⟨t.val / 4 * 1024 + (y 0).val, by have := step_lt t; have : (y 0).val < 1024 := (y 0).isLt; omega⟩ x)
    * argB m c (ix2 x ⟨t.val % 4 * 1408 + (y 1).val, by have := step_lt t; have : (y 1).val < 1408 := (y 1).isLt; omega⟩)

theorem pay_zero (y : S1024x1408.Idx) : k0_pay1 (F := Ideal) y = 0 := by pointwise [k0_pay1]

theorem pay_at (A : FVec Ideal S1024x1024 .bf16) (B : FVec Ideal S1024x1408 .bf16) (acc : FVec Ideal S1024x1408 .f32) (y : S1024x1408.Idx) :
    k0_pay2 (F := Ideal) A B acc y = acc y + ∑ x : Fin 1024, A (ix2 (y 0) x) * B (ix2 x (y 1)) := by
  pointwise [k0_pay2]

/-- A step adds its term to the accumulator. -/
theorem pay_step (acc : Vec Ideal S1024x1408 .f32) (y : S1024x1408.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t (y 0) x) (blk_b m c t x (y 1))))

theorem pay_out (A : FVec Ideal S1024x1408 .f32) (y : S1024x1408.Idx) : k0_pay3 (F := Ideal) A y = A y := by pointwise [k0_pay3]

/-- A block of the result is the product's. -/
theorem out_sum (r : Fin 1024) (s : Fin 1408) : outsAt0 m c t (ix2 r s) = product (argA m c) (argB m c) (ix2 ⟨t.val / 4 * 1024 + r.val, by have := step_lt t; omega⟩ ⟨t.val % 4 * 1408 + s.val, by have := step_lt t; omega⟩) := by
  have e : outsAt0 m c t = k0_pay3 (k0_pay2 (iblk m c 0 t) (iblk m c 1 t) (k0_pay1 (F := Ideal))) := by
    unfold outsAt0
    frame_out
  rw [e, pay_out, pay_step, pay_zero, zero_add]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (y 0) (y 1)).trans ?_)
  generalize product (argA m c) (argB m c) = X
  blk_ext [idx t]

end Cert.Kernel14Ideal.Product
-- ==== Proof.Products.ForwardFeedOut.lean ====
/- The second feed-forward's second product: the array the kernel leaves is the
   reference's product. -/
module

public import proofs.«01_k».proof.Proof.Gen.Kernel15Ideal.Frame
public import proofs.«01_k».proof.Proof.Gen.Reference15Ideal.Run
public import Idealize.ShloMosaic.Lib.Pipeline.ValueKit
public import Idealize.ShloMosaic.Lib.Pipeline.ReadBack

@[expose] public section

set_option maxRecDepth 16384

noncomputable section

namespace Cert.Kernel15Ideal.Product

open Idealize.ShloMosaic Idealize.ShloMosaic.TcCoe Idealize.ShloMosaic.StableHlo Idealize.SL.Sem Cert.Kernel15Ideal Cert.Kernel15Ideal.Gen

/-- The product, as a sum over 2816 places. -/
def product (a : FVec Ideal S8192x2816 .f32) (b : FVec Ideal S2816x1024 .f32) : FVec Ideal S8192x1024 .f32 :=
  fun y => ∑ x : Fin 2816, a (ix2 (y 0) x) * b (ix2 x (y 1))

/-- It is the reference's product. -/
theorem reference_eq (a : FVec Ideal S8192x2816 .f32) (b : FVec Ideal S2816x1024 .f32) :
    Host.dotGeneral (F := Ideal) (φ₁ := .f32) (φ₂ := .f32) Cert.Reference15Ideal.dot_S8192x2816_S2816x1024_S8192x1024_1_0_0_1_n_n none a b = product a b := by
  funext y
  pointwise [product]

variable (m : (ℓ : Loc nD τ sig) → Buf (Elt Ideal) ℓ) (c : Dev nD) (t : Fin cfg0.N)

/-- The first argument. -/
abbrev argA : FVec Ideal S8192x2816 .f32 := m ((c.tc : Thread nD τ).loc main_arg0)

/-- The second argument. -/
abbrev argB : FVec Ideal S2816x1024 .f32 := m ((c.tc : Thread nD τ).loc main_arg1)

theorem step_lt (t : Fin cfg0.N) : t.val < 16 := t.isLt

/-- The block each window takes at a step. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The result's block is written back at the last step of its run. -/
theorem flush : ∀ t : Fin cfg0.N, (cfg0.win 2).flush t = true → t.val % 2 = 1 := (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (r : Fin 1024) (x : Fin 1408) : (iblk m c 0 t : Vec Ideal S1024x1408 .bf16) (ix2 r x) = argA m c (ix2 ⟨t.val / 2 * 1024 + r.val, by have := step_lt t; omega⟩ ⟨t.val % 2 * 1408 + x.val, by have := step_lt t; omega⟩) := by
  have e : (iblk m c 0 t : Vec Ideal S1024x1408 .bf16) (ix2 r x) = (V m c main_v0 : Vec Ideal S8192x2816 .bf16) (ix2 ⟨t.val / 2 * 1024 + r.val, by have := step_lt t; omega⟩ ⟨t.val % 2 * 1408 + x.val, by have := step_lt t; omega⟩) := by
    blk_ext [iblk, idx t]
  rw [e, V_a]
  pointwise

/-- A step's block of it, place by place. -/
theorem blk_b (x : Fin 1408) (s : Fin 1024) : (iblk m c 1 t : Vec Ideal S1408x1024 .bf16) (ix2 x s) = argB m c (ix2 ⟨t.val % 2 * 1408 + x.val, by have := step_lt t; omega⟩ s) := by
  have e : (iblk m c 1 t : Vec Ideal S1408x1024 .bf16) (ix2 x s) = (V m c main_v1 : Vec Ideal S2816x1024 .bf16) (ix2 ⟨t.val % 2 * 1408 + x.val, by have := step_lt t; omega⟩ s) := by
    blk_ext [iblk, idx t]
  rw [e, V_b]
  pointwise

/-- What a step adds. -/
def term (y : S1024x1024.Idx) : EReal := ∑ x : Fin 1408,
  argA m c (ix2 ⟨t.val / 2 * 1024 + (y 0).val, by have := step_lt t; have : (y 0).val < 1024 := (y 0).isLt; omega⟩ ⟨t.val % 2 * 1408 + x.val, by have := step_lt t; omega⟩)
    * argB m c (ix2 ⟨t.val % 2 * 1408 + x.val, by have := step_lt t; omega⟩ (y 1))

theorem pay_zero (y : S1024x1024.Idx) : k0_pay1 (F := Ideal) y = 0 := by pointwise [k0_pay1]

theorem pay_at (A : FVec Ideal S1024x1408 .bf16) (B : FVec Ideal S1408x1024 .bf16) (acc : FVec Ideal S1024x1024 .f32) (y : S1024x1024.Idx) :
    k0_pay2 (F := Ideal) A B acc y = acc y + ∑ x : Fin 1408, A (ix2 (y 0) x) * B (ix2 x (y 1)) := by
  pointwise [k0_pay2]

/-- A step adds its term to the accumulator. -/
theorem pay_step (acc : Vec Ideal S1024x1024 .f32) (y : S1024x1024.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t (y 0) x) (blk_b m c t x (y 1))))

/-- The first step of a run sets the accumulator to its term. -/
theorem acc_first (h : t.val % 2 = 0) (y : S1024x1024.Idx) : (outsAt0 m c t.val t.isLt).2 y = 0 + term m c t y := by
  have e : (outsAt0 m c t.val t.isLt).2 = k0_pay2 (iblk m c 0 t) (iblk m c 1 t) (k0_pay1 (F := Ideal)) := by
    rw [outsAt0_A m c t h (by omega)]
    frame_out
  rw [e, pay_step, pay_zero]

/-- A later step adds its term to what the step before left. -/
theorem acc_next (h : ¬t.val % 2 = 0) (y : S1024x1024.Idx) : (outsAt0 m c t.val t.isLt).2 y
    = (outsAt0 m c (t.val - 1) (Nat.lt_of_le_of_lt (Nat.sub_le _ _) t.isLt)).2 y + term m c t y := by
  have e : (outsAt0 m c t.val t.isLt).2 = k0_pay2 (iblk m c 0 t) (iblk m c 1 t) (outsAt0 m c (t.val - 1) (Nat.lt_of_le_of_lt (Nat.sub_le _ _) t.isLt)).2 := by
    rw [outsAt0_B m c t h (by omega)]
    frame_out
    simp only [read_unread_whole]
  rw [e, pay_step]

/-- The last step of a run stores the accumulator. -/
theorem out_last (h : t.val % 2 = 1) (y : S1024x1024.Idx) : (outsAt0 m c t.val t.isLt).1 y = (outsAt0 m c t.val t.isLt).2 y := by
  have e : (outsAt0 m c t.val t.isLt).1 = (outsAt0 m c t.val t.isLt).2 := by
    rw [outsAt0_B m c t (by omega) h]
    frame_out
  rw [e]

/-- So a block of the result is the product's. -/
theorem out_sum (h : t.val % 2 = 1) (r : Fin 1024) (s : Fin 1024) : (outsAt0 m c t.val t.isLt).1 (ix2 r s)
    = product (argA m c) (argB m c) (ix2 ⟨t.val / 2 * 1024 + r.val, by have := step_lt t; omega⟩ s) := by
  rw [out_last m c t h]
  refine (Pipeline.eq_sum_fin_of_reset_step_apply_of_flush (fun n h => (outsAt0 m c n h).2) 2 (fun _ => (0 : EReal)) _ (acc_first m c)
    (acc_next m c) t h (ix2 r s)).trans ?_
  rw [zero_add]
  refine Fin.sum_mul_add_congr (n := 1408) fun z x hl => ?_
  have e1 : (2 * (t.val / 2) + z.val) % 2 = z.val := by have := step_lt t; have := z.isLt; omega
  have e2 : (2 * (t.val / 2) + z.val) / 2 = t.val / 2 := by omega
  simp only [e1, e2]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (flush t hf) (y 0) (y 1)).trans ?_)
  generalize product (argA m c) (argB m c) = X
  blk_ext [idx t]

end Cert.Kernel15Ideal.Product
-- ==== Proof.Products.ForwardQueries.lean ====
/- The queries' product, its columns packed to 1024: the array the kernel leaves is the
   reference's product. -/
module

public import proofs.«01_k».proof.Proof.Gen.Kernel16Ideal.Frame
public import proofs.«01_k».proof.Proof.Gen.Reference16Ideal.Run
public import Idealize.ShloMosaic.Lib.Pipeline.ValueKit
public import Idealize.ShloMosaic.Lib.Pipeline.ReadBack

@[expose] public section

set_option maxRecDepth 16384

noncomputable section

namespace Cert.Kernel16Ideal.Product

open Idealize.ShloMosaic Idealize.ShloMosaic.TcCoe Idealize.ShloMosaic.StableHlo Idealize.SL.Sem Cert.Kernel16Ideal Cert.Kernel16Ideal.Gen

/-- The product, as a sum over 384 places. -/
def product (a : FVec Ideal S8192x384 .f32) (b : FVec Ideal S384x1024 .f32) : FVec Ideal S8192x1024 .f32 :=
  fun y => ∑ x : Fin 384, a (ix2 (y 0) x) * b (ix2 x (y 1))

/-- It is the reference's product. -/
theorem reference_eq (a : FVec Ideal S8192x384 .f32) (b : FVec Ideal S384x1024 .f32) :
    Host.dotGeneral (F := Ideal) (φ₁ := .f32) (φ₂ := .f32) Cert.Reference16Ideal.dot_S8192x384_S384x1024_S8192x1024_1_0_0_1_n_n none a b = product a b := by
  funext y
  pointwise [product]

variable (m : (ℓ : Loc nD τ sig) → Buf (Elt Ideal) ℓ) (c : Dev nD) (t : Fin cfg0.N)

/-- The first argument. -/
abbrev argA : FVec Ideal S8192x384 .f32 := m ((c.tc : Thread nD τ).loc main_arg0)

/-- The second argument. -/
abbrev argB : FVec Ideal S384x1024 .f32 := m ((c.tc : Thread nD τ).loc main_arg1)

theorem step_lt (t : Fin cfg0.N) : t.val < 8 := t.isLt

/-- The block each window takes at a step. -/
theorem idx : ∀ t : Fin cfg0.N, win0_0.index t = ![t.val, 0] ∧ win0_1.index t = ![0, 0] ∧ win0_2.index t = ![t.val, 0] :=
  (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (r : Fin 1024) (x : Fin 384) : (iblk m c 0 t : Vec Ideal S1024x384 .bf16) (ix2 r x) = argA m c (ix2 ⟨t.val * 1024 + r.val, by have := step_lt t; omega⟩ x) := by
  have e : (iblk m c 0 t : Vec Ideal S1024x384 .bf16) (ix2 r x) = (V m c main_v0 : Vec Ideal S8192x384 .bf16) (ix2 ⟨t.val * 1024 + r.val, by have := step_lt t; omega⟩ x) := by
    blk_ext [iblk, idx t]
  rw [e, V_a]
  pointwise

/-- A step's block of it, place by place. -/
theorem blk_b (x : Fin 384) (s : Fin 1024) : (iblk m c 1 t : Vec Ideal S384x1024 .bf16) (ix2 x s) = argB m c (ix2 x s) := by
  have e : (iblk m c 1 t : Vec Ideal S384x1024 .bf16) (ix2 x s) = (V m c main_v1 : Vec Ideal S384x1024 .bf16) (ix2 x s) := by
    blk_ext [iblk, idx t]
  rw [e, V_b]
  pointwise

/-- What a step adds. -/
def term (y : S1024x1024.Idx) : EReal := ∑ x : Fin 384,
  argA m c (ix2 ⟨t.val * 1024 + (y 0).val, by have := step_lt t; have : (y 0).val < 1024 := (y 0).isLt; omega⟩ x)
    * argB m c (ix2 x (y 1))

theorem pay_zero (y : S1024x1024.Idx) : k0_pay1 (F := Ideal) y = 0 := by pointwise [k0_pay1]

theorem pay_at (A : FVec Ideal S1024x384 .bf16) (B : FVec Ideal S384x1024 .bf16) (acc : FVec Ideal S1024x1024 .f32) (y : S1024x1024.Idx) :
    k0_pay2 (F := Ideal) A B acc y = acc y + ∑ x : Fin 384, A (ix2 (y 0) x) * B (ix2 x (y 1)) := by
  pointwise [k0_pay2]

/-- A step adds its term to the accumulator. -/
theorem pay_step (acc : Vec Ideal S1024x1024 .f32) (y : S1024x1024.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t (y 0) x) (blk_b m c t x (y 1))))

/-- A block of the result is the product's. -/
theorem out_sum (r : Fin 1024) (s : Fin 1024) : outsAt0 m c t (ix2 r s) = product (argA m c) (argB m c) (ix2 ⟨t.val * 1024 + r.val, by have := step_lt t; omega⟩ s) := by
  have e : outsAt0 m c t = k0_pay2 (iblk m c 0 t) (iblk m c 1 t) (k0_pay1 (F := Ideal)) := by
    unfold outsAt0
    frame_out
  rw [e, pay_step, pay_zero, zero_add]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (y 0) (y 1)).trans ?_)
  generalize product (argA m c) (argB m c) = X
  blk_ext [idx t]

end Cert.Kernel16Ideal.Product
-- ==== Proof.Products.ForwardKeysValues.lean ====
/- The keys' and values' product: the array the kernel leaves is the
   reference's product. -/
module

public import proofs.«01_k».proof.Proof.Gen.Kernel17Ideal.Frame
public import proofs.«01_k».proof.Proof.Gen.Reference17Ideal.Run
public import Idealize.ShloMosaic.Lib.Pipeline.ValueKit
public import Idealize.ShloMosaic.Lib.Pipeline.ReadBack

@[expose] public section

set_option maxRecDepth 16384

noncomputable section

namespace Cert.Kernel17Ideal.Product

open Idealize.ShloMosaic Idealize.ShloMosaic.TcCoe Idealize.ShloMosaic.StableHlo Idealize.SL.Sem Cert.Kernel17Ideal Cert.Kernel17Ideal.Gen

/-- The product, as a sum over 256 places. -/
def product (a : FVec Ideal S8192x256 .f32) (b : FVec Ideal S256x1024 .f32) : FVec Ideal S8192x1024 .f32 :=
  fun y => ∑ x : Fin 256, a (ix2 (y 0) x) * b (ix2 x (y 1))

/-- It is the reference's product. -/
theorem reference_eq (a : FVec Ideal S8192x256 .f32) (b : FVec Ideal S256x1024 .f32) :
    Host.dotGeneral (F := Ideal) (φ₁ := .f32) (φ₂ := .f32) Cert.Reference17Ideal.dot_S8192x256_S256x1024_S8192x1024_1_0_0_1_n_n none a b = product a b := by
  funext y
  pointwise [product]

variable (m : (ℓ : Loc nD τ sig) → Buf (Elt Ideal) ℓ) (c : Dev nD) (t : Fin cfg0.N)

/-- The first argument. -/
abbrev argA : FVec Ideal S8192x256 .f32 := m ((c.tc : Thread nD τ).loc main_arg0)

/-- The second argument. -/
abbrev argB : FVec Ideal S256x1024 .f32 := m ((c.tc : Thread nD τ).loc main_arg1)

theorem step_lt (t : Fin cfg0.N) : t.val < 8 := t.isLt

/-- The block each window takes at a step. -/
theorem idx : ∀ t : Fin cfg0.N, win0_0.index t = ![t.val, 0] ∧ win0_1.index t = ![0, 0] ∧ win0_2.index t = ![t.val, 0] :=
  (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (r : Fin 1024) (x : Fin 256) : (iblk m c 0 t : Vec Ideal S1024x256 .bf16) (ix2 r x) = argA m c (ix2 ⟨t.val * 1024 + r.val, by have := step_lt t; omega⟩ x) := by
  have e : (iblk m c 0 t : Vec Ideal S1024x256 .bf16) (ix2 r x) = (V m c main_v0 : Vec Ideal S8192x256 .bf16) (ix2 ⟨t.val * 1024 + r.val, by have := step_lt t; omega⟩ x) := by
    blk_ext [iblk, idx t]
  rw [e, V_a]
  pointwise

/-- A step's block of it, place by place. -/
theorem blk_b (x : Fin 256) (s : Fin 1024) : (iblk m c 1 t : Vec Ideal S256x1024 .bf16) (ix2 x s) = argB m c (ix2 x s) := by
  have e : (iblk m c 1 t : Vec Ideal S256x1024 .bf16) (ix2 x s) = (V m c main_v1 : Vec Ideal S256x1024 .bf16) (ix2 x s) := by
    blk_ext [iblk, idx t]
  rw [e, V_b]
  pointwise

/-- What a step adds. -/
def term (y : S1024x1024.Idx) : EReal := ∑ x : Fin 256,
  argA m c (ix2 ⟨t.val * 1024 + (y 0).val, by have := step_lt t; have : (y 0).val < 1024 := (y 0).isLt; omega⟩ x)
    * argB m c (ix2 x (y 1))

theorem pay_zero (y : S1024x1024.Idx) : k0_pay1 (F := Ideal) y = 0 := by pointwise [k0_pay1]

theorem pay_at (A : FVec Ideal S1024x256 .bf16) (B : FVec Ideal S256x1024 .bf16) (acc : FVec Ideal S1024x1024 .f32) (y : S1024x1024.Idx) :
    k0_pay2 (F := Ideal) A B acc y = acc y + ∑ x : Fin 256, A (ix2 (y 0) x) * B (ix2 x (y 1)) := by
  pointwise [k0_pay2]

/-- A step adds its term to the accumulator. -/
theorem pay_step (acc : Vec Ideal S1024x1024 .f32) (y : S1024x1024.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t (y 0) x) (blk_b m c t x (y 1))))

/-- A block of the result is the product's. -/
theorem out_sum (r : Fin 1024) (s : Fin 1024) : outsAt0 m c t (ix2 r s) = product (argA m c) (argB m c) (ix2 ⟨t.val * 1024 + r.val, by have := step_lt t; omega⟩ s) := by
  have e : outsAt0 m c t = k0_pay2 (iblk m c 0 t) (iblk m c 1 t) (k0_pay1 (F := Ideal)) := by
    unfold outsAt0
    frame_out
  rw [e, pay_step, pay_zero, zero_add]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (y 0) (y 1)).trans ?_)
  generalize product (argA m c) (argB m c) = X
  blk_ext [idx t]

end Cert.Kernel17Ideal.Product
-- ==== Proof.Products.ForwardMixOut.lean ====
/- The mixer's product: the array the kernel leaves is the
   reference's product. -/
module

public import proofs.«01_k».proof.Proof.Gen.Kernel18Ideal.Frame
public import proofs.«01_k».proof.Proof.Gen.Reference18Ideal.Run
public import Idealize.ShloMosaic.Lib.Pipeline.ValueKit
public import Idealize.ShloMosaic.Lib.Pipeline.ReadBack

@[expose] public section

set_option maxRecDepth 16384

noncomputable section

namespace Cert.Kernel18Ideal.Product

open Idealize.ShloMosaic Idealize.ShloMosaic.TcCoe Idealize.ShloMosaic.StableHlo Idealize.SL.Sem Cert.Kernel18Ideal Cert.Kernel18Ideal.Gen

/-- The product, as a sum over 1024 places. -/
def product (a : FVec Ideal S8192x1024 .f32) (b : FVec Ideal S1024x1024 .f32) : FVec Ideal S8192x1024 .f32 :=
  fun y => ∑ x : Fin 1024, a (ix2 (y 0) x) * b (ix2 x (y 1))

/-- It is the reference's product. -/
theorem reference_eq (a : FVec Ideal S8192x1024 .f32) (b : FVec Ideal S1024x1024 .f32) :
    Host.dotGeneral (F := Ideal) (φ₁ := .f32) (φ₂ := .f32) Cert.Reference18Ideal.dot_S8192x1024_S1024x1024_S8192x1024_1_0_0_1_n_n none a b = product a b := by
  funext y
  pointwise [product]

variable (m : (ℓ : Loc nD τ sig) → Buf (Elt Ideal) ℓ) (c : Dev nD) (t : Fin cfg0.N)

/-- The first argument. -/
abbrev argA : FVec Ideal S8192x1024 .f32 := m ((c.tc : Thread nD τ).loc main_arg0)

/-- The second argument. -/
abbrev argB : FVec Ideal S1024x1024 .f32 := m ((c.tc : Thread nD τ).loc main_arg1)

theorem step_lt (t : Fin cfg0.N) : t.val < 8 := t.isLt

/-- The block each window takes at a step. -/
theorem idx : ∀ t : Fin cfg0.N, win0_0.index t = ![t.val, 0] ∧ win0_1.index t = ![0, 0] ∧ win0_2.index t = ![t.val, 0] :=
  (by decide +kernel : ∀ t : Fin grid0.N, _)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The call's operand holds the argument, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_a (r : Fin 1024) (x : Fin 1024) : (iblk m c 0 t : Vec Ideal S1024x1024 .bf16) (ix2 r x) = argA m c (ix2 ⟨t.val * 1024 + r.val, by have := step_lt t; omega⟩ x) := by
  have e : (iblk m c 0 t : Vec Ideal S1024x1024 .bf16) (ix2 r x) = (V m c main_v0 : Vec Ideal S8192x1024 .bf16) (ix2 ⟨t.val * 1024 + r.val, by have := step_lt t; omega⟩ x) := by
    blk_ext [iblk, idx t]
  rw [e, V_a]
  pointwise

/-- A step's block of it, place by place. -/
theorem blk_b (x : Fin 1024) (s : Fin 1024) : (iblk m c 1 t : Vec Ideal S1024x1024 .bf16) (ix2 x s) = argB m c (ix2 x s) := by
  have e : (iblk m c 1 t : Vec Ideal S1024x1024 .bf16) (ix2 x s) = (V m c main_v1 : Vec Ideal S1024x1024 .bf16) (ix2 x s) := by
    blk_ext [iblk, idx t]
  rw [e, V_b]
  pointwise

/-- What a step adds. -/
def term (y : S1024x1024.Idx) : EReal := ∑ x : Fin 1024,
  argA m c (ix2 ⟨t.val * 1024 + (y 0).val, by have := step_lt t; have : (y 0).val < 1024 := (y 0).isLt; omega⟩ x)
    * argB m c (ix2 x (y 1))

theorem pay_zero (y : S1024x1024.Idx) : k0_pay1 (F := Ideal) y = 0 := by pointwise [k0_pay1]

theorem pay_at (A : FVec Ideal S1024x1024 .bf16) (B : FVec Ideal S1024x1024 .bf16) (acc : FVec Ideal S1024x1024 .f32) (y : S1024x1024.Idx) :
    k0_pay2 (F := Ideal) A B acc y = acc y + ∑ x : Fin 1024, A (ix2 (y 0) x) * B (ix2 x (y 1)) := by
  pointwise [k0_pay2]

/-- A step adds its term to the accumulator. -/
theorem pay_step (acc : Vec Ideal S1024x1024 .f32) (y : S1024x1024.Idx) : k0_pay2 (F := Ideal) (iblk m c 0 t) (iblk m c 1 t) acc y = acc y + term m c t y :=
  (pay_at _ _ acc y).trans (congrArg (acc y + ·) (Finset.sum_congr rfl fun x _ =>
    congrArg₂ (fun a b : EReal => a * b) (blk_a m c t (y 0) x) (blk_b m c t x (y 1))))

/-- A block of the result is the product's. -/
theorem out_sum (r : Fin 1024) (s : Fin 1024) : outsAt0 m c t (ix2 r s) = product (argA m c) (argB m c) (ix2 ⟨t.val * 1024 + r.val, by have := step_lt t; omega⟩ s) := by
  have e : outsAt0 m c t = k0_pay2 (iblk m c 0 t) (iblk m c 1 t) (k0_pay1 (F := Ideal)) := by
    unfold outsAt0
    frame_out
  rw [e, pay_step, pay_zero, zero_add]
  rfl

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_sum m c t (y 0) (y 1)).trans ?_)
  generalize product (argA m c) (argB m c) = X
  blk_ext [idx t]

end Cert.Kernel18Ideal.Product
-- ==== Proof.Gates.GateGrad.lean ====
/- The gradient of the feed-forwards' gate: the array the kernel leaves is the reference's. -/
module

public import proofs.«01_k».proof.Proof.Gen.Kernel26Ideal.Frame
public import proofs.«01_k».proof.Proof.Gen.Reference26Ideal.Run
public import Idealize.ShloMosaic.Lib.Pipeline.ValueKit
public import Idealize.ShloMosaic.Lib.Pipeline.ReadBack

@[expose] public section

set_option maxRecDepth 16384

noncomputable section

namespace Cert.Kernel26Ideal.Gate

open Idealize.ShloMosaic Idealize.ShloMosaic.TcCoe Idealize.ShloMosaic.StableHlo Idealize.SL.Sem Cert.Kernel26Ideal Cert.Kernel26Ideal.Gen

/-- The logistic function is the reference's quotient. -/
theorem logistic_eq (g : EReal) : Ideal.div 1 (1 + Ideal.exp (-g)) = Ideal.logistic g := rfl

/-- A column's place in the left half of the 5632 columns. -/
abbrev lft (x : Fin 2816) : Fin 5632 := ⟨x.val, by have := x.isLt; omega⟩

/-- A column's place in the right half. -/
abbrev rgt (x : Fin 2816) : Fin 5632 := ⟨2816 + x.val, by have := x.isLt; omega⟩

variable (m : (ℓ : Loc nD τ sig) → Buf (Elt Ideal) ℓ) (c : Dev nD) (t : Fin cfg0.N)

theorem step_lt (t : Fin cfg0.N) : t.val < 32 := t.isLt

/-- The row a step's row stands at. -/
abbrev row (t : Fin cfg0.N) (r : Fin 256) : Fin 8192 := ⟨t.val * 256 + r.val, by have := step_lt t; have := r.isLt; omega⟩

/-- The first product of the feed-forward, gate and other side next to each other. -/
abbrev argA : FVec Ideal S8192x5632 .f32 := m ((c.tc : Thread nD τ).loc main_arg0)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The block each window takes at a step. -/
theorem idx : ∀ t : Fin cfg0.N, win0_0.index t = ![t.val, 0] ∧ win0_1.index t = ![t.val, 1] ∧ win0_2.index t = ![t.val, 0] ∧ win0_3.index t = ![t.val, 0] :=
  (by decide +kernel : ∀ t : Fin grid0.N, _)

/-- The first window's block is the gate's side. -/
theorem blk_a (r : Fin 256) (x : Fin 2816) : (iblk m c 0 t : Vec Ideal S256x2816 .bf16) (ix2 r x) = argA m c (ix2 (row t r) (lft x)) := by
  have e : (iblk m c 0 t : Vec Ideal S256x2816 .bf16) (ix2 r x) = (V m c main_v0 : Vec Ideal S8192x5632 .bf16) (ix2 (row t r) (lft x)) := by
    blk_ext [iblk, idx t]
  rw [e, V_a]
  pointwise

/-- The second window's block is the other side. -/
theorem blk_b (r : Fin 256) (x : Fin 2816) : (iblk m c 1 t : Vec Ideal S256x2816 .bf16) (ix2 r x) = argA m c (ix2 (row t r) (rgt x)) := by
  have e : (iblk m c 1 t : Vec Ideal S256x2816 .bf16) (ix2 r x) = (V m c main_v0 : Vec Ideal S8192x5632 .bf16) (ix2 (row t r) (rgt x)) := by
    blk_ext [iblk, idx t]
  rw [e, V_a]
  pointwise

/-- The gradient of the feed-forward's hidden array. -/
abbrev argB : FVec Ideal S8192x2816 .f32 := m ((c.tc : Thread nD τ).loc main_arg1)

/-- The call's operand holds it, narrowed. -/
theorem V_b : V m c main_v1 = truncf (F := Ideal) .bf16 (argB m c) bitsLt_bf16_f32 := by
  simp only [V, hostOps0, TRef.binary, TRef.nullary, TRef.ternary, TRef.unary, TRef.toBuf, TRef.ofBuf, cast_eq]
  after_results_simp <;> rfl

/-- A step's block of it, place by place. -/
theorem blk_c (r : Fin 256) (x : Fin 2816) : (iblk m c 2 t : Vec Ideal S256x2816 .bf16) (ix2 r x) = argB m c (ix2 (row t r) x) := by
  have e : (iblk m c 2 t : Vec Ideal S256x2816 .bf16) (ix2 r x) = (V m c main_v1 : Vec Ideal S8192x2816 .bf16) (ix2 (row t r) x) := by
    blk_ext [iblk, idx t]
  rw [e, V_b]
  pointwise

/-- The gradient in the gate's side at one place. -/
def dgate (g u d : EReal) : EReal :=
  d * u * Ideal.logistic g + g * (d * u) * (Ideal.logistic g * (1 - Ideal.logistic g))

/-- The gradient in the other side at one place. -/
def dside (g d : EReal) : EReal := g * Ideal.logistic g * d

/-- The reference's gradient, both sides next to each other. -/
def gradient (a : FVec Ideal S8192x5632 .f32) (b : FVec Ideal S8192x2816 .f32) : FVec Ideal S8192x5632 .bf16 :=
  truncf (F := Ideal) .bf16 (concatenate Cert.Reference26Ideal.S8192x5632 1 [⟨Cert.Reference26Ideal.S8192x2816, (addf (mulf (mulf b (extractStridedSlice Cert.Reference26Ideal.S8192x2816 ![0, 2816] a Cert.Reference26Ideal.Gen.slices_S8192x5632_S8192x2816_0_2816)) (Host.divf (broadcastInDim Cert.Reference26Ideal.S8192x2816 ![] Cert.Reference26Ideal.Gen.bcast_S_S8192x2816 (constant Cert.Reference26Ideal.S_ .f32 0x3F800000#32)) (addf (broadcastInDim Cert.Reference26Ideal.S8192x2816 ![] Cert.Reference26Ideal.Gen.bcast_S_S8192x2816 (constant Cert.Reference26Ideal.S_ .f32 0x3F800000#32)) (Host.exp (Host.negf (extractStridedSlice Cert.Reference26Ideal.S8192x2816 ![0, 0] a Cert.Reference26Ideal.Gen.slices_S8192x5632_S8192x2816_0_0)))))) (mulf (mulf (extractStridedSlice Cert.Reference26Ideal.S8192x2816 ![0, 0] a Cert.Reference26Ideal.Gen.slices_S8192x5632_S8192x2816_0_0) (mulf b (extractStridedSlice Cert.Reference26Ideal.S8192x2816 ![0, 2816] a Cert.Reference26Ideal.Gen.slices_S8192x5632_S8192x2816_0_2816))) (mulf (Host.divf (broadcastInDim Cert.Reference26Ideal.S8192x2816 ![] Cert.Reference26Ideal.Gen.bcast_S_S8192x2816 (constant Cert.Reference26Ideal.S_ .f32 0x3F800000#32)) (addf (broadcastInDim Cert.Reference26Ideal.S8192x2816 ![] Cert.Reference26Ideal.Gen.bcast_S_S8192x2816 (constant Cert.Reference26Ideal.S_ .f32 0x3F800000#32)) (Host.exp (Host.negf (extractStridedSlice Cert.Reference26Ideal.S8192x2816 ![0, 0] a Cert.Reference26Ideal.Gen.slices_S8192x5632_S8192x2816_0_0))))) (subf (broadcastInDim Cert.Reference26Ideal.S8192x2816 ![] Cert.Reference26Ideal.Gen.bcast_S_S8192x2816 (constant Cert.Reference26Ideal.S_ .f32 0x3F800000#32)) (Host.divf (broadcastInDim Cert.Reference26Ideal.S8192x2816 ![] Cert.Reference26Ideal.Gen.bcast_S_S8192x2816 (constant Cert.Reference26Ideal.S_ .f32 0x3F800000#32)) (addf (broadcastInDim Cert.Reference26Ideal.S8192x2816 ![] Cert.Reference26Ideal.Gen.bcast_S_S8192x2816 (constant Cert.Reference26Ideal.S_ .f32 0x3F800000#32)) (Host.exp (Host.negf (extractStridedSlice Cert.Reference26Ideal.S8192x2816 ![0, 0] a Cert.Reference26Ideal.Gen.slices_S8192x5632_S8192x2816_0_0)))))))))⟩, ⟨Cert.Reference26Ideal.S8192x2816, (mulf (mulf (extractStridedSlice Cert.Reference26Ideal.S8192x2816 ![0, 0] a Cert.Reference26Ideal.Gen.slices_S8192x5632_S8192x2816_0_0) (Host.divf (broadcastInDim Cert.Reference26Ideal.S8192x2816 ![] Cert.Reference26Ideal.Gen.bcast_S_S8192x2816 (constant Cert.Reference26Ideal.S_ .f32 0x3F800000#32)) (addf (broadcastInDim Cert.Reference26Ideal.S8192x2816 ![] Cert.Reference26Ideal.Gen.bcast_S_S8192x2816 (constant Cert.Reference26Ideal.S_ .f32 0x3F800000#32)) (Host.exp (Host.negf (extractStridedSlice Cert.Reference26Ideal.S8192x2816 ![0, 0] a Cert.Reference26Ideal.Gen.slices_S8192x5632_S8192x2816_0_0)))))) b)⟩] Cert.Reference26Ideal.Gen.concatenates_S8192x2816_S8192x2816_S8192x5632_d1) Cert.Reference26Ideal.Gen.bitsLt_bf16_f32

/-- The gradient in the left half. -/
theorem gradient_left (a : FVec Ideal S8192x5632 .f32) (b : FVec Ideal S8192x2816 .f32) (r : Fin 8192) (x : Fin 2816) :
    gradient a b (ix2 r (lft x)) = dgate (a (ix2 r (lft x))) (a (ix2 r (rgt x))) (b (ix2 r x)) := by
  unfold gradient
  rw [truncf_apply]
  refine (concatenate_pair_apply_left (t := S8192x5632) (s₁ := S8192x2816) (s₂ := S8192x2816) 1 _ _ _ (ix2 r (lft x)) rfl (ix2 r x) (fun b => by fin_cases b <;> rfl)).trans ?_
  pointwise [dgate, logistic_eq, lft, rgt]

/-- The gradient in the right half. -/
theorem gradient_right (a : FVec Ideal S8192x5632 .f32) (b : FVec Ideal S8192x2816 .f32) (r : Fin 8192) (x : Fin 2816) :
    gradient a b (ix2 r (rgt x)) = dside (a (ix2 r (lft x))) (b (ix2 r x)) := by
  unfold gradient
  rw [truncf_apply]
  refine (concatenate_pair_apply_right (t := S8192x5632) (s₁ := S8192x2816) (s₂ := S8192x2816) 1 _ _ _ (ix2 r (rgt x)) rfl rfl (ix2 r x) (fun b hb => by fin_cases b <;> first | rfl | exact absurd rfl hb) (Nat.add_comm x.val 2816)).trans ?_
  pointwise [dside, logistic_eq, lft, rgt]

section
variable (G U D : FVec Ideal S256x2816 .bf16) (r : Fin 256) (x : Fin 2816)

/-- What a step stores in the left half. -/
theorem pay_left : k0_pay1 (F := Ideal) G U D (ix2 r (lft x)) = dgate (G (ix2 r x)) (U (ix2 r x)) (D (ix2 r x)) := by
  unfold k0_pay1
  rw [truncf_apply]
  refine (concatenate_pair_apply_left (t := S256x5632) (s₁ := S256x2816) (s₂ := S256x2816) 1 _ _ _ (ix2 r (lft x)) rfl (ix2 r x) (fun b => by fin_cases b <;> rfl)).trans ?_
  pointwise [dgate]

/-- What a step stores in the right half. -/
theorem pay_right : k0_pay1 (F := Ideal) G U D (ix2 r (rgt x)) = dside (G (ix2 r x)) (D (ix2 r x)) := by
  unfold k0_pay1
  rw [truncf_apply]
  refine (concatenate_pair_apply_right (t := S256x5632) (s₁ := S256x2816) (s₂ := S256x2816) 1 _ _ _ (ix2 r (rgt x)) rfl rfl (ix2 r x) (fun b hb => by fin_cases b <;> first | rfl | exact absurd rfl hb) (Nat.add_comm x.val 2816)).trans ?_
  pointwise [dside]

end

/-- A block of the result is the gradient's. -/
theorem out_at (r : Fin 256) (z : Fin 5632) : (out0_3 (iblk m c 0 t) (iblk m c 1 t) (iblk m c 2 t) : Vec Ideal S256x5632 .bf16) (ix2 r z) = gradient (argA m c) (argB m c) (ix2 (row t r) z) := by
  have e : (out0_3 (iblk m c 0 t) (iblk m c 1 t) (iblk m c 2 t) : Vec Ideal S256x5632 .bf16) = k0_pay1 (iblk m c 0 t) (iblk m c 1 t) (iblk m c 2 t) := by
    unfold out0_3
    frame_out
  rw [e]
  by_cases h : z.val < 2816
  · obtain ⟨x, rfl⟩ : ∃ x : Fin 2816, z = lft x := ⟨⟨z.val, h⟩, rfl⟩
    rw [pay_left, gradient_left]
    exact congr (congrArg₂ dgate (blk_a m c t r x) (blk_b m c t r x)) (blk_c m c t r x)
  · obtain ⟨x, rfl⟩ : ∃ x : Fin 2816, z = rgt x := ⟨⟨z.val - 2816, by have := z.isLt; omega⟩, Fin.ext (show z.val = 2816 + (z.val - 2816) by omega)⟩
    rw [pay_right, gradient_right]
    exact congrArg₂ dside (blk_a m c t r x) (blk_c m c t r x)

/-- The result array. -/
theorem array_eq : (dats m 0 c).arrAt 3 cfg0.N = gradient (argA m c) (argB m c) := by
  refine (dats m 0 c).arrAt_eq_of_covers 3 _ (by decide +kernel) fun t hf y => ?_
  blk_simp
  rw [after0_3]
  have hy : y = ix2 (y 0) (y 1) := by funext d; fin_cases d <;> rfl
  refine (congrArg _ hy).trans ((out_at m c t (y 0) (y 1)).trans ?_)
  generalize gradient (argA m c) (argB m c) = X
  blk_ext [idx t]

end Cert.Kernel26Ideal.Gate
-- ==== Proof.Gates.Gate.lean ====
/- The gate of the feed-forwards: the array the kernel leaves is the reference's. -/
module

public import proofs.«01_k».proof.Proof.Gen.Kernel27Ideal.Frame
public import proofs.«01_k».proof.Proof.Gen.Reference27Ideal.Run
public import Idealize.ShloMosaic.Lib.Pipeline.ValueKit
public import Idealize.ShloMosaic.Lib.Pipeline.ReadBack

@[expose] public section

set_option maxRecDepth 16384

noncomputable section

namespace Cert.Kernel27Ideal.Gate

open Idealize.ShloMosaic Idealize.ShloMosaic.TcCoe Idealize.ShloMosaic.StableHlo Idealize.SL.Sem Cert.Kernel27Ideal Cert.Kernel27Ideal.Gen

/-- The logistic function is the reference's quotient. -/
theorem logistic_eq (g : EReal) : Ideal.div 1 (1 + Ideal.exp (-g)) = Ideal.logistic g := rfl

/-- A column's place in the left half of the 5632 columns. -/
abbrev lft (x : Fin 2816) : Fin 5632 := ⟨x.val, by have := x.isLt; omega⟩

/-- A column's place in the right half. -/
abbrev rgt (x : Fin 2816) : Fin 5632 := ⟨2816 + x.val, by have := x.isLt; omega⟩

variable (m : (ℓ : Loc nD τ sig) → Buf (Elt Ideal) ℓ) (c : Dev nD) (t : Fin cfg0.N)

theorem step_lt (t : Fin cfg0.N) : t.val < 32 := t.isLt

/-- The row a step's row stands at. -/
abbrev row (t : Fin cfg0.N) (r : Fin 256) : Fin 8192 := ⟨t.val * 256 + r.val, by have := step_lt t; have := r.isLt; omega⟩

/-- The first product of the feed-forward, gate and other side next to each other. -/
abbrev argA : FVec Ideal S8192x5632 .f32 := m ((c.tc : Thread nD τ).loc main_arg0)

/-- The call's operand holds the argument, narrowed. -/
theorem V_a : V m c main_v0 = truncf (F := Ideal) .bf16 (argA m c) bitsLt_bf16_f32 := by
  simp only [V, hostOps0, TRef.binary, TRef.nullary, TRef.ternary, TRef.unary, TRef.toBuf, TRef.ofBuf, cast_eq]
  after_results_simp <;> rfl

/-- The block each window takes at a step. -/
theorem idx : ∀ t : Fin cfg0.N, win0_0.index t = ![t.val, 0] ∧ win0_1.index t = ![t.val, 1] ∧ win0_2.index t = ![t.val, 0] :=
  (by decide +kernel : ∀ t : Fin grid0.N, _)

/-- The first window's block is the gate's side. -/
theorem blk_a (r : Fin 256) (x : Fin 2816) : (iblk m c 0 t : Vec Ideal S256x2816 .bf16) (ix2 r x) = argA m c (ix2 (row t r) (lft x)) := by
  have e : (iblk m c 0 t : Vec Ideal S256x2816 .bf16) (ix2 r x) = (V m c main_v0 : Vec Ideal S8192x5632 .bf16) (ix2 (row t r) (lft x)) := by
    blk_ext [iblk, idx t]
  rw [e, V_a]
  pointwise

/-- The second window's block is the other side. -/
theorem blk_b (r : Fin 256) (x : Fin 2816) : (iblk m c 1 t : Vec Ideal S256x2816 .bf16) (ix2 r x) = argA m c (ix2 (row t r) (rgt x)) := by
  have e : (iblk m c 1 t : Vec Ideal S256x2816 .bf16) (ix2 r x) = (V m c main_v0 : Vec Ideal S8192x5632 .bf16) (ix2 (row t r) (rgt x)) := by
    blk_ext [iblk, idx t]
  rw [e, V_a]
  pointwise

/-- The gate at one place. -/
def gate1 (g u : EReal) : EReal := g * Ideal.logistic g * u

/-- The gated array. -/
def gated (a : FVec Ideal S8192x5632 .f32) : FVec Ideal S8192x2816 .bf16 :=
  fun y => gate1 (a (ix2 (y 0) (lft (y 1)))) (a (ix2 (y 0) (rgt (y 1))))

/-- It is the reference's. -/
theorem reference_eq (a : FVec Ideal S8192x5632 .f32) :
    truncf (F := Ideal) .bf16 (mulf (mulf (extractStridedSlice Cert.Reference27Ideal.S8192x2816 ![0, 0] a Cert.Reference27Ideal.Gen.slices_S8192x5632_S8192x2816_0_0) (Host.divf (broadcastInDim Cert.Reference27Ideal.S8192x2816 ![] Cert.Reference27Ideal.Gen.bcast_S_S8192x2816 (constant Cert.Reference27Ideal.S_ .f32 0x3F800000#32)) (addf (broadcastInDim Cert.Reference27Ideal.S8192x2816 ![] Cert.Reference27Ideal.Gen.bcast_S_S8192x2816 (constant Cert.Reference27Ideal.S_ .f32 0x3F800000#32)) (Host.exp (Host.negf (extractStridedSlice Cert.Reference27Ideal.S8192x2816 ![0, 0] a Cert.Reference27Ideal.Gen.slices_S8192x5632_S8192x2816_0_0)))))) (extractStridedSlice Cert.Reference27Ideal.S8192x2816 ![0, 2816] a Cert.Reference27Ideal.Gen.slices_S8192x5632_S8192x2816_0_2816)) Cert.Reference27Ideal.Gen.bitsLt_bf16_f32 = gated a := by
  funext y
  pointwise [gated, gate1, logistic_eq, lft, rgt]

theorem pay_at (G U : FVec Ideal S256x2816 .bf16) (r : Fin 256) (x : Fin 2816) : k0_pay1 (F := Ideal) G U (ix2 r x) = gate1 (G (ix2 r x)) (U (ix2 r x)) := by
  pointwise [k0_pay1, gate1]

/-- A block of the result is the gated array's. -/
theorem out_at (r : Fin 256) (x : Fin 2816) : (out0_2 (iblk m c 0 t) (iblk m c 1 t) : Vec Ideal S256x2816 .bf16) (ix2 r x) = gated (argA m c) (ix2 (row t r) x) := by
  have e : (out0_2 (iblk m c 0 t) (iblk m c 1 t) : Vec Ideal S256x2816 .bf16) = k0_pay1 (iblk m c 0 t) (iblk m c 1 t) := by
    unfold out0_2
    frame_out
  rw [e, pay_at]
  exact congrArg₂ gate1 (blk_a m c t r x) (blk_b m c t r x)

/-- The result array. -/
theorem array_eq : (dats m 0 c).arrAt 2 cfg0.N = gated (argA m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_at m c t (y 0) (y 1)).trans ?_)
  generalize gated (argA m c) = X
  blk_ext [idx t]

end Cert.Kernel27Ideal.Gate
-- ==== Proof.Optimizer.AdaGrad.lean ====
/- The gradient of the modulation's weight: the array the kernel leaves is the reference's product. -/
module

public import proofs.«01_k».proof.Proof.Gen.Kernel29Ideal.Frame
public import proofs.«01_k».proof.Proof.Gen.Reference29Ideal.Run
public import Idealize.ShloMosaic.Lib.Pipeline.ValueKit
public import Idealize.ShloMosaic.Lib.Pipeline.ReadBack

@[expose] public section

set_option maxRecDepth 16384

noncomputable section

namespace Cert.Kernel29Ideal.Product

open Idealize.ShloMosaic Idealize.ShloMosaic.TcCoe Idealize.ShloMosaic.StableHlo Idealize.SL.Sem Cert.Kernel29Ideal Cert.Kernel29Ideal.Gen

/-- The product, as a sum over the eight devices. -/
def product (a : FVec Ideal S8x1024 .f32) (b : FVec Ideal S8x2304 .f32) : FVec Ideal S1024x2304 .f32 :=
  fun y => ∑ k : Fin 8, a (ix2 k (y 0)) * b (ix2 k (y 1))

/-- It is the reference's product. -/
theorem reference_eq (a : FVec Ideal S8x1024 .f32) (b : FVec Ideal S8x2304 .f32) :
    Host.dotGeneral (F := Ideal) (φ₁ := .f32) (φ₂ := .f32) Cert.Reference29Ideal.dot_S1024x8_S8x2304_S1024x2304_1_0_0_1_n_n none (transpose Cert.Reference29Ideal.S1024x8 [1, 0] a Cert.Reference29Ideal.Gen.transposes_S8x1024_S1024x8_1_0) b = product a b := by
  funext y
  pointwise [product]

variable (m : (ℓ : Loc nD τ sig) → Buf (Elt Ideal) ℓ) (c : Dev nD) (t : Fin cfg0.N)

/-- The devices' activations. -/
abbrev argA : FVec Ideal S8x1024 .f32 := m ((c.tc : Thread nD τ).loc main_arg0)

/-- The devices' gradients of the modulation. -/
abbrev argB : FVec Ideal S8x2304 .f32 := m ((c.tc : Thread nD τ).loc main_arg1)

theorem step_lt (t : Fin cfg0.N) : t.val < 4 := t.isLt

/-- The row a step's row stands at. -/
abbrev row (t : Fin cfg0.N) (r : Fin 256) : Fin 1024 := ⟨t.val * 256 + r.val, by have := step_lt t; have := r.isLt; omega⟩

/-- The lane a device's activation stands at. -/
abbrev lane (k : Fin 8) : Fin 128 := ⟨k.val, by have := k.isLt; omega⟩

/-- The block each window takes at a step. -/
theorem idx : ∀ t : Fin cfg0.N, win0_0.index t = ![t.val, 0] ∧ win0_1.index t = ![0, 0] ∧ win0_2.index t = ![t.val, 0] :=
  (by decide +kernel : ∀ t : Fin grid0.N, _)

/-- The call's first operand holds the activations, transposed and padded. -/
theorem V_a : V m c main_v1 = pad S1024x128 ![0, 0] ![0, 120] ![0, 0] (transpose S1024x8 [1, 0] (argA m c) transposes_S8x1024_S1024x8_1_0) (sitofp (F := Ideal) .f32 (constantI S_ 32 0#32)) pads_S1024x8_S1024x128_000_01200 h_S_ := by
  simp only [V, hostOps0, hostOps0_1, List.flatten_cons, List.flatten_nil, List.append_nil, List.cons_append, List.nil_append, TRef.binary, TRef.nullary, TRef.ternary, TRef.unary, TRef.toBuf, TRef.ofBuf, cast_eq]
  after_results_simp <;> rfl

/-- A step's block of the first operand, at the lanes that hold something. -/
theorem blk_a (r : Fin 256) (k : Fin 8) : (iblk m c 0 t : Vec Ideal S256x128 .f32) (ix2 r (lane k)) = argA m c (ix2 k (row t r)) := by
  have e : (iblk m c 0 t : Vec Ideal S256x128 .f32) (ix2 r (lane k)) = (V m c main_v1 : Vec Ideal S1024x128 .f32) (ix2 (row t r) (lane k)) := by
    blk_ext [iblk, idx t]
  rw [e, V_a]
  pointwise
  exact dif_pos (row t r).isLt

/-- The second operand is staged whole. -/
theorem blk_b (k : Fin 8) (x : Fin 2304) : (iblk m c 1 t : Vec Ideal S8x2304 .f32) (ix2 k x) = argB m c (ix2 k x) := by
  have e : (iblk m c 1 t : Vec Ideal S8x2304 .f32) (ix2 k x) = (V m c main_arg1 : Vec Ideal S8x2304 .f32) (ix2 k x) := by
    blk_ext [iblk, idx t]
  rw [e, V_main_arg1]

/-- What a step stores. -/
theorem pay_at (A : FVec Ideal S256x128 .f32) (B : FVec Ideal S8x2304 .f32) (r : Fin 256) (x : Fin 2304) :
    k0_pay1 (F := Ideal) A B (ix2 r x) = ∑ k : Fin 8, A (ix2 r (lane k)) * B (ix2 k x) := by
  rw [Fin.sum_univ_eight]
  pointwise [k0_pay1]
  rfl

/-- A block of the result is the product's. -/
theorem out_at (r : Fin 256) (x : Fin 2304) : (out0_2 (iblk m c 0 t) (iblk m c 1 t) : Vec Ideal S256x2304 .f32) (ix2 r x) = product (argA m c) (argB m c) (ix2 (row t r) x) := by
  have e : (out0_2 (iblk m c 0 t) (iblk m c 1 t) : Vec Ideal S256x2304 .f32) = k0_pay1 (iblk m c 0 t) (iblk m c 1 t) := by
    unfold out0_2
    frame_out
  rw [e, pay_at]
  exact Finset.sum_congr rfl fun k _ => congrArg₂ (fun a b : EReal => a * b) (blk_a m c t r k) (blk_b m c t k x)

/-- The result array. -/
theorem array_eq : (dats m 0 c).arrAt 2 cfg0.N = product (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_at m c t (y 0) (y 1)).trans ?_)
  generalize product (argA m c) (argB m c) = X
  blk_ext [idx t]

end Cert.Kernel29Ideal.Product
-- ==== Proof.Optimizer.Total.lean ====
/- The sum of the devices' gradients of the small weights: the kernel's is the reference's. -/
module

public import proofs.«01_k».proof.Proof.Gen.Kernel30Ideal.Value
public import proofs.«01_k».proof.Proof.Gen.Reference30Ideal.Run
public import Idealize.ShloMosaic.Lib.Pipeline.ValueKit
public import Idealize.ShloMosaic.Lib.Pipeline.ReadBack

@[expose] public section

set_option maxRecDepth 16384

noncomputable section

namespace Cert.Kernel30Ideal.Total

open Idealize.ShloMosaic Idealize.ShloMosaic.TcCoe Idealize.ShloMosaic.StableHlo Idealize.SL.Sem Cert.Kernel30Ideal Cert.Kernel30Ideal.Gen

/-- The sum over the eight devices, place by place: the kernel's is the reference's. -/
theorem total_eq (a : FVec Ideal S8x200x128 .f32) :
    Cert.Kernel30Ideal.Value.G1 (F := Ideal) a = Host.reduceAdd (F := Ideal) a (constant Cert.Reference30Ideal.S_ .f32 0x00000000#32) Cert.Reference30Ideal.Gen.reducesTo_S8x200x128_S200x128_d0 Cert.Reference30Ideal.Gen.h_S_ := by
  funext y
  unfold Cert.Kernel30Ideal.Value.G1
  pointwise [Fin.sum_univ_eight, k0_pay1]

end Cert.Kernel30Ideal.Total
-- ==== Proof.Losses.Loss.lean ====
/- The loss of one device's example and its gradient: the arrays the kernel leaves are the reference's. -/
module

public import proofs.«01_k».proof.Proof.Gen.Kernel31Ideal.Frame
public import proofs.«01_k».proof.Proof.Gen.Reference31Ideal.Run
public import Idealize.ShloMosaic.Lib.Pipeline.ValueKit
public import Idealize.ShloMosaic.Lib.Pipeline.ReadBack

@[expose] public section

set_option maxRecDepth 16384

noncomputable section

namespace Cert.Kernel31Ideal.Loss

open Idealize.ShloMosaic Idealize.ShloMosaic.TcCoe Idealize.ShloMosaic.StableHlo Idealize.SL.Sem Cert.Kernel31Ideal Cert.Kernel31Ideal.Gen

/-! The constants. -/

/-- The constant two. -/
theorem two : Ideal.ofBits .f32 0x40000000#32 = ((2 : ℝ) : EReal) := by
  simp [Ideal.ofBits, Ideal.ieee, -EReal.coe_mul]; norm_num
/-- The constant one half. -/
theorem half : Ideal.ofBits .f32 0x3F000000#32 = ((1 / 2 : ℝ) : EReal) := by
  simp [Ideal.ofBits, Ideal.ieee, -EReal.coe_mul]; norm_num
/-- The width. -/
theorem wide : Ideal.ofBits .f32 0x44800000#32 = ((1024 : ℝ) : EReal) := by
  simp [Ideal.ofBits, Ideal.ieee, -EReal.coe_mul]; norm_num
/-- The width's inverse. -/
theorem narrow : Ideal.ofBits .f32 0x3A800000#32 = ((1 / 1024 : ℝ) : EReal) := by
  simp [Ideal.ofBits, Ideal.ieee, -EReal.coe_mul]; norm_num

/-- A nonnegative real goes over a sum. -/
theorem coe_mul_sum {ι : Type} (s : Finset ι) (f : ι → EReal) (k : ℝ) (h : 0 ≤ k) : (k : EReal) * ∑ i ∈ s, f i = ∑ i ∈ s, (k : EReal) * f i := by
  classical
  refine Finset.induction_on s (by simp) fun i s hi ih => ?_
  rw [Finset.sum_insert hi, Finset.sum_insert hi, EReal.left_distrib_of_nonneg_of_ne_top (EReal.coe_nonneg.mpr h) (EReal.coe_ne_top k), ih]

/-- The sum of a row's squared errors. -/
def rowErr (a b : FVec Ideal S8192x1024 .f32) (r : Fin 8192) : EReal :=
  ∑ x : Fin 1024, (a (ix2 r x) - b (ix2 r x)) * (a (ix2 r x) - b (ix2 r x))

/-- The loss, in every lane: half the sum of the rows' mean squared errors. -/
def total (a b : FVec Ideal S8192x1024 .f32) : FVec Ideal S1x128 .f32 := fun _ =>
  Ideal.ofBits .f32 0x3F000000#32 * ∑ r : Fin 8192, Ideal.div (rowErr a b r) (Ideal.ofBits .f32 0x44800000#32)

/-- Its gradient. -/
def slope (a b : FVec Ideal S8192x1024 .f32) : FVec Ideal S8192x1024 .f32 := fun y => (a y - b y) * Ideal.ofBits .f32 0x3A800000#32

/-- The loss is the reference's. -/
theorem total_reference (a b : FVec Ideal S8192x1024 .f32) :
    broadcastInDim Cert.Reference31Ideal.S1x128 ![] Cert.Reference31Ideal.Gen.bcast_S_S1x128 (mulf (constant Cert.Reference31Ideal.S_ .f32 0x3F000000#32) (Host.reduceAdd (Host.divf (Host.reduceAdd (mulf (subf a b) (subf a b)) (constant Cert.Reference31Ideal.S_ .f32 0x00000000#32) Cert.Reference31Ideal.Gen.reducesTo_S8192x1024_S8192_d1 Cert.Reference31Ideal.Gen.h_S_) (broadcastInDim Cert.Reference31Ideal.S8192 ![] Cert.Reference31Ideal.Gen.bcast_S_S8192 (constant Cert.Reference31Ideal.S_ .f32 0x44800000#32))) (constant Cert.Reference31Ideal.S_ .f32 0x00000000#32) Cert.Reference31Ideal.Gen.reducesTo_S8192_S_d0 Cert.Reference31Ideal.Gen.h_S_)) = total a b := by
  funext y
  pointwise [total, rowErr]

/-- The gradient is the reference's. -/
theorem slope_reference (a b : FVec Ideal S8192x1024 .f32) :
    (mulf (broadcastInDim Cert.Reference31Ideal.S8192x1024 ![0] Cert.Reference31Ideal.Gen.bcast_S8192_S8192x1024_0 (Host.divf (broadcastInDim Cert.Reference31Ideal.S8192 ![] Cert.Reference31Ideal.Gen.bcast_S_S8192 (mulf (constant Cert.Reference31Ideal.S_ .f32 0x3F000000#32) (constant Cert.Reference31Ideal.S_ .f32 0x3F800000#32))) (broadcastInDim Cert.Reference31Ideal.S8192 ![] Cert.Reference31Ideal.Gen.bcast_S_S8192 (constant Cert.Reference31Ideal.S_ .f32 0x44800000#32)))) (mulf (broadcastInDim Cert.Reference31Ideal.S8192x1024 ![] Cert.Reference31Ideal.Gen.bcast_S_S8192x1024 (constant Cert.Reference31Ideal.S_ .f32 0x40000000#32)) (subf a b)) : FVec Ideal S8192x1024 .f32) = slope a b := by
  funext y
  have key : Ideal.div (Ideal.ofBits .f32 0x3F000000#32) (Ideal.ofBits .f32 0x44800000#32) * (Ideal.ofBits .f32 0x40000000#32 * (a y - b y))
      = (a y - b y) * Ideal.ofBits .f32 0x3A800000#32 := by
    rw [half, wide, two, narrow, Ideal.div_coe (by norm_num), ← mul_assoc, ← EReal.coe_mul, ← EReal.coe_mul, mul_comm]
    norm_num
  refine Eq.trans ?_ key
  pointwise

variable (m : (ℓ : Loc nD τ sig) → Buf (Elt Ideal) ℓ) (c : Dev nD) (t : Fin cfg0.N)

/-- The output of the step. -/
abbrev argA : FVec Ideal S8192x1024 .f32 := m ((c.tc : Thread nD τ).loc main_arg0)

/-- The target. -/
abbrev argB : FVec Ideal S8192x1024 .f32 := m ((c.tc : Thread nD τ).loc main_arg1)

/-- There are sixteen steps. -/
theorem step_lt (t : Fin cfg0.N) : t.val < 16 := t.isLt

/-- The row a step's row stands at. -/
abbrev row (t : Fin cfg0.N) (r : Fin 512) : Fin 8192 := ⟨t.val * 512 + r.val, by have := step_lt t; have := r.isLt; omega⟩

/-- The block each window takes at a step. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- The loss is written back at the last step. -/
theorem flush : ∀ t : Fin cfg0.N, (cfg0.win 3).flush t = true → t.val % 16 = 15 := (by decide +kernel : ∀ t : Fin grid0.N, _)

/-- The first argument. -/
theorem V_a : V m c main_arg0 = argA m c := rfl

/-- The second argument. -/
theorem V_b : V m c main_arg1 = argB m c := rfl

/-- A step's block of the output. -/
theorem blk_a (r : Fin 512) (x : Fin 1024) : (iblk m c 0 t : Vec Ideal S512x1024 .f32) (ix2 r x) = argA m c (ix2 (row t r) x) := by
  have e : (iblk m c 0 t : Vec Ideal S512x1024 .f32) (ix2 r x) = (V m c main_arg0 : Vec Ideal S8192x1024 .f32) (ix2 (row t r) x) := by
    blk_ext [iblk, idx t]
  rw [e, V_a]

/-- A step's block of the target. -/
theorem blk_b (r : Fin 512) (x : Fin 1024) : (iblk m c 1 t : Vec Ideal S512x1024 .f32) (ix2 r x) = argB m c (ix2 (row t r) x) := by
  have e : (iblk m c 1 t : Vec Ideal S512x1024 .f32) (ix2 r x) = (V m c main_arg1 : Vec Ideal S8192x1024 .f32) (ix2 (row t r) x) := by
    blk_ext [iblk, idx t]
  rw [e, V_b]

/-- What a step adds to the loss. -/
def part : EReal := Ideal.ofBits .f32 0x3F000000#32 * ∑ r : Fin 512, rowErr (argA m c) (argB m c) (row t r) * Ideal.ofBits .f32 0x3A800000#32

/-- A step's gradient, entry by entry. -/
theorem slope_at (A B : FVec Ideal S512x1024 .f32) (y : S512x1024.Idx) : k0_pay2 (F := Ideal) A B y = (A y - B y) * Ideal.ofBits .f32 0x3A800000#32 := by
  pointwise [k0_pay2, k0_pay1]

/-- The loss starts at zero. -/
theorem pay_zero (y : S1x128.Idx) : k0_pay3 (F := Ideal) y = 0 := by pointwise [k0_pay3]

/-- A step adds half its rows' mean squared errors. -/
theorem pay_at (A B : FVec Ideal S512x1024 .f32) (acc : FVec Ideal S1x128 .f32) (y : S1x128.Idx) :
    k0_pay4 (F := Ideal) A B acc y = acc y + Ideal.ofBits .f32 0x3F000000#32 * ∑ r : Fin 512, (∑ x : Fin 1024, (A (ix2 r x) - B (ix2 r x)) * (A (ix2 r x) - B (ix2 r x))) * Ideal.ofBits .f32 0x3A800000#32 := by
  pointwise [k0_pay4, k0_pay1]

/-- A step adds its part to the loss. -/
theorem pay_step (acc : Vec Ideal S1x128 .f32) (y : S1x128.Idx) : k0_pay4 (F := Ideal) (iblk m c 0 t) (iblk m c 1 t) acc y = acc y + part m c t := by
  refine (pay_at _ _ acc y).trans ?_
  unfold part rowErr
  refine congrArg (fun z => acc y + Ideal.ofBits .f32 0x3F000000#32 * z) (Finset.sum_congr rfl fun r _ => ?_)
  refine congrArg (fun z : EReal => z * Ideal.ofBits .f32 0x3A800000#32) (Finset.sum_congr rfl fun x _ => ?_)
  have ha := blk_a m c t r x
  have hb := blk_b m c t r x
  exact congrArg₂ (fun p q : EReal => (p - q) * (p - q)) ha hb

/-- The first step sets the loss to its part. -/
theorem acc_first (h : t.val % 16 = 0) (y : S1x128.Idx) : (outsAt0 m c t.val t.isLt).2 y = 0 + part m c t := by
  have e : (outsAt0 m c t.val t.isLt).2 = k0_pay4 (iblk m c 0 t) (iblk m c 1 t) (k0_pay3 (F := Ideal)) := by
    rw [outsAt0_A m c t h]
    frame_out
  rw [e, pay_step, pay_zero]

/-- A later step adds its part to what the step before left. -/
theorem acc_next (h : ¬t.val % 16 = 0) (y : S1x128.Idx) : (outsAt0 m c t.val t.isLt).2 y
    = (outsAt0 m c (t.val - 1) (Nat.lt_of_le_of_lt (Nat.sub_le _ _) t.isLt)).2 y + part m c t := by
  have e : (outsAt0 m c t.val t.isLt).2 = k0_pay4 (iblk m c 0 t) (iblk m c 1 t) (outsAt0 m c (t.val - 1) (Nat.lt_of_le_of_lt (Nat.sub_le _ _) t.isLt)).2 := by
    rw [outsAt0_B m c t h]
    frame_out
    try simp only [read_unread_whole]
  rw [e, pay_step]

/-- A step's block of the gradient. -/
theorem out_at (r : Fin 512) (x : Fin 1024) : (outsAt0 m c t.val t.isLt).1 (ix2 r x) = slope (argA m c) (argB m c) (ix2 (row t r) x) := by
  have e : (outsAt0 m c t.val t.isLt).1 = k0_pay2 (iblk m c 0 t) (iblk m c 1 t) := by
    by_cases h : t.val % 16 = 0
    · rw [outsAt0_A m c t h]
      frame_out
    · rw [outsAt0_B m c t h]
      frame_out
  rw [e, slope_at]
  exact congrArg₂ (fun p q : EReal => (p - q) * Ideal.ofBits .f32 0x3A800000#32) (blk_a m c t r x) (blk_b m c t r x)

/-- The parts add up to the loss. -/
theorem out_sum (h : t.val % 16 = 15) (y : S1x128.Idx) : (outsAt0 m c t.val t.isLt).2 y = total (argA m c) (argB m c) y := by
  refine (Pipeline.eq_sum_fin_of_reset_step_apply_of_flush (fun n h => (outsAt0 m c n h).2) 16 (fun _ => (0 : EReal)) (fun t _ => part m c t) (acc_first m c)
    (acc_next m c) t h y).trans ?_
  rw [zero_add]
  unfold part total
  simp only [half, wide, narrow]
  rw [← coe_mul_sum _ _ _ (by norm_num)]
  refine congrArg (fun z : EReal => ((1 / 2 : ℝ) : EReal) * z) ?_
  refine Fin.sum_mul_add_congr (n := 512) fun z r hl => ?_
  rw [Ideal.div_coe (by norm_num)]
  refine congrArg (fun r => rowErr (argA m c) (argB m c) r * ((1 / 1024 : ℝ) : EReal)) (Fin.ext ?_)
  have := step_lt t
  have := z.isLt
  dsimp only [row]
  omega

/-- The array of the gradient. -/
theorem slope_eq : (dats m 0 c).arrAt 2 cfg0.N = slope (argA m c) (argB m c) := by
  refine (dats m 0 c).arrAt_eq_of_covers 2 _ (by decide +kernel) fun t hf y => ?_
  blk_simp
  rw [after0_2]
  have hy : y = ix2 (y 0) (y 1) := by funext d; fin_cases d <;> rfl
  refine (congrArg _ hy).trans ((out_at m c t (y 0) (y 1)).trans ?_)
  generalize slope (argA m c) (argB m c) = X
  blk_ext [idx t]

/-- The array of the loss. -/
theorem total_eq : (dats m 0 c).arrAt 3 cfg0.N = total (argA m c) (argB m c) := by
  refine (dats m 0 c).arrAt_eq_of_covers 3 _ (by decide +kernel) fun t hf y => ?_
  blk_simp
  rw [after0_3]
  exact (out_sum m c t (flush t hf) y).trans rfl

end Cert.Kernel31Ideal.Loss
-- ==== Proof.Losses.Modulation.lean ====
/- The gradient of a norm with scale and shift: the arrays the kernel leaves are the reference's. -/
module

public import proofs.«01_k».proof.Proof.Gen.Kernel32Ideal.Frame
public import proofs.«01_k».proof.Proof.Gen.Reference32Ideal.Run
public import proofs.«01_k».proof.Proof.Losses.Loss

@[expose] public section

set_option maxRecDepth 16384

noncomputable section

namespace Cert.Kernel32Ideal.Modulation

open Idealize.ShloMosaic Idealize.ShloMosaic.TcCoe Idealize.ShloMosaic.StableHlo Idealize.SL.Sem Cert.Kernel32Ideal Cert.Kernel32Ideal.Gen

/-! One row x of the input, its gradient h behind the modulation, the residual's gradient d, and the scale s. -/

/-- A quotient by the width is a product with its inverse. -/
theorem div_wide (z : EReal) : Ideal.div z (Ideal.ofBits .f32 0x44800000#32) = z * Ideal.ofBits .f32 0x3A800000#32 := by
  rw [Cert.Kernel31Ideal.Loss.wide, Cert.Kernel31Ideal.Loss.narrow, Ideal.div_coe (by norm_num)]

/-- The mean square and the epsilon. -/
def square (x : Fin 1024 → EReal) : EReal := (∑ j, x j * x j) * Ideal.ofBits .f32 0x3A800000#32 + Ideal.ofBits .f32 0x358637BD#32

/-- The norm's factor. -/
def factor (x : Fin 1024 → EReal) : EReal := Ideal.rsqrt (square x)

/-- The gradient behind the norm. -/
def scaled (h s : Fin 1024 → EReal) (j : Fin 1024) : EReal := h j * (1 + s j)

/-- The gradient in the mean square. -/
def pull (x h s : Fin 1024 → EReal) : EReal :=
  (∑ j, x j * scaled h s j) * (Ideal.ofBits .f32 0xBF000000#32 * Ideal.div (factor x) (square x)) * Ideal.ofBits .f32 0x3A800000#32

/-- The gradient in the row. -/
def rowGrad (x h d s : Fin 1024 → EReal) (j : Fin 1024) : EReal :=
  d j + (scaled h s j * factor x + x j * pull x h s + pull x h s * x j)

/-- The row's part of the gradient in the scale. -/
def scaleGrad (x h : Fin 1024 → EReal) (j : Fin 1024) : EReal := x j * factor x * h j

/-! The whole arrays. -/

section
variable (x h d : FVec Ideal S8192x1024 .f32) (s : FVec Ideal S1x1024 .f32)

/-- The gradient in the input. -/
def inputGrad : FVec Ideal S8192x1024 .f32 := fun y =>
  rowGrad (fun j => x (ix2 (y 0) j)) (fun j => h (ix2 (y 0) j)) (fun j => d (ix2 (y 0) j)) (fun j => s (ix2 0 j)) (y 1)

/-- The gradient in the scale. -/
def inScale : FVec Ideal S1x1024 .f32 := fun y => ∑ r : Fin 8192, scaleGrad (fun j => x (ix2 r j)) (fun j => h (ix2 r j)) (y 1)

/-- The gradient in the shift. -/
def inShift : FVec Ideal S1x1024 .f32 := fun y => ∑ r : Fin 8192, h (ix2 r (y 1))

/-- The gradient in the input is the reference's. -/
theorem input_reference :
    (addf d (addf (addf (mulf (mulf (shapeCast _ h Cert.Reference32Ideal.Gen.shapeCasts_S8192x1024_S8192x1024) (broadcastInDim Cert.Reference32Ideal.S8192x1024 ![0, 1] Cert.Reference32Ideal.Gen.bcast_S1x1024_S8192x1024_0_1 (addf (broadcastInDim Cert.Reference32Ideal.S1x1024 ![] Cert.Reference32Ideal.Gen.bcast_S_S1x1024 (constant Cert.Reference32Ideal.S_ .f32 0x3F800000#32)) s))) (broadcastInDim Cert.Reference32Ideal.S8192x1024 ![0, 1] Cert.Reference32Ideal.Gen.bcast_S8192x1_S8192x1024_0_1 (Host.rsqrt (addf (Host.divf (broadcastInDim Cert.Reference32Ideal.S8192x1 ![0] Cert.Reference32Ideal.Gen.bcast_S8192_S8192x1_0 (Host.reduceAdd (mulf x x) (constant Cert.Reference32Ideal.S_ .f32 0x00000000#32) Cert.Reference32Ideal.Gen.reducesTo_S8192x1024_S8192_d1 Cert.Reference32Ideal.Gen.h_S_)) (broadcastInDim Cert.Reference32Ideal.S8192x1 ![] Cert.Reference32Ideal.Gen.bcast_S_S8192x1 (constant Cert.Reference32Ideal.S_ .f32 0x44800000#32))) (broadcastInDim Cert.Reference32Ideal.S8192x1 ![] Cert.Reference32Ideal.Gen.bcast_S_S8192x1 (constant Cert.Reference32Ideal.S_ .f32 0x358637BD#32)))))) (mulf x (broadcastInDim Cert.Reference32Ideal.S8192x1024 ![0] Cert.Reference32Ideal.Gen.bcast_S8192_S8192x1024_0 (Host.reduceAdd (Host.divf (mulf (shapeCast _ (Host.reduceAdd (mulf x (mulf (shapeCast _ h Cert.Reference32Ideal.Gen.shapeCasts_S8192x1024_S8192x1024) (broadcastInDim Cert.Reference32Ideal.S8192x1024 ![0, 1] Cert.Reference32Ideal.Gen.bcast_S1x1024_S8192x1024_0_1 (addf (broadcastInDim Cert.Reference32Ideal.S1x1024 ![] Cert.Reference32Ideal.Gen.bcast_S_S1x1024 (constant Cert.Reference32Ideal.S_ .f32 0x3F800000#32)) s)))) (constant Cert.Reference32Ideal.S_ .f32 0x00000000#32) Cert.Reference32Ideal.Gen.reducesTo_S8192x1024_S8192_d1 Cert.Reference32Ideal.Gen.h_S_) Cert.Reference32Ideal.Gen.shapeCasts_S8192_S8192x1) (mulf (broadcastInDim Cert.Reference32Ideal.S8192x1 ![] Cert.Reference32Ideal.Gen.bcast_S_S8192x1 (constant Cert.Reference32Ideal.S_ .f32 0xBF000000#32)) (Host.divf (Host.rsqrt (addf (Host.divf (broadcastInDim Cert.Reference32Ideal.S8192x1 ![0] Cert.Reference32Ideal.Gen.bcast_S8192_S8192x1_0 (Host.reduceAdd (mulf x x) (constant Cert.Reference32Ideal.S_ .f32 0x00000000#32) Cert.Reference32Ideal.Gen.reducesTo_S8192x1024_S8192_d1 Cert.Reference32Ideal.Gen.h_S_)) (broadcastInDim Cert.Reference32Ideal.S8192x1 ![] Cert.Reference32Ideal.Gen.bcast_S_S8192x1 (constant Cert.Reference32Ideal.S_ .f32 0x44800000#32))) (broadcastInDim Cert.Reference32Ideal.S8192x1 ![] Cert.Reference32Ideal.Gen.bcast_S_S8192x1 (constant Cert.Reference32Ideal.S_ .f32 0x358637BD#32)))) (addf (Host.divf (broadcastInDim Cert.Reference32Ideal.S8192x1 ![0] Cert.Reference32Ideal.Gen.bcast_S8192_S8192x1_0 (Host.reduceAdd (mulf x x) (constant Cert.Reference32Ideal.S_ .f32 0x00000000#32) Cert.Reference32Ideal.Gen.reducesTo_S8192x1024_S8192_d1 Cert.Reference32Ideal.Gen.h_S_)) (broadcastInDim Cert.Reference32Ideal.S8192x1 ![] Cert.Reference32Ideal.Gen.bcast_S_S8192x1 (constant Cert.Reference32Ideal.S_ .f32 0x44800000#32))) (broadcastInDim Cert.Reference32Ideal.S8192x1 ![] Cert.Reference32Ideal.Gen.bcast_S_S8192x1 (constant Cert.Reference32Ideal.S_ .f32 0x358637BD#32)))))) (broadcastInDim Cert.Reference32Ideal.S8192x1 ![] Cert.Reference32Ideal.Gen.bcast_S_S8192x1 (constant Cert.Reference32Ideal.S_ .f32 0x44800000#32))) (constant Cert.Reference32Ideal.S_ .f32 0x00000000#32) Cert.Reference32Ideal.Gen.reducesTo_S8192x1_S8192_d1 Cert.Reference32Ideal.Gen.h_S_)))) (mulf (broadcastInDim Cert.Reference32Ideal.S8192x1024 ![0] Cert.Reference32Ideal.Gen.bcast_S8192_S8192x1024_0 (Host.reduceAdd (Host.divf (mulf (shapeCast _ (Host.reduceAdd (mulf x (mulf (shapeCast _ h Cert.Reference32Ideal.Gen.shapeCasts_S8192x1024_S8192x1024) (broadcastInDim Cert.Reference32Ideal.S8192x1024 ![0, 1] Cert.Reference32Ideal.Gen.bcast_S1x1024_S8192x1024_0_1 (addf (broadcastInDim Cert.Reference32Ideal.S1x1024 ![] Cert.Reference32Ideal.Gen.bcast_S_S1x1024 (constant Cert.Reference32Ideal.S_ .f32 0x3F800000#32)) s)))) (constant Cert.Reference32Ideal.S_ .f32 0x00000000#32) Cert.Reference32Ideal.Gen.reducesTo_S8192x1024_S8192_d1 Cert.Reference32Ideal.Gen.h_S_) Cert.Reference32Ideal.Gen.shapeCasts_S8192_S8192x1) (mulf (broadcastInDim Cert.Reference32Ideal.S8192x1 ![] Cert.Reference32Ideal.Gen.bcast_S_S8192x1 (constant Cert.Reference32Ideal.S_ .f32 0xBF000000#32)) (Host.divf (Host.rsqrt (addf (Host.divf (broadcastInDim Cert.Reference32Ideal.S8192x1 ![0] Cert.Reference32Ideal.Gen.bcast_S8192_S8192x1_0 (Host.reduceAdd (mulf x x) (constant Cert.Reference32Ideal.S_ .f32 0x00000000#32) Cert.Reference32Ideal.Gen.reducesTo_S8192x1024_S8192_d1 Cert.Reference32Ideal.Gen.h_S_)) (broadcastInDim Cert.Reference32Ideal.S8192x1 ![] Cert.Reference32Ideal.Gen.bcast_S_S8192x1 (constant Cert.Reference32Ideal.S_ .f32 0x44800000#32))) (broadcastInDim Cert.Reference32Ideal.S8192x1 ![] Cert.Reference32Ideal.Gen.bcast_S_S8192x1 (constant Cert.Reference32Ideal.S_ .f32 0x358637BD#32)))) (addf (Host.divf (broadcastInDim Cert.Reference32Ideal.S8192x1 ![0] Cert.Reference32Ideal.Gen.bcast_S8192_S8192x1_0 (Host.reduceAdd (mulf x x) (constant Cert.Reference32Ideal.S_ .f32 0x00000000#32) Cert.Reference32Ideal.Gen.reducesTo_S8192x1024_S8192_d1 Cert.Reference32Ideal.Gen.h_S_)) (broadcastInDim Cert.Reference32Ideal.S8192x1 ![] Cert.Reference32Ideal.Gen.bcast_S_S8192x1 (constant Cert.Reference32Ideal.S_ .f32 0x44800000#32))) (broadcastInDim Cert.Reference32Ideal.S8192x1 ![] Cert.Reference32Ideal.Gen.bcast_S_S8192x1 (constant Cert.Reference32Ideal.S_ .f32 0x358637BD#32)))))) (broadcastInDim Cert.Reference32Ideal.S8192x1 ![] Cert.Reference32Ideal.Gen.bcast_S_S8192x1 (constant Cert.Reference32Ideal.S_ .f32 0x44800000#32))) (constant Cert.Reference32Ideal.S_ .f32 0x00000000#32) Cert.Reference32Ideal.Gen.reducesTo_S8192x1_S8192_d1 Cert.Reference32Ideal.Gen.h_S_)) x)) : FVec Ideal S8192x1024 .f32) = inputGrad x h d s := by
  funext y
  pointwise [inputGrad, rowGrad, pull, scaled, factor, square, div_wide, Fin.sum_univ_one]

/-- The gradient in the scale is the reference's. -/
theorem scale_reference :
    (shapeCast _ (Host.reduceAdd (mulf (mulf x (broadcastInDim Cert.Reference32Ideal.S8192x1024 ![0, 1] Cert.Reference32Ideal.Gen.bcast_S8192x1_S8192x1024_0_1 (Host.rsqrt (addf (Host.divf (broadcastInDim Cert.Reference32Ideal.S8192x1 ![0] Cert.Reference32Ideal.Gen.bcast_S8192_S8192x1_0 (Host.reduceAdd (mulf x x) (constant Cert.Reference32Ideal.S_ .f32 0x00000000#32) Cert.Reference32Ideal.Gen.reducesTo_S8192x1024_S8192_d1 Cert.Reference32Ideal.Gen.h_S_)) (broadcastInDim Cert.Reference32Ideal.S8192x1 ![] Cert.Reference32Ideal.Gen.bcast_S_S8192x1 (constant Cert.Reference32Ideal.S_ .f32 0x44800000#32))) (broadcastInDim Cert.Reference32Ideal.S8192x1 ![] Cert.Reference32Ideal.Gen.bcast_S_S8192x1 (constant Cert.Reference32Ideal.S_ .f32 0x358637BD#32)))))) (shapeCast _ h Cert.Reference32Ideal.Gen.shapeCasts_S8192x1024_S8192x1024)) (constant Cert.Reference32Ideal.S_ .f32 0x00000000#32) Cert.Reference32Ideal.Gen.reducesTo_S8192x1024_S1024_d0 Cert.Reference32Ideal.Gen.h_S_) Cert.Reference32Ideal.Gen.shapeCasts_S1024_S1x1024 : FVec Ideal S1x1024 .f32) = inScale x h := by
  funext y
  pointwise [inScale, scaleGrad, factor, square, div_wide]

/-- The gradient in the shift is the reference's. -/
theorem shift_reference :
    (shapeCast _ (Host.reduceAdd h (constant Cert.Reference32Ideal.S_ .f32 0x00000000#32) Cert.Reference32Ideal.Gen.reducesTo_S8192x1024_S1024_d0 Cert.Reference32Ideal.Gen.h_S_) Cert.Reference32Ideal.Gen.shapeCasts_S1024_S1x1024 : FVec Ideal S1x1024 .f32) = inShift h := by
  funext y
  pointwise [inShift]

end

/-! A step's blocks. -/

section
variable (X H D : FVec Ideal S512x1024 .f32) (S : FVec Ideal S1x1024 .f32) (acc : FVec Ideal S1x1024 .f32)

/-- A step's gradient in the input, entry by entry. -/
theorem input_at (r : Fin 512) (j : Fin 1024) : k0_pay1 (F := Ideal) D (k0_pay13 X H S) (k0_pay14 X H S) (ix2 r j)
    = rowGrad (fun j => X (ix2 r j)) (fun j => H (ix2 r j)) (fun j => D (ix2 r j)) (fun j => S (ix2 0 j)) j := by
  pointwise [k0_pay1, k0_pay13, k0_pay14, k0_pay12, k0_pay11, k0_pay8, k0_pay7, k0_pay6, rowGrad, pull, scaled, factor, square, Fin.sum_univ_one]

/-- A step adds its rows' parts to the gradient in the scale. -/
theorem scale_at (y : S1x1024.Idx) : k0_pay4 (F := Ideal) (k0_pay10 X H) acc y
    = acc y + ∑ r : Fin 512, scaleGrad (fun j => X (ix2 r j)) (fun j => H (ix2 r j)) (y 1) := by
  pointwise [k0_pay4, k0_pay10, k0_pay8, k0_pay7, k0_pay6, scaleGrad, factor, square]

/-- A step adds its rows to the gradient in the shift. -/
theorem shift_at (y : S1x1024.Idx) : k0_pay5 (F := Ideal) (k0_pay9 H) acc y = acc y + ∑ r : Fin 512, H (ix2 r (y 1)) := by
  pointwise [k0_pay5, k0_pay9]

end

/-- The gradient in the scale starts at zero. -/
theorem scale_zero (y : S1x1024.Idx) : k0_pay2 (F := Ideal) y = 0 := by pointwise [k0_pay2]
/-- The gradient in the shift starts at zero. -/
theorem shift_zero (y : S1x1024.Idx) : k0_pay3 (F := Ideal) y = 0 := by pointwise [k0_pay3]

variable (m : (ℓ : Loc nD τ sig) → Buf (Elt Ideal) ℓ) (c : Dev nD) (t : Fin cfg0.N)

/-- The input. -/
abbrev argX : FVec Ideal S8192x1024 .f32 := m ((c.tc : Thread nD τ).loc main_arg0)

/-- The gradient behind the modulation. -/
abbrev argH : FVec Ideal S8192x1024 .f32 := m ((c.tc : Thread nD τ).loc main_arg1)

/-- The residual's gradient. -/
abbrev argD : FVec Ideal S8192x1024 .f32 := m ((c.tc : Thread nD τ).loc main_arg2)

/-- The scale. -/
abbrev argS : FVec Ideal S1x1024 .f32 := m ((c.tc : Thread nD τ).loc main_arg3)

/-- There are sixteen steps. -/
theorem step_lt (t : Fin cfg0.N) : t.val < 16 := t.isLt

/-- The row a step's row stands at. -/
abbrev row (t : Fin cfg0.N) (r : Fin 512) : Fin 8192 := ⟨t.val * 512 + r.val, by have := step_lt t; have := r.isLt; omega⟩

/-- The block each window takes at a step. -/
theorem idx : ∀ t : Fin cfg0.N, win0_0.index t = ![t.val, 0] ∧ win0_1.index t = ![t.val, 0] ∧ win0_2.index t = ![t.val, 0]
    ∧ win0_3.index t = ![0, 0] ∧ win0_5.index t = ![t.val, 0] ∧ win0_6.index t = ![0, 0] ∧ win0_7.index t = ![0, 0] :=
  (by decide +kernel : ∀ t : Fin grid0.N, _)

/-- The sums are written back at the last step. -/
theorem flush_scale : ∀ t : Fin cfg0.N, (cfg0.win 6).flush t = true → t.val % 16 = 15 := (by decide +kernel : ∀ t : Fin grid0.N, _)
/-- The gradient in the shift is written back at the last step. -/
theorem flush_shift : ∀ t : Fin cfg0.N, (cfg0.win 7).flush t = true → t.val % 16 = 15 := (by decide +kernel : ∀ t : Fin grid0.N, _)

/-- A step's block of the input. -/
theorem blk_x (r : Fin 512) (j : Fin 1024) : (iblk m c 0 t : Vec Ideal S512x1024 .f32) (ix2 r j) = argX m c (ix2 (row t r) j) := by
  have e : (iblk m c 0 t : Vec Ideal S512x1024 .f32) (ix2 r j) = (V m c main_arg0 : Vec Ideal S8192x1024 .f32) (ix2 (row t r) j) := by
    blk_ext [iblk, idx t]
  exact e

/-- A step's block of the gradient behind the modulation. -/
theorem blk_h (r : Fin 512) (j : Fin 1024) : (iblk m c 1 t : Vec Ideal S512x1024 .f32) (ix2 r j) = argH m c (ix2 (row t r) j) := by
  have e : (iblk m c 1 t : Vec Ideal S512x1024 .f32) (ix2 r j) = (V m c main_arg1 : Vec Ideal S8192x1024 .f32) (ix2 (row t r) j) := by
    blk_ext [iblk, idx t]
  exact e

/-- A step's block of the residual's gradient. -/
theorem blk_d (r : Fin 512) (j : Fin 1024) : (iblk m c 2 t : Vec Ideal S512x1024 .f32) (ix2 r j) = argD m c (ix2 (row t r) j) := by
  have e : (iblk m c 2 t : Vec Ideal S512x1024 .f32) (ix2 r j) = (V m c main_arg2 : Vec Ideal S8192x1024 .f32) (ix2 (row t r) j) := by
    blk_ext [iblk, idx t]
  exact e

/-- A step's block of the scale is the whole of it. -/
theorem blk_s (j : Fin 1024) : (iblk m c 3 t : Vec Ideal S1x1024 .f32) (ix2 0 j) = argS m c (ix2 0 j) := by
  have e : (iblk m c 3 t : Vec Ideal S1x1024 .f32) (ix2 0 j) = (V m c main_arg3 : Vec Ideal S1x1024 .f32) (ix2 0 j) := by
    blk_ext [iblk, idx t]
  exact e

/-- The rows of a step. -/
theorem rows_x (r : Fin 512) : (fun j => (iblk m c 0 t : Vec Ideal S512x1024 .f32) (ix2 r j)) = fun j => argX m c (ix2 (row t r) j) := funext (blk_x m c t r)
/-- The rows of the gradient behind the modulation. -/
theorem rows_h (r : Fin 512) : (fun j => (iblk m c 1 t : Vec Ideal S512x1024 .f32) (ix2 r j)) = fun j => argH m c (ix2 (row t r) j) := funext (blk_h m c t r)
/-- The rows of the residual's gradient. -/
theorem rows_d (r : Fin 512) : (fun j => (iblk m c 2 t : Vec Ideal S512x1024 .f32) (ix2 r j)) = fun j => argD m c (ix2 (row t r) j) := funext (blk_d m c t r)
/-- The scale's row. -/
theorem rows_s : (fun j => (iblk m c 3 t : Vec Ideal S1x1024 .f32) (ix2 0 j)) = fun j => argS m c (ix2 0 j) := funext (blk_s m c t)

/-- What a step adds to the gradient in the scale, and in the shift. -/
def scalePart (y : S1x1024.Idx) : EReal := ∑ r : Fin 512, scaleGrad (fun j => argX m c (ix2 (row t r) j)) (fun j => argH m c (ix2 (row t r) j)) (y 1)
/-- What a step adds to the gradient in the shift. -/
def shiftPart (y : S1x1024.Idx) : EReal := ∑ r : Fin 512, argH m c (ix2 (row t r) (y 1))

/-- A step's new gradient in the scale. -/
theorem scale_step (acc : Vec Ideal S1x1024 .f32) (y : S1x1024.Idx) : k0_pay4 (F := Ideal) (k0_pay10 (iblk m c 0 t) (iblk m c 1 t)) acc y = acc y + scalePart m c t y :=
  (scale_at _ _ acc y).trans (congrArg (acc y + ·) (Finset.sum_congr rfl fun r _ =>
    congrArg₂ (fun p q => scaleGrad p q (y 1)) (rows_x m c t r) (rows_h m c t r)))

/-- A step's new gradient in the shift. -/
theorem shift_step (acc : Vec Ideal S1x1024 .f32) (y : S1x1024.Idx) : k0_pay5 (F := Ideal) (k0_pay9 (iblk m c 1 t)) acc y = acc y + shiftPart m c t y :=
  (shift_at _ acc y).trans (congrArg (acc y + ·) (Finset.sum_congr rfl fun r _ => blk_h m c t r (y 1)))

/-- The first step sets the sums to its parts. -/
theorem scale_first (h : t.val % 16 = 0) (y : S1x1024.Idx) : (outsAt0 m c t.val t.isLt).2.1 y = 0 + scalePart m c t y := by
  have e : (outsAt0 m c t.val t.isLt).2.1 = k0_pay4 (k0_pay10 (iblk m c 0 t) (iblk m c 1 t)) (k0_pay2 (F := Ideal)) := by
    rw [outsAt0_A m c t h]
    frame_out
  rw [e, scale_step, scale_zero]

/-- The first step sets the gradient in the shift to its part. -/
theorem shift_first (h : t.val % 16 = 0) (y : S1x1024.Idx) : (outsAt0 m c t.val t.isLt).2.2 y = 0 + shiftPart m c t y := by
  have e : (outsAt0 m c t.val t.isLt).2.2 = k0_pay5 (k0_pay9 (iblk m c 1 t)) (k0_pay3 (F := Ideal)) := by
    rw [outsAt0_A m c t h]
    frame_out
  rw [e, shift_step, shift_zero]

/-- A later step adds its parts to what the step before left. -/
theorem scale_next (h : ¬t.val % 16 = 0) (y : S1x1024.Idx) : (outsAt0 m c t.val t.isLt).2.1 y
    = (outsAt0 m c (t.val - 1) (Nat.lt_of_le_of_lt (Nat.sub_le _ _) t.isLt)).2.1 y + scalePart m c t y := by
  have e : (outsAt0 m c t.val t.isLt).2.1 = k0_pay4 (k0_pay10 (iblk m c 0 t) (iblk m c 1 t)) (outsAt0 m c (t.val - 1) (Nat.lt_of_le_of_lt (Nat.sub_le _ _) t.isLt)).2.1 := by
    rw [outsAt0_B m c t h]
    frame_out
    try simp only [read_unread_whole]
  rw [e, scale_step]

/-- A later step adds its part to the gradient in the shift. -/
theorem shift_next (h : ¬t.val % 16 = 0) (y : S1x1024.Idx) : (outsAt0 m c t.val t.isLt).2.2 y
    = (outsAt0 m c (t.val - 1) (Nat.lt_of_le_of_lt (Nat.sub_le _ _) t.isLt)).2.2 y + shiftPart m c t y := by
  have e : (outsAt0 m c t.val t.isLt).2.2 = k0_pay5 (k0_pay9 (iblk m c 1 t)) (outsAt0 m c (t.val - 1) (Nat.lt_of_le_of_lt (Nat.sub_le _ _) t.isLt)).2.2 := by
    rw [outsAt0_B m c t h]
    frame_out
    try simp only [read_unread_whole]
  rw [e, shift_step]

/-- A step's block of the gradient in the input. -/
theorem out_at (r : Fin 512) (j : Fin 1024) : (outsAt0 m c t.val t.isLt).1 (ix2 r j)
    = inputGrad (argX m c) (argH m c) (argD m c) (argS m c) (ix2 (row t r) j) := by
  have e : (outsAt0 m c t.val t.isLt).1 = k0_pay1 (iblk m c 2 t) (k0_pay13 (iblk m c 0 t) (iblk m c 1 t) (iblk m c 3 t)) (k0_pay14 (iblk m c 0 t) (iblk m c 1 t) (iblk m c 3 t)) := by
    by_cases h : t.val % 16 = 0
    · rw [outsAt0_A m c t h]
      frame_out
    · rw [outsAt0_B m c t h]
      frame_out
  rw [e]
  refine (input_at _ _ _ _ r j).trans ?_
  have hx := rows_x m c t r
  have hh := rows_h m c t r
  have hd := rows_d m c t r
  have hs := rows_s m c t
  exact (congrArg₂ (fun p q => rowGrad p q _ _ j) hx hh).trans (congrArg₂ (fun p q => rowGrad _ _ p q j) hd hs)

/-- The rows of the steps, one after the other, are the rows of the array. -/
theorem row_eq (h : t.val % 16 = 15) (z : Fin 16) (r : Fin 512) (l : Fin 8192) (hl : l.val = z.val * 512 + r.val) (p : 16 * (t.val / 16) + z.val < cfg0.N) :
    row ⟨16 * (t.val / 16) + z.val, p⟩ r = l := Fin.ext (by have := step_lt t; dsimp only [row]; omega)

/-- The parts add up to the gradient in the scale. -/
theorem scale_sum (h : t.val % 16 = 15) (y : S1x1024.Idx) : (outsAt0 m c t.val t.isLt).2.1 y = inScale (argX m c) (argH m c) y := by
  refine (Pipeline.eq_sum_fin_of_reset_step_apply_of_flush (fun n h => (outsAt0 m c n h).2.1) 16 (fun _ => (0 : EReal)) (scalePart m c) (scale_first m c)
    (scale_next m c) t h y).trans ?_
  rw [zero_add]
  unfold scalePart inScale
  refine Fin.sum_mul_add_congr (n := 512) fun z r hl => ?_
  exact congrArg (fun r => scaleGrad (fun j => argX m c (ix2 r j)) (fun j => argH m c (ix2 r j)) (y 1)) (row_eq t h z r _ rfl _)

/-- The parts add up to the gradient in the shift. -/
theorem shift_sum (h : t.val % 16 = 15) (y : S1x1024.Idx) : (outsAt0 m c t.val t.isLt).2.2 y = inShift (argH m c) y := by
  refine (Pipeline.eq_sum_fin_of_reset_step_apply_of_flush (fun n h => (outsAt0 m c n h).2.2) 16 (fun _ => (0 : EReal)) (shiftPart m c) (shift_first m c)
    (shift_next m c) t h y).trans ?_
  rw [zero_add]
  unfold shiftPart inShift
  refine Fin.sum_mul_add_congr (n := 512) fun z r hl => ?_
  exact congrArg (fun r => argH m c (ix2 r (y 1))) (row_eq t h z r _ rfl _)

/-- The array of the gradient in the input. -/
theorem input_eq : (dats m 0 c).arrAt 5 cfg0.N = inputGrad (argX m c) (argH m c) (argD m c) (argS m c) := by
  refine (dats m 0 c).arrAt_eq_of_covers 5 _ (by decide +kernel) fun t hf y => ?_
  blk_simp
  rw [after0_5]
  have hy : y = ix2 (y 0) (y 1) := by funext d; fin_cases d <;> rfl
  refine (congrArg _ hy).trans ((out_at m c t (y 0) (y 1)).trans ?_)
  generalize inputGrad (argX m c) (argH m c) (argD m c) (argS m c) = X
  blk_ext [idx t]

/-- The array of the gradient in the scale. -/
theorem scale_eq : (dats m 0 c).arrAt 6 cfg0.N = inScale (argX m c) (argH m c) := by
  refine (dats m 0 c).arrAt_eq_of_covers 6 _ (by decide +kernel) fun t hf y => ?_
  blk_simp
  rw [after0_6]
  have hy : y = ix2 (y 0) (y 1) := by funext d; fin_cases d <;> rfl
  refine (scale_sum m c t (flush_scale t hf) y).trans ((congrArg _ hy).trans ?_)
  generalize inScale (argX m c) (argH m c) = X
  blk_ext [idx t]

/-- The array of the gradient in the shift. -/
theorem shift_eq : (dats m 0 c).arrAt 7 cfg0.N = inShift (argH m c) := by
  refine (dats m 0 c).arrAt_eq_of_covers 7 _ (by decide +kernel) fun t hf y => ?_
  blk_simp
  rw [after0_7]
  have hy : y = ix2 (y 0) (y 1) := by funext d; fin_cases d <;> rfl
  refine (shift_sum m c t (flush_shift t hf) y).trans ((congrArg _ hy).trans ?_)
  generalize inShift (argH m c) = X
  blk_ext [idx t]

end Cert.Kernel32Ideal.Modulation
-- ==== Proof.Stages.lean ====
/- The stages of the plain attention and of its gradient, as functions of whole arrays: each is one or a few host
   operations of the reference program. The reference's three results are compositions of them, by unfolding. -/
module

public import proofs.«01_k».proof.Proof.Gen.ReferenceIdeal.Run

@[expose] public section

set_option maxRecDepth 16384

noncomputable section

namespace Cert.ReferenceIdeal.Attn

open Idealize.ShloMosaic Idealize.ShloMosaic.TcCoe Idealize.SL.Sem Cert.ReferenceIdeal Cert.ReferenceIdeal.Gen Cert.ReferenceIdeal.Value

variable {F : FTy → Type} [FloatOps F]

/-- The chunk of each position: its number divided by 64, rounded down. -/
def chunkV : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- Which keys a query sees: those of its own chunk and of the chunks before. -/
def maskV : IVec S4x8192x8192 1 :=
  broadcastInDim S4x8192x8192 ![1, 2] bcast_S8192x8192_S4x8192x8192_1_2 (cmpi .sge (broadcastInDim S8192x8192 ![0, 1] bcast_S8192x1_S8192x8192_0_1 (broadcastInDim S8192x1 ![0] bcast_S8192_S8192x1_0 chunkV)) (broadcastInDim S8192x8192 ![0, 1] bcast_S1x8192_S8192x8192_0_1 (broadcastInDim S1x8192 ![1] bcast_S8192_S1x8192_1 chunkV)))

/-- The masked scores. -/
def scoresV (q k : FVec F S8192x1024 .f32) : FVec F S4x8192x8192 .f32 :=
  select maskV (Host.dotGeneral dot_S8192x4x256_S8192x4x256_S4x8192x8192_2_2_0_0_1_1 none (shapeCast _ q shapeCasts_S8192x1024_S8192x4x256) (shapeCast _ k shapeCasts_S8192x1024_S8192x4x256)) (broadcastInDim S4x8192x8192 ![] bcast_S_S4x8192x8192 (id (constant S_ .f32 0xFF800000#32)))

/-- The greatest score of a query. -/
def maxV (s : FVec F S4x8192x8192 .f32) : FVec F S4x8192 .f32 :=
  Host.reduce FloatOps.maximumf s (constant S_ .f32 0xFF800000#32) reducesTo_S4x8192x8192_S4x8192_d2 h_S_

/-- A row's value, once more compared with −∞ (as the softmax takes the greatest score). -/
def max2V (x : FVec F S4x8192 .f32) : FVec F S4x8192 .f32 :=
  maximumf (broadcastInDim S4x8192 ![] bcast_S_S4x8192 (constant S_ .f32 0xFF800000#32)) x

/-- A row's value, repeated along the row. -/
def rowV (x : FVec F S4x8192 .f32) : FVec F S4x8192x8192 .f32 :=
  broadcastInDim S4x8192x8192 ![0, 1, 2] bcast_S4x8192x1_S4x8192x8192_0_1_2 (broadcastInDim S4x8192x1 ![0, 1] bcast_S4x8192_S4x8192x1_0_1 x)

/-- The exponentials of the scores less a row's value. -/
def expV (s : FVec F S4x8192x8192 .f32) (x : FVec F S4x8192 .f32) : FVec F S4x8192x8192 .f32 :=
  Host.exp (subf s (rowV x))

/-- The sum of each row. -/
def sumV (e : FVec F S4x8192x8192 .f32) : FVec F S4x8192 .f32 :=
  Host.reduceAdd e (constant S_ .f32 0x00000000#32) reducesTo_S4x8192x8192_S4x8192_d2 h_S_

/-- The softmax: the exponentials over their row's sum. -/
def probV (e : FVec F S4x8192x8192 .f32) (l : FVec F S4x8192 .f32) : FVec F S4x8192x8192 .f32 :=
  Host.divf e (rowV l)

/-- The attention's output. -/
def outV (v : FVec F S8192x512 .f32) (p : FVec F S4x8192x8192 .f32) (d : DotDims S8192x4x128 S4x8192x8192 S4x128x8192)
    (h : S4x128x8192.Transposes [2, 0, 1] S8192x4x128) : FVec F S8192x512 .f32 :=
  shapeCast _ (transpose S8192x4x128 [2, 0, 1] (Host.dotGeneral d none (shapeCast _ v shapeCasts_S8192x512_S8192x4x128) p) h) shapeCasts_S8192x4x128_S8192x512

/-- The output's cotangent, head by head, the position last. -/
def doV (g : FVec F S8192x512 .f32) : FVec F S4x128x8192 .f32 :=
  transpose S4x128x8192 [1, 2, 0] (shapeCast _ g shapeCasts_S8192x512_S8192x4x128) transposes_S8192x4x128_S4x128x8192_1_2_0

/-- The cotangent of the softmax. -/
def dpV (g v : FVec F S8192x512 .f32) : FVec F S4x8192x8192 .f32 :=
  Host.dotGeneral dot_S4x128x8192_S8192x4x128_S4x8192x8192_1_2_2_0_0_1 none (doV g) (shapeCast _ v shapeCasts_S8192x512_S8192x4x128)

/-- The cotangent of each row's sum. -/
def dlV (dp e : FVec F S4x8192x8192 .f32) (l : FVec F S4x8192 .f32) : FVec F S4x8192 .f32 :=
  Host.reduceAdd (Host.negf (shapeCast _ (Host.reduceAdd (mulf (mulf dp (broadcastInDim S4x8192x8192 ![0, 1, 2] bcast_S4x8192x1_S4x8192x8192_0_1_2 (Host.divf (broadcastInDim S4x8192x1 ![] bcast_S_S4x8192x1 (constant S_ .f32 0x3F800000#32)) (mulf (broadcastInDim S4x8192x1 ![0, 1] bcast_S4x8192_S4x8192x1_0_1 l) (broadcastInDim S4x8192x1 ![0, 1] bcast_S4x8192_S4x8192x1_0_1 l))))) e) (constant S_ .f32 0x00000000#32) reducesTo_S4x8192x8192_S4x8192_d2 h_S_) shapeCasts_S4x8192_S4x8192x1)) (constant S_ .f32 0x00000000#32) reducesTo_S4x8192x1_S4x8192_d2 h_S_

/-- The cotangent of the scores. -/
def dsV (dp e : FVec F S4x8192x8192 .f32) (l : FVec F S4x8192 .f32) (dl : FVec F S4x8192 .f32) : FVec F S4x8192x8192 .f32 :=
  select maskV (mulf (addf (Host.divf dp (rowV l)) (broadcastInDim S4x8192x8192 ![0, 1] bcast_S4x8192_S4x8192x8192_0_1 dl)) e) (broadcastInDim S4x8192x8192 ![] bcast_S_S4x8192x8192 (constant S_ .f32 0x00000000#32))

/-- The cotangent of the queries. -/
def dqV (ds : FVec F S4x8192x8192 .f32) (k : FVec F S8192x1024 .f32) : FVec F S8192x1024 .f32 :=
  shapeCast _ (transpose S8192x4x256 [1, 0, 2] (Host.dotGeneral dot_S4x8192x8192_S8192x4x256_S4x8192x256_2_0_1_2_0_1 none ds (shapeCast _ k shapeCasts_S8192x1024_S8192x4x256)) transposes_S4x8192x256_S8192x4x256_1_0_2) shapeCasts_S8192x4x256_S8192x1024

/-- The cotangent of the keys. -/
def dkV (ds : FVec F S4x8192x8192 .f32) (q : FVec F S8192x1024 .f32) : FVec F S8192x1024 .f32 :=
  shapeCast _ (transpose S8192x4x256 [1, 0, 2] (Host.dotGeneral dot_S4x8192x8192_S8192x4x256_S4x8192x256_1_0_2_2_0_1 none ds (shapeCast _ q shapeCasts_S8192x1024_S8192x4x256)) transposes_S4x8192x256_S8192x4x256_1_0_2) shapeCasts_S8192x4x256_S8192x1024

/-- The cotangent of the values. -/
def dvV (g : FVec F S8192x512 .f32) (p : FVec F S4x8192x8192 .f32) : FVec F S8192x512 .f32 :=
  shapeCast _ (transpose S8192x4x128 [2, 0, 1] (Host.dotGeneral dot_S4x128x8192_S4x8192x8192_S4x128x8192_2_1_1_2_0_0 none (doV g) p) transposes_S4x128x8192_S8192x4x128_2_0_1) shapeCasts_S8192x4x128_S8192x512

/-- The exponentials the softmax takes, from the queries and the keys. -/
def smE (q k : FVec F S8192x1024 .f32) : FVec F S4x8192x8192 .f32 := expV (scoresV q k) (max2V (maxV (scoresV q k)))

/-- The cotangent of the scores, from the four arguments. -/
def smDs (q k : FVec F S8192x1024 .f32) (v g : FVec F S8192x512 .f32) : FVec F S4x8192x8192 .f32 :=
  dsV (dpV g v) (smE q k) (sumV (smE q k)) (dlV (dpV g v) (smE q k) (sumV (smE q k)))

variable (m : (ℓ : Loc nD τ sig) → Buf (Elt F) ℓ) (c : Dev nD)

/-- The reference's first result is the cotangent of the queries. -/
theorem res0_eq : res_main_v67 m c = dqV (smDs (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) := rfl

/-- The reference's second result is the cotangent of the keys. -/
theorem res1_eq : res_main_v66 m c = dkV (smDs (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg0)) := rfl

/-- The reference's third result is the cotangent of the values. -/
theorem res2_eq : res_main_v48 m c = dvV (m ((c.tc : Thread nD τ).loc main_arg3)) (probV (smE (m ((c.tc : Thread nD τ).loc main_arg0)) (m ((c.tc : Thread nD τ).loc main_arg1))) (sumV (smE (m ((c.tc : Thread nD τ).loc main_arg0)) (m ((c.tc : Thread nD τ).loc main_arg1))))) := rfl

end Cert.ReferenceIdeal.Attn
-- ==== Proof.Entry.lean ====
/- What the kernel's call finds in its operands: the queries, keys and values narrowed, and the output and the
   log-sum-exp of the attention, which the host computes with the stages of Stages.lean. -/
module

public import proofs.«01_k».proof.Proof.Stages
public import proofs.«01_k».proof.Proof.Gen.KernelIdeal.Frame
public import Idealize.ShloMosaic.Lib.Pipeline.ValueKit

@[expose] public section

set_option maxRecDepth 16384

noncomputable section

namespace Cert.KernelIdeal.Attn

open Idealize.ShloMosaic Idealize.ShloMosaic.TcCoe Idealize.ShloMosaic.StableHlo Idealize.SL.Sem Cert.KernelIdeal Cert.KernelIdeal.Gen
open Cert.ReferenceIdeal.Attn (scoresV maxV expV sumV probV smE outV)

variable {F : FTy → Type} [FloatOps F]

/-- The log-sum-exp of each row of scores from the row's greatest value and its sum of exponentials, over 128 lanes. -/
def lseV (mx l : FVec F S4x8192 .f32) : FVec F S4x8192x128 .f32 :=
  broadcastInDim S4x8192x128 ![0, 1, 2] bcast_S4x8192x1_S4x8192x128_0_1_2 (addf (broadcastInDim S4x8192x1 ![0, 1] bcast_S4x8192_S4x8192x1_0_1 mx) (Host.log (broadcastInDim S4x8192x1 ![0, 1] bcast_S4x8192_S4x8192x1_0_1 l)))

variable (m : (ℓ : Loc nD τ sig) → Buf (Elt F) ℓ) (c : Dev nD)

/-- The queries' operand. -/
theorem V_q : V m c main_v47 = truncf (F := F) .bf16 ((m ((c.tc : Thread nD τ).loc main_arg0)) : Vec F S8192x1024 .f32) bitsLt_bf16_f32 := by
  simp only [V, hostOps0, hostOps0_1, hostOps0_2, hostOps0_3, hostOps0_4, hostOps0_5, hostOps0_6, hostOps0_7,
    hostOps0_8, List.flatten_cons, List.flatten_nil, List.append_nil, List.cons_append, List.nil_append,
    TRef.binary, TRef.nullary, TRef.ternary, TRef.unary, TRef.toBuf, TRef.ofBuf, cast_eq]
  after_results_simp <;> rfl

/-- The keys' operand. -/
theorem V_k : V m c main_v48 = truncf (F := F) .bf16 ((m ((c.tc : Thread nD τ).loc main_arg1)) : Vec F S8192x1024 .f32) bitsLt_bf16_f32 := by
  simp only [V, hostOps0, hostOps0_1, hostOps0_2, hostOps0_3, hostOps0_4, hostOps0_5, hostOps0_6, hostOps0_7,
    hostOps0_8, List.flatten_cons, List.flatten_nil, List.append_nil, List.cons_append, List.nil_append,
    TRef.binary, TRef.nullary, TRef.ternary, TRef.unary, TRef.toBuf, TRef.ofBuf, cast_eq]
  after_results_simp <;> rfl

/-- The values' operand. -/
theorem V_v : V m c main_v49 = truncf (F := F) .bf16 ((m ((c.tc : Thread nD τ).loc main_arg2)) : Vec F S8192x512 .f32) bitsLt_bf16_f32 := by
  simp only [V, hostOps0, hostOps0_1, hostOps0_2, hostOps0_3, hostOps0_4, hostOps0_5, hostOps0_6, hostOps0_7,
    hostOps0_8, List.flatten_cons, List.flatten_nil, List.append_nil, List.cons_append, List.nil_append,
    TRef.binary, TRef.nullary, TRef.ternary, TRef.unary, TRef.toBuf, TRef.ofBuf, cast_eq]
  after_results_simp <;> rfl

/-- The operand that holds the attention's output. -/
theorem V_o : V m c main_v25 = outV (m ((c.tc : Thread nD τ).loc main_arg2)) (probV (smE (m ((c.tc : Thread nD τ).loc main_arg0)) (m ((c.tc : Thread nD τ).loc main_arg1))) (sumV (smE (m ((c.tc : Thread nD τ).loc main_arg0)) (m ((c.tc : Thread nD τ).loc main_arg1))))) dot_S8192x4x128_S4x8192x8192_S4x128x8192_0_2_2_1_1_0 transposes_S4x128x8192_S8192x4x128_2_0_1 := by
  simp only [V, hostOps0, hostOps0_1, hostOps0_2, hostOps0_3, hostOps0_4, hostOps0_5, hostOps0_6, hostOps0_7,
    hostOps0_8, List.flatten_cons, List.flatten_nil, List.append_nil, List.cons_append, List.nil_append,
    TRef.binary, TRef.nullary, TRef.ternary, TRef.unary, TRef.toBuf, TRef.ofBuf, cast_eq]
  after_results_simp <;> rfl

/-- The operand that holds the log-sum-exp. -/
theorem V_lse : V m c main_v46 = lseV (maxV (scoresV (m ((c.tc : Thread nD τ).loc main_arg0)) (m ((c.tc : Thread nD τ).loc main_arg1)))) (sumV (expV (scoresV (m ((c.tc : Thread nD τ).loc main_arg0)) (m ((c.tc : Thread nD τ).loc main_arg1))) (maxV (scoresV (m ((c.tc : Thread nD τ).loc main_arg0)) (m ((c.tc : Thread nD τ).loc main_arg1)))))) := by
  simp only [V, hostOps0, hostOps0_1, hostOps0_2, hostOps0_3, hostOps0_4, hostOps0_5, hostOps0_6, hostOps0_7,
    hostOps0_8, List.flatten_cons, List.flatten_nil, List.append_nil, List.cons_append, List.nil_append,
    TRef.binary, TRef.nullary, TRef.ternary, TRef.unary, TRef.toBuf, TRef.ofBuf, cast_eq]
  after_results_simp <;> rfl

end Cert.KernelIdeal.Attn
-- ==== Proof.Rows.lean ====
/- The tile of a head's query gradient that one grid step reads and replaces. -/
module

public import proofs.«01_k».proof.Proof.Gen.KernelIdeal.Frame
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.KernelIdeal.Attn

open Idealize.ShloMosaic Idealize.ShloMosaic.TcCoe Idealize.SL.Sem Cert.KernelIdeal Cert.KernelIdeal.Gen

variable {F : FTy → Type} [FloatOps F]

/-- A tile of the gradient of the head's queries. -/
def rowsOf (p : Vec F S8192x256 .f32) (off : Fin 2 → Nat) (inb : ∀ a, off a + (![1024, 256] : Fin 2 → Nat) a ≤ S8192x256.size a) : Vec F S1024x256 .f32 :=
  View.ld p (Rect.unit (s := S8192x256) off ![1024, 256] inb)

/-- The gradient of the head's queries with a tile of it replaced. -/
def rowsUpd (p : Vec F S8192x256 .f32) (off : Fin 2 → Nat) (inb : ∀ a, off a + (![1024, 256] : Fin 2 → Nat) a ≤ S8192x256.size a) (w : Vec F S1024x256 .f32) : Vec F S8192x256 .f32 :=
  View.read (Elt F) (View.whole cc0_scratch2) ((View.whole cc0_scratch2).writes (Elt F) (((Memref.isWhole_whole cc0_scratch2).unread p)) [⟨Rect.unit (s := S8192x256) off ![1024, 256] inb, w⟩])

variable (p : Vec F S8192x256 .f32) (off : Fin 2 → Nat) (inb : ∀ a, off a + (![1024, 256] : Fin 2 → Nat) a ≤ S8192x256.size a)
  (w : Vec F S1024x256 .f32)

/-- Replacing a tile after filling the whole buffer. -/
theorem canon_rows : View.canon [(⟨Rect.unit (s := S8192x256) off ![1024, 256] inb, w⟩ : View.Piece (Elt F) S8192x256 .f32),
      ⟨Rect.unit ![0, 0] ![8192, 256] inb_S8192x256_S8192x256_0_0, p⟩] = rowsUpd p off inb w := by
  have hc : View.canon [(⟨Rect.unit ![0, 0] ![8192, 256] inb_S8192x256_S8192x256_0_0, p⟩ : View.Piece (Elt F) S8192x256 .f32)] = p :=
    View.canon_unit_zero (by funext a; fin_cases a <;> rfl) _ p
  funext y
  by_cases hy : y ∈ (Rect.unit (s := S8192x256) off ![1024, 256] inb).set
  · obtain ⟨x, rfl⟩ := (Rect.unit (s := S8192x256) off ![1024, 256] inb).exists_idx_of_mem hy
    rw [rowsUpd]
    exact (View.canon_cons_emb _ w _ x).trans (View.read_writes_cons_emb ..).symm
  · have hy' : y ∉ Finset.univ.map (Rect.unit (s := S8192x256) off ![1024, 256] inb).emb := by rwa [Rect.map_emb_univ]
    refine (View.canon_cons_of_not_mem (⟨Rect.unit (s := S8192x256) off ![1024, 256] inb, w⟩ : View.Piece (Elt F) S8192x256 .f32) _ hy).trans ?_
    rw [hc, rowsUpd, View.writes_cons]
    refine Eq.trans ?_ (View.read_slice_write_of_not_mem (Rect.unit (s := S8192x256) off ![1024, 256] inb) _ _ _ hy').symm
    exact (congrFun (read_unread_whole cc0_scratch2 _ p) y).symm

theorem rowsOf_at {i : Nat} (hoff : off = ![1024 * i, 0]) (r : Fin 1024) (x : Fin 256) (hr : i * 1024 + r.val < 8192) :
    rowsOf p off inb (ix2 r x) = p (ix2 ⟨i * 1024 + r.val, hr⟩ x) := by
  subst hoff
  have e : (Rect.unit (s := S8192x256) ![1024 * i, 0] ![1024, 256] inb).idx (ix2 r x) = ix2 ⟨i * 1024 + r.val, hr⟩ x := by
    funext d
    fin_cases d
    · exact Fin.ext (by simp [mul_comm])
    · exact Fin.ext (by simp)
  exact congrArg p e

theorem rowsUpd_in {i : Nat} (hoff : off = ![1024 * i, 0]) (r : Fin 8192) (x : Fin 256) (hi : r.val / 1024 = i) :
    rowsUpd p off inb w (ix2 r x) = w (ix2 ⟨r.val % 1024, Nat.mod_lt _ (by decide)⟩ x) :=
  View.read_writes_cons_rows_of_mem (View.whole cc0_scratch2) _ inb w [] (ix2 r x) (ix2 ⟨r.val % 1024, Nat.mod_lt _ (by decide)⟩ x) hoff
    (by show r.val = 1024 * i + r.val % 1024; omega) rfl

theorem rowsUpd_out {i : Nat} (hoff : off = ![1024 * i, 0]) (r : Fin 8192) (x : Fin 256) (hi : ¬r.val / 1024 = i) :
    rowsUpd p off inb w (ix2 r x) = p (ix2 r x) :=
  (View.read_writes_cons_rows_of_not_mem (View.whole cc0_scratch2) _ inb w [] (ix2 r x) hoff (W := 1024) rfl
    (by show r.val < 1024 * i ∨ 1024 * i + 1024 ≤ r.val; omega)).trans (congrFun (read_unread_whole cc0_scratch2 _ p) _)

end Cert.KernelIdeal.Attn
-- ==== Proof.Chunks.lean ====
/- Which keys a query sees, read off the words the programs compute: a position's chunk is its number over 64. -/
module

public import proofs.«01_k».proof.Proof.Stages
public import Idealize.ShloMosaic.Lib.Pipeline.ValueKit
public import Idealize.ShloMosaic.Lib.Pointwise

@[expose] public section

set_option maxRecDepth 16384

noncomputable section

namespace Cert.ReferenceIdeal.Attn

open Idealize.ShloMosaic Idealize.ShloMosaic.TcCoe Idealize.SL.Sem Cert.ReferenceIdeal Cert.ReferenceIdeal.Gen

/-! ## The mask -/

/-- The chunk of a position, as a word. -/
theorem chunkV_at (a : Fin 8192) : chunkV (ix1 a) = BitVec.ofNat 32 (a.val / 64) := by
  pointwise [chunkV]
  revert a
  decide +kernel

/-- Comparing two chunks' words compares the chunks. -/
theorem sge_words (a b : Nat) (ha : a < 128) (hb : b < 128) :
    IntOp.cmpi .sge (BitVec.ofNat 32 a) (BitVec.ofNat 32 b) = if b ≤ a then 1#1 else 0#1 := by
  have e : ∀ n : Nat, n < 128 → (BitVec.ofNat 32 n).toInt = n := fun n hn => by
    rw [BitVec.toInt_eq_toNat_of_lt (by rw [BitVec.toNat_ofNat]; omega), BitVec.toNat_ofNat]; omega
  by_cases h : b ≤ a <;> simp [IntOp.cmpi, BitVec.sle_eq_decide, e a ha, e b hb, h]

theorem maskV_at (h : Fin 4) (a b : Fin 8192) :
    maskV (ix3 h a b) = if b.val / 64 ≤ a.val / 64 then 1#1 else 0#1 := by
  pointwise [maskV]
  rw [chunkV_at, chunkV_at]
  exact sge_words _ _ (by omega) (by omega)

/-- A choice by a condition's word. -/
theorem select_if {α : Type} (p : Prop) [Decidable p] (x y : α) :
    Scalar.select (if p then 1#1 else 0#1) x y = if p then x else y := by
  by_cases h : p <;> simp [h, Scalar.select]

end Cert.ReferenceIdeal.Attn
-- ==== Proof.RealRef.lean ====
/- The attention and its gradient over the real numbers, and the stages of Stages.lean at finite arguments: each holds,
   at every index, the real number written here. -/
module

public import proofs.«01_k».proof.Proof.Chunks
public import Idealize.ShloMosaic.Lib.Pipeline.ValueKit
public import Idealize.ShloMosaic.Lib.Pointwise

@[expose] public section

set_option maxRecDepth 16384

noncomputable section

namespace Cert.ReferenceIdeal.Attn

open Idealize.ShloMosaic Idealize.ShloMosaic.TcCoe Idealize.SL.Sem Cert.ReferenceIdeal Cert.ReferenceIdeal.Gen

/-! ## The extended reals -/

/-- A sum of reals is the same sum over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of values that are real or −∞, one of them real, is real. -/
theorem fold_max_real {ι : Type} [Fintype ι] (f : ι → EReal) (ht : ∀ i, f i ≠ ⊤) (i₀ : ι) (hb : f i₀ ≠ ⊥) :
    ((Finset.fold max ⊥ f Finset.univ).toReal : EReal) = Finset.fold max ⊥ f Finset.univ := by
  refine EReal.coe_toReal (ne_of_lt ?_) (ne_of_gt ?_)
  · exact (Finset.fold_max_lt _).2 ⟨bot_lt_top, fun x _ => lt_top_iff_ne_top.2 (ht x)⟩
  · exact (Finset.lt_fold_max _).2 (Or.inr ⟨i₀, Finset.mem_univ _, bot_lt_iff_ne_bot.2 hb⟩)

/-- A quotient of reals, the divisor not zero. -/
theorem div_real (x : ℝ) {y : ℝ} (h : y ≠ 0) : Ideal.div (x : EReal) (y : EReal) = ((x / y : ℝ) : EReal) := by
  rw [Ideal.div_coe h, ← EReal.coe_mul, mul_one_div]

/-- The word of −∞. -/
theorem negInf : Ideal.ofBits .f32 0xFF800000#32 = ⊥ := by
  simp [Ideal.ofBits, Ideal.ieee]

/-- Every entry of an array is a real number. -/
def Finite {s : Shape} (x : s.Idx → EReal) : Prop := ∀ y, ((x y).toReal : EReal) = x y

/-! ## The stages at an index -/

section Stages

variable (q k : FVec Ideal S8192x1024 .f32) (v g : FVec Ideal S8192x512 .f32) (s e p : FVec Ideal S4x8192x8192 .f32) (l : FVec Ideal S4x8192 .f32)
variable (h : Fin 4) (a b : Fin 8192)

theorem scoresV_at : scoresV q k (ix3 h a b)
    = if b.val / 64 ≤ a.val / 64 then ∑ x : Fin 256, q (ix2 a ⟨h.val * 256 + x.val, by omega⟩) * k (ix2 b ⟨h.val * 256 + x.val, by omega⟩) else ⊥ := by
  pointwise [scoresV]
  rw [maskV_at, select_if]
  exact if_congr Iff.rfl rfl negInf

theorem maxV_at : maxV s (ix2 h a) = Finset.fold max ⊥ (fun x => s (ix3 h a x)) Finset.univ := by
  pointwise [maxV]
  rw [negInf]

theorem max2V_at : max2V l (ix2 h a) = l (ix2 h a) := by
  pointwise [max2V]
  rw [negInf]
  exact max_eq_right bot_le

theorem expV_at : expV s l (ix3 h a b) = Ideal.exp (s (ix3 h a b) - l (ix2 h a)) := by
  pointwise [expV, rowV]

theorem sumV_at : sumV s (ix2 h a) = ∑ x, s (ix3 h a x) := by
  pointwise [sumV]

theorem probV_at : probV e l (ix3 h a b) = Ideal.div (e (ix3 h a b)) (l (ix2 h a)) := by
  pointwise [probV, rowV]

theorem dpV_at : dpV g v (ix3 h a b)
    = ∑ x : Fin 128, g (ix2 a ⟨h.val * 128 + x.val, by omega⟩) * v (ix2 b ⟨h.val * 128 + x.val, by omega⟩) := by
  pointwise [dpV, doV]

theorem sum_unit_at (z : FVec Ideal S4x8192x1 .f32) :
    Host.reduceAdd z (constant S_ .f32 0x00000000#32) reducesTo_S4x8192x1_S4x8192_d2 h_S_ (ix2 h a) = z (ix3 h a 0) := by
  pointwise []
  exact Fin.sum_univ_one _

theorem add_unit_at (z : FVec Ideal S4x8192 .f32) :
    shapeCast S4x8192x1 z shapeCasts_S4x8192_S4x8192x1 (ix3 h a 0) = z (ix2 h a) := by
  pointwise []

/-- A sign's change at an index. -/
theorem negf_at {t : Shape} (z : FVec Ideal t .f32) (i : t.Idx) : Host.negf z i = -z i := rfl

/-- The terms whose sum is a row's: each cotangent times its exponential over the square of the row's sum. -/
def dlTermV : FVec Ideal S4x8192x8192 .f32 :=
  mulf (mulf s (broadcastInDim S4x8192x8192 ![0, 1, 2] bcast_S4x8192x1_S4x8192x8192_0_1_2 (Host.divf (broadcastInDim S4x8192x1 ![] bcast_S_S4x8192x1 (constant S_ .f32 0x3F800000#32)) (mulf (broadcastInDim S4x8192x1 ![0, 1] bcast_S4x8192_S4x8192x1_0_1 l) (broadcastInDim S4x8192x1 ![0, 1] bcast_S4x8192_S4x8192x1_0_1 l))))) e

theorem dlTermV_at : dlTermV s e l (ix3 h a b) = s (ix3 h a b) * Ideal.div 1 (l (ix2 h a) * l (ix2 h a)) * e (ix3 h a b) := by
  pointwise [dlTermV]

theorem dlV_eq : dlV s e l = Host.reduceAdd (Host.negf (shapeCast S4x8192x1 (sumV (dlTermV s e l)) shapeCasts_S4x8192_S4x8192x1)) (constant S_ .f32 0x00000000#32) reducesTo_S4x8192x1_S4x8192_d2 h_S_ := rfl

theorem dlV_at : dlV s e l (ix2 h a)
    = -∑ x, s (ix3 h a x) * Ideal.div 1 (l (ix2 h a) * l (ix2 h a)) * e (ix3 h a x) := by
  rw [dlV_eq, sum_unit_at, negf_at, add_unit_at, sumV_at]
  exact congrArg (fun z : EReal => -z) (Finset.sum_congr rfl fun x _ => dlTermV_at s e l h a x)

theorem dsV_at (dl : FVec Ideal S4x8192 .f32) : dsV s e l dl (ix3 h a b)
    = if b.val / 64 ≤ a.val / 64 then (Ideal.div (s (ix3 h a b)) (l (ix2 h a)) + dl (ix2 h a)) * e (ix3 h a b) else 0 := by
  pointwise [dsV, rowV]
  rw [maskV_at, select_if]

theorem dqV_at (y : S8192x1024.Idx) : dqV s k y
    = ∑ x, s (ix3 ⟨(y 1).val / 256, by have := (y 1).isLt; simp at this; omega⟩ (y 0) x) * k (ix2 x (y 1)) := by
  pointwise [dqV]

theorem dkV_at (y : S8192x1024.Idx) : dkV s q y
    = ∑ x, s (ix3 ⟨(y 1).val / 256, by have := (y 1).isLt; simp at this; omega⟩ x (y 0)) * q (ix2 x (y 1)) := by
  pointwise [dkV]

theorem dvV_at (y : S8192x512.Idx) : dvV g p y
    = ∑ x, g (ix2 x (y 1)) * p (ix3 ⟨(y 1).val / 128, by have := (y 1).isLt; simp at this; omega⟩ x (y 0)) := by
  pointwise [dvV, doV]

end Stages

/-! ## The real numbers -/

section Real

variable (q k : FVec Ideal S8192x1024 .f32) (v g : FVec Ideal S8192x512 .f32)
variable (h : Fin 4) (a b : Fin 8192)

/-- A score. -/
def scR : ℝ := ∑ x : Fin 256, (q (ix2 a ⟨h.val * 256 + x.val, by omega⟩)).toReal * (k (ix2 b ⟨h.val * 256 + x.val, by omega⟩)).toReal

/-- The greatest score of a query. -/
def mxR : ℝ := (maxV (scoresV q k) (ix2 h a)).toReal

/-- The exponential of a score less the greatest; none of a key that is not seen. -/
def eR : ℝ := if b.val / 64 ≤ a.val / 64 then Real.exp (scR q k h a b - mxR q k h a) else 0

/-- The sum of a query's exponentials. -/
def lR : ℝ := ∑ b, eR q k h a b

/-- A probability. -/
def pR : ℝ := eR q k h a b / lR q k h a

/-- The cotangent of a probability. -/
def dpR : ℝ := ∑ x : Fin 128, (g (ix2 a ⟨h.val * 128 + x.val, by omega⟩)).toReal * (v (ix2 b ⟨h.val * 128 + x.val, by omega⟩)).toReal

/-- The cotangent of a score. -/
def dsR : ℝ := pR q k h a b * (dpR v g h a b - ∑ c, dpR v g h a c * pR q k h a c)

variable {q k v g}

theorem scores_real (hq : Finite q) (hk : Finite k) :
    scoresV q k (ix3 h a b) = if b.val / 64 ≤ a.val / 64 then (scR q k h a b : EReal) else ⊥ := by
  rw [scoresV_at]
  refine if_congr Iff.rfl ?_ rfl
  rw [scR, coe_sum]
  exact Finset.sum_congr rfl fun x _ => by rw [EReal.coe_mul, hq, hk]

theorem max_real (hq : Finite q) (hk : Finite k) : maxV (scoresV q k) (ix2 h a) = (mxR q k h a : EReal) := by
  rw [mxR, maxV_at]
  refine (fold_max_real _ (fun i => ?_) a ?_).symm
  · rw [scores_real h a i hq hk]
    split
    · exact EReal.coe_ne_top _
    · exact bot_ne_top
  · rw [scores_real h a a hq hk, if_pos le_rfl]
    exact EReal.coe_ne_bot _

/-- The exponentials less any row value that is the greatest score. -/
theorem exp_real (hq : Finite q) (hk : Finite k) (l : FVec Ideal S4x8192 .f32) (hl : l (ix2 h a) = (mxR q k h a : EReal)) :
    expV (scoresV q k) l (ix3 h a b) = (eR q k h a b : EReal) := by
  rw [expV_at, scores_real h a b hq hk, hl, eR]
  split
  · rw [← EReal.coe_sub, Ideal.exp_coe]
  · rw [EReal.bot_sub, Ideal.exp_bot, EReal.coe_zero]

theorem smE_real (hq : Finite q) (hk : Finite k) : smE q k (ix3 h a b) = (eR q k h a b : EReal) :=
  exp_real h a b hq hk _ ((max2V_at _ h a).trans (max_real h a hq hk))

theorem sum_real (hq : Finite q) (hk : Finite k) : sumV (smE q k) (ix2 h a) = (lR q k h a : EReal) := by
  rw [sumV_at, lR, coe_sum]
  exact Finset.sum_congr rfl fun x _ => smE_real h a x hq hk

theorem eR_nonneg : 0 ≤ eR q k h a b := by
  rw [eR]; split
  · exact (Real.exp_pos _).le
  · exact le_rfl

theorem lR_pos : 0 < lR q k h a :=
  Finset.sum_pos' (fun x _ => eR_nonneg h a x) ⟨a, Finset.mem_univ _, by rw [eR, if_pos le_rfl]; exact Real.exp_pos _⟩

theorem prob_real (hq : Finite q) (hk : Finite k) :
    probV (smE q k) (sumV (smE q k)) (ix3 h a b) = (pR q k h a b : EReal) := by
  rw [probV_at, smE_real h a b hq hk, sum_real h a hq hk, div_real _ (lR_pos h a).ne', pR]

theorem dp_real (hv : Finite v) (hg : Finite g) : dpV g v (ix3 h a b) = (dpR v g h a b : EReal) := by
  rw [dpV_at, dpR, coe_sum]
  exact Finset.sum_congr rfl fun x _ => by rw [EReal.coe_mul, hg, hv]

theorem dl_real (hq : Finite q) (hk : Finite k) (hv : Finite v) (hg : Finite g) :
    dlV (dpV g v) (smE q k) (sumV (smE q k)) (ix2 h a)
      = ((-((∑ c, dpR v g h a c * pR q k h a c) / lR q k h a) : ℝ) : EReal) := by
  have hl := (lR_pos (q := q) (k := k) h a).ne'
  rw [dlV_at, EReal.coe_neg, Finset.sum_div, coe_sum, sum_real h a hq hk, ← EReal.coe_mul, ← EReal.coe_one,
    div_real _ (mul_ne_zero hl hl)]
  refine congrArg (fun z : EReal => -z) (Finset.sum_congr rfl fun x _ => ?_)
  rw [dp_real h a x hv hg, smE_real h a x hq hk, ← EReal.coe_mul, ← EReal.coe_mul, pR]
  refine congrArg _ ?_
  field_simp

theorem ds_real (hq : Finite q) (hk : Finite k) (hv : Finite v) (hg : Finite g) :
    smDs q k v g (ix3 h a b) = (dsR q k v g h a b : EReal) := by
  have hl := (lR_pos (q := q) (k := k) h a).ne'
  rw [smDs, dsV_at, dl_real h a hq hk hv hg, dp_real h a b hv hg, smE_real h a b hq hk, sum_real h a hq hk, div_real _ hl,
    ← EReal.coe_add, ← EReal.coe_mul, dsR, pR, eR]
  split
  · refine congrArg _ ?_
    field_simp
    ring
  · simp

/-! ## The three results -/

/-- The cotangent of the queries. -/
theorem dq_real (hq : Finite q) (hk : Finite k) (hv : Finite v) (hg : Finite g) (y : S8192x1024.Idx) :
    dqV (smDs q k v g) k y
      = ∑ x, (dsR q k v g ⟨(y 1).val / 256, by have := (y 1).isLt; simp at this; omega⟩ (y 0) x : EReal) * k (ix2 x (y 1)) := by
  rw [dqV_at]
  exact Finset.sum_congr rfl fun x _ => congrArg (· * _) (ds_real _ _ _ hq hk hv hg)

/-- The cotangent of the keys. -/
theorem dk_real (hq : Finite q) (hk : Finite k) (hv : Finite v) (hg : Finite g) (y : S8192x1024.Idx) :
    dkV (smDs q k v g) q y
      = ∑ x, (dsR q k v g ⟨(y 1).val / 256, by have := (y 1).isLt; simp at this; omega⟩ x (y 0) : EReal) * q (ix2 x (y 1)) := by
  rw [dkV_at]
  exact Finset.sum_congr rfl fun x _ => congrArg (· * _) (ds_real _ _ _ hq hk hv hg)

/-- The cotangent of the values. -/
theorem dv_real (hq : Finite q) (hk : Finite k) (y : S8192x512.Idx) :
    dvV g (probV (smE q k) (sumV (smE q k))) y
      = ∑ x, (pR q k ⟨(y 1).val / 128, by have := (y 1).isLt; simp at this; omega⟩ x (y 0) : EReal) * g (ix2 x (y 1)) := by
  rw [dvV_at]
  exact Finset.sum_congr rfl fun x _ => (mul_comm _ _).trans (congrArg (· * _) (prob_real _ _ _ hq hk))

end Real

end Cert.ReferenceIdeal.Attn
-- ==== Proof.Words.lean ====
/- The kernel's mask: the words it computes for the chunk of a row and of a column, and what they choose. -/
module

public import proofs.«01_k».proof.Proof.Chunks
public import proofs.«01_k».proof.Proof.Gen.KernelIdeal.Skeleton

@[expose] public section

set_option maxRecDepth 16384

noncomputable section

namespace Cert.KernelIdeal.Attn

open Idealize.ShloMosaic Idealize.SL.Sem Cert.KernelIdeal Cert.KernelIdeal.Gen
open Cert.ReferenceIdeal.Attn (sge_words select_if)

/-- The word the kernel computes for the chunk of a position: a quotient rounded down. -/
def chunkW (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi ArithUnit.vector w 64#32) 0#32))
    (IntOp.subi (IntOp.divsi ArithUnit.vector w 64#32) 1#32)
    (IntOp.divsi ArithUnit.vector w 64#32)

theorem chunkW_at : ∀ n : Fin 8192, chunkW (BitVec.ofNat 32 n.val) = BitVec.ofNat 32 (n.val / 64) := by
  decide +kernel

/-- A position's word: the tile's number times 1024, plus the place in the tile. -/
theorem pos_word (i r : Nat) :
    IntOp.addi (Scalar.muli (BitVec.ofNat 32 i) 1024#32) (BitVec.ofNat 32 r) = BitVec.ofNat 32 (i * 1024 + r) := by
  show BitVec.ofNat 32 i * 1024#32 + BitVec.ofNat 32 r = _
  rw [BitVec.ofNat_add, BitVec.ofNat_mul]

theorem row_word (i : Nat) (r s : Fin 1024) : k0_pay19 (BitVec.ofNat 32 i) (ix2 r s) = BitVec.ofNat 32 (i * 1024 + r.val) := by
  pointwise [k0_pay19]
  exact pos_word i r.val

theorem col_word (j : Nat) (r s : Fin 1024) : k0_pay20 (BitVec.ofNat 32 j) (ix2 r s) = BitVec.ofNat 32 (j * 1024 + s.val) := by
  pointwise [k0_pay20]
  exact pos_word j s.val

/-- The masked tile: an entry whose key is seen, else zero. -/
theorem masked_at (p : FVec Ideal S1024x1024 .f32) (i j : Nat) (hi : i < 8) (hj : j < 8) (r s : Fin 1024) :
    k0_pay24 p (k0_pay20 (BitVec.ofNat 32 j)) (k0_pay21 (BitVec.ofNat 32 i)) (k0_pay22 (BitVec.ofNat 32 i)) k0_pay23 (ix2 r s)
      = if (j * 1024 + s.val) / 64 ≤ (i * 1024 + r.val) / 64 then p (ix2 r s) else 0 := by
  have e : k0_pay24 p (k0_pay20 (BitVec.ofNat 32 j)) (k0_pay21 (BitVec.ofNat 32 i)) (k0_pay22 (BitVec.ofNat 32 i)) k0_pay23 (ix2 r s)
      = Scalar.select (IntOp.cmpi .sge (chunkW (k0_pay19 (BitVec.ofNat 32 i) (ix2 r s))) (chunkW (k0_pay20 (BitVec.ofNat 32 j) (ix2 r s)))) (p (ix2 r s)) 0 := by
    pointwise [k0_pay24, k0_pay21, k0_pay22, k0_pay23, chunkW]
  have hr := r.isLt
  have hs := s.isLt
  rw [e, row_word, col_word, chunkW_at ⟨i * 1024 + r.val, by omega⟩, chunkW_at ⟨j * 1024 + s.val, by omega⟩,
    sge_words _ _ (by dsimp only; omega) (by dsimp only; omega), select_if]

end Cert.KernelIdeal.Attn
-- ==== Proof.Tiles.lean ====
/- One step of the kernel's grid on a tile of queries and a tile of keys: what it adds to each accumulator, as real
   numbers of RealRef.lean. -/
module

public import proofs.«01_k».proof.Proof.RealRef
public import proofs.«01_k».proof.Proof.Words

@[expose] public section

set_option maxRecDepth 16384

noncomputable section

namespace Cert.KernelIdeal.Attn

open Idealize.ShloMosaic Idealize.SL.Sem Cert.KernelIdeal Cert.KernelIdeal.Gen
open Cert.ReferenceIdeal.Attn

section Real

variable (q k : FVec Ideal S8192x1024 .f32) (v g : FVec Ideal S8192x512 .f32)
variable (h : Fin 4) (a b : Fin 8192)

/-- The attention's output. -/
def oR (x : Fin 128) : ℝ := ∑ c, (v (ix2 c ⟨h.val * 128 + x.val, by omega⟩)).toReal * pR q k h a c

/-- The log-sum-exp of a query's scores. -/
def lseR : ℝ := mxR q k h a + Real.log (lR q k h a)

/-- The exponential of a score less the log-sum-exp is the probability, where the key is seen. -/
theorem exp_lse (hs : b.val / 64 ≤ a.val / 64) : Real.exp (scR q k h a b - lseR q k h a) = pR q k h a b := by
  rw [lseR, pR, eR, if_pos hs, ← sub_sub, Real.exp_sub, Real.exp_log (lR_pos h a)]

theorem pR_unseen (hs : ¬b.val / 64 ≤ a.val / 64) : pR q k h a b = 0 := by
  rw [pR, eR, if_neg hs, zero_div]

theorem dsR_unseen (hs : ¬b.val / 64 ≤ a.val / 64) : dsR q k v g h a b = 0 := by
  rw [dsR, pR_unseen _ _ _ _ _ hs, zero_mul]

/-- The output's product with its cotangent is the probabilities' product with theirs. -/
theorem delta_eq : ∑ x : Fin 128, (g (ix2 a ⟨h.val * 128 + x.val, by omega⟩)).toReal * oR q k v h a x
    = ∑ c, dpR v g h a c * pR q k h a c := by
  simp only [oR, dpR, Finset.mul_sum, Finset.sum_mul]
  rw [Finset.sum_comm]
  exact Finset.sum_congr rfl fun c _ => Finset.sum_congr rfl fun x _ => by ring

end Real

/-- The blocks of one grid step hold the rows `a` of the queries, of the cotangent, of the output and of the log-sum-exp,
    and the rows `b` of the keys and of the values, of head `h`. -/
structure Holds (q k : FVec Ideal S8192x1024 .f32) (v g : FVec Ideal S8192x512 .f32) (h : Fin 4) (a b : Fin 1024 → Fin 8192)
    (Bq Bk : Vec Ideal S1024x256 .bf16) (Bv : Vec Ideal S1024x128 .bf16) (Bo Bd : Vec Ideal S1024x128 .f32)
    (L : Vec Ideal S1x1024x1 .f32) : Prop where
  q_at : ∀ (r : Fin 1024) (x : Fin 256), Bq (ix2 r x) = q (ix2 (a r) ⟨h.val * 256 + x.val, by omega⟩)
  k_at : ∀ (r : Fin 1024) (x : Fin 256), Bk (ix2 r x) = k (ix2 (b r) ⟨h.val * 256 + x.val, by omega⟩)
  v_at : ∀ (r : Fin 1024) (x : Fin 128), Bv (ix2 r x) = v (ix2 (b r) ⟨h.val * 128 + x.val, by omega⟩)
  o_at : ∀ (r : Fin 1024) (x : Fin 128), Bo (ix2 r x) = (oR q k v h (a r) x : EReal)
  d_at : ∀ (r : Fin 1024) (x : Fin 128), Bd (ix2 r x) = g (ix2 (a r) ⟨h.val * 128 + x.val, by omega⟩)
  l_at : ∀ r : Fin 1024, L (ix3 0 r 0) = (lseR q k h (a r) : EReal)

section Tile

variable {q k : FVec Ideal S8192x1024 .f32} {v g : FVec Ideal S8192x512 .f32} {h : Fin 4} {a b : Fin 1024 → Fin 8192}
  {Bq Bk : Vec Ideal S1024x256 .bf16} {Bv : Vec Ideal S1024x128 .bf16} {Bo Bd : Vec Ideal S1024x128 .f32}
  {L : Vec Ideal S1x1024x1 .f32}
variable (H : Holds q k v g h a b Bq Bk Bv Bo Bd L) (hq : Finite q) (hk : Finite k) (hv : Finite v) (hg : Finite g)
variable (r s : Fin 1024)

include H hq hk in
/-- The exponential of a tile's entry. -/
theorem exp_tile : Ideal.exp (∑ x, Bq (ix2 r x) * Bk (ix2 s x) - L (ix3 0 r 0))
    = ((Real.exp (scR q k h (a r) (b s) - lseR q k h (a r)) : ℝ) : EReal) := by
  have e : ∑ x, Bq (ix2 r x) * Bk (ix2 s x) = (scR q k h (a r) (b s) : EReal) := by
    rw [scR, coe_sum]
    exact Finset.sum_congr rfl fun x _ => by rw [H.q_at, H.k_at, EReal.coe_mul, hq, hk]
  rw [e, H.l_at, ← EReal.coe_sub, Ideal.exp_coe]

include H hv hg in
/-- The cotangent of a probability less the row's product. -/
theorem diff_tile : ∑ x, Bd (ix2 r x) * Bv (ix2 s x) - ∑ x, Bd (ix2 r x) * Bo (ix2 r x)
    = ((dpR v g h (a r) (b s) - ∑ c, dpR v g h (a r) c * pR q k h (a r) c : ℝ) : EReal) := by
  have e1 : ∑ x, Bd (ix2 r x) * Bv (ix2 s x) = (dpR v g h (a r) (b s) : EReal) := by
    rw [dpR, coe_sum]
    exact Finset.sum_congr rfl fun x _ => by rw [H.d_at, H.v_at, EReal.coe_mul, hg, hv]
  have e2 : ∑ x, Bd (ix2 r x) * Bo (ix2 r x) = ((∑ c, dpR v g h (a r) c * pR q k h (a r) c : ℝ) : EReal) := by
    rw [← delta_eq, coe_sum]
    exact Finset.sum_congr rfl fun x _ => by rw [H.d_at, H.o_at, EReal.coe_mul, hg]
  rw [e1, e2, EReal.coe_sub]

/-! ### A tile every key of which is seen -/

section Seen

variable (hs : ∀ r s, (b s).val / 64 ≤ (a r).val / 64)

include H hq hk hs in
theorem p_seen : k0_pay11 Bq Bk L (ix2 r s) = (pR q k h (a r) (b s) : EReal) := by
  refine Eq.trans (by pointwise [k0_pay11, k0_pay9, k0_pay10]) ((exp_tile H hq hk r s).trans ?_)
  rw [exp_lse _ _ _ _ _ (hs r s)]

include H hq hk hv hg hs in
theorem ds_seen : k0_pay13 Bq Bk Bd L Bv Bo (ix2 r s) = (dsR q k v g h (a r) (b s) : EReal) := by
  have e : k0_pay13 Bq Bk Bd L Bv Bo (ix2 r s)
      = k0_pay11 Bq Bk L (ix2 r s) * (∑ x, Bd (ix2 r x) * Bv (ix2 s x) - ∑ x, Bd (ix2 r x) * Bo (ix2 r x)) := by
    pointwise [k0_pay13, k0_pay12]
  rw [e, p_seen H hq hk r s hs, diff_tile H hv hg, ← EReal.coe_mul, dsR]

include H hq hk hv hg hs in
/-- What the step leaves in the keys' accumulator. -/
theorem dk_seen (acc : Vec Ideal S1024x256 .f32) (r : Fin 1024) (x : Fin 256) :
    k0_pay4 (k0_pay15 Bq Bk Bd L Bv Bo acc) (ix2 r x)
      = acc (ix2 r x) + ∑ z, (dsR q k v g h (a z) (b r) : EReal) * q (ix2 (a z) ⟨h.val * 256 + x.val, by omega⟩) := by
  have e : k0_pay4 (k0_pay15 Bq Bk Bd L Bv Bo acc) (ix2 r x)
      = acc (ix2 r x) + ∑ z, k0_pay13 Bq Bk Bd L Bv Bo (ix2 z r) * Bq (ix2 z x) := by
    pointwise [k0_pay4, k0_pay15, k0_pay9]
  rw [e]
  exact congrArg _ (Finset.sum_congr rfl fun z _ => by rw [ds_seen H hq hk hv hg _ _ hs, H.q_at])

include H hq hk hv hg hs in
/-- What the step leaves in the queries' accumulator. -/
theorem dq_seen (acc : Vec Ideal S1024x256 .f32) (r : Fin 1024) (x : Fin 256) :
    k0_pay5 (k0_pay10 Bk) (k0_pay13 Bq Bk Bd L Bv Bo) acc (ix2 r x)
      = acc (ix2 r x) + ∑ z, (dsR q k v g h (a r) (b z) : EReal) * k (ix2 (b z) ⟨h.val * 256 + x.val, by omega⟩) := by
  have e : k0_pay5 (k0_pay10 Bk) (k0_pay13 Bq Bk Bd L Bv Bo) acc (ix2 r x)
      = acc (ix2 r x) + ∑ z, k0_pay13 Bq Bk Bd L Bv Bo (ix2 r z) * Bk (ix2 z x) := by
    pointwise [k0_pay5, k0_pay10]
  rw [e]
  exact congrArg _ (Finset.sum_congr rfl fun z _ => by rw [ds_seen H hq hk hv hg _ _ hs, H.k_at])

include H hq hk hs in
/-- What the step leaves in the values' accumulator. -/
theorem dv_seen (acc : Vec Ideal S1024x128 .f32) (r : Fin 1024) (x : Fin 128) :
    k0_pay14 Bq Bk Bd L acc (ix2 r x)
      = acc (ix2 r x) + ∑ z, (pR q k h (a z) (b r) : EReal) * g (ix2 (a z) ⟨h.val * 128 + x.val, by omega⟩) := by
  have e : k0_pay14 Bq Bk Bd L acc (ix2 r x)
      = acc (ix2 r x) + ∑ z, k0_pay11 Bq Bk L (ix2 z r) * Bd (ix2 z x) := by
    pointwise [k0_pay14, k0_pay12]
  rw [e]
  exact congrArg _ (Finset.sum_congr rfl fun z _ => by rw [p_seen H hq hk _ _ hs, H.d_at])

end Seen

/-! ### A tile on the diagonal -/

section Diagonal

variable (i j : Nat) (hi : i < 8) (hj : j < 8) (ha : ∀ r, (a r).val = i * 1024 + r.val) (hb : ∀ s, (b s).val = j * 1024 + s.val)

/-- The tile's probabilities, as the kernel's words choose them. -/
abbrev pTile (Bq Bk : Vec Ideal S1024x256 .bf16) (L : Vec Ideal S1x1024x1 .f32) (i j : Nat) : FVec Ideal S1024x1024 .f32 :=
  k0_pay24 (k0_pay18 Bq Bk L) (k0_pay20 (BitVec.ofNat 32 j)) (k0_pay21 (BitVec.ofNat 32 i)) (k0_pay22 (BitVec.ofNat 32 i)) k0_pay23

/-- The tile's cotangents of the scores. -/
abbrev dsTile (Bq Bk : Vec Ideal S1024x256 .bf16) (Bv : Vec Ideal S1024x128 .bf16) (Bo Bd : Vec Ideal S1024x128 .f32)
    (L : Vec Ideal S1x1024x1 .f32) (i j : Nat) : FVec Ideal S1024x1024 .bf16 :=
  k0_pay26 Bd (k0_pay18 Bq Bk L) (k0_pay20 (BitVec.ofNat 32 j)) (k0_pay21 (BitVec.ofNat 32 i)) (k0_pay22 (BitVec.ofNat 32 i)) k0_pay23 Bv Bo

include H hq hk hi hj ha hb in
theorem p_diag : pTile Bq Bk L i j (ix2 r s) = (pR q k h (a r) (b s) : EReal) := by
  refine (masked_at _ i j hi hj r s).trans ?_
  rw [← ha, ← hb]
  split
  · rename_i hs
    refine Eq.trans (by pointwise [k0_pay18, k0_pay16, k0_pay17]) ((exp_tile H hq hk r s).trans ?_)
    rw [exp_lse _ _ _ _ _ hs]
  · rename_i hs
    rw [pR_unseen _ _ _ _ _ hs, EReal.coe_zero]

include H hq hk hv hg hi hj ha hb in
theorem ds_diag : dsTile Bq Bk Bv Bo Bd L i j (ix2 r s) = (dsR q k v g h (a r) (b s) : EReal) := by
  have e : dsTile Bq Bk Bv Bo Bd L i j (ix2 r s)
      = pTile Bq Bk L i j (ix2 r s) * (∑ x, Bd (ix2 r x) * Bv (ix2 s x) - ∑ x, Bd (ix2 r x) * Bo (ix2 r x)) := by
    pointwise [k0_pay26, k0_pay25]
  rw [e, p_diag H hq hk r s i j hi hj ha hb, diff_tile H hv hg, ← EReal.coe_mul, dsR]

include H hq hk hv hg hi hj ha hb in
/-- What the step leaves in the keys' accumulator. -/
theorem dk_diag (acc : Vec Ideal S1024x256 .f32) (r : Fin 1024) (x : Fin 256) :
    k0_pay7 (k0_pay16 Bq) (dsTile Bq Bk Bv Bo Bd L i j) acc (ix2 r x)
      = acc (ix2 r x) + ∑ z, (dsR q k v g h (a z) (b r) : EReal) * q (ix2 (a z) ⟨h.val * 256 + x.val, by omega⟩) := by
  have e : ∀ ds : FVec Ideal S1024x1024 .bf16, k0_pay7 (k0_pay16 Bq) ds acc (ix2 r x)
      = acc (ix2 r x) + ∑ z, ds (ix2 z r) * Bq (ix2 z x) := fun ds => by pointwise [k0_pay7, k0_pay16]
  rw [e]
  exact congrArg _ (Finset.sum_congr rfl fun z _ => by rw [ds_diag H hq hk hv hg _ _ i j hi hj ha hb, H.q_at])

include H hq hk hv hg hi hj ha hb in
/-- What the step leaves in the queries' accumulator. -/
theorem dq_diag (acc : Vec Ideal S1024x256 .f32) (r : Fin 1024) (x : Fin 256) :
    k0_pay8 (k0_pay17 Bk) (dsTile Bq Bk Bv Bo Bd L i j) acc (ix2 r x)
      = acc (ix2 r x) + ∑ z, (dsR q k v g h (a r) (b z) : EReal) * k (ix2 (b z) ⟨h.val * 256 + x.val, by omega⟩) := by
  have e : ∀ ds : FVec Ideal S1024x1024 .bf16, k0_pay8 (k0_pay17 Bk) ds acc (ix2 r x)
      = acc (ix2 r x) + ∑ z, ds (ix2 r z) * Bk (ix2 z x) := fun ds => by pointwise [k0_pay8, k0_pay17]
  rw [e]
  exact congrArg _ (Finset.sum_congr rfl fun z _ => by rw [ds_diag H hq hk hv hg _ _ i j hi hj ha hb, H.k_at])

include H hq hk hi hj ha hb in
/-- What the step leaves in the values' accumulator. -/
theorem dv_diag (acc : Vec Ideal S1024x128 .f32) (r : Fin 1024) (x : Fin 128) :
    k0_pay6 (k0_pay25 Bd) acc (k0_pay27 (k0_pay18 Bq Bk L) (k0_pay20 (BitVec.ofNat 32 j)) (k0_pay21 (BitVec.ofNat 32 i)) (k0_pay22 (BitVec.ofNat 32 i)) k0_pay23) (ix2 r x)
      = acc (ix2 r x) + ∑ z, (pR q k h (a z) (b r) : EReal) * g (ix2 (a z) ⟨h.val * 128 + x.val, by omega⟩) := by
  have e : k0_pay6 (k0_pay25 Bd) acc (k0_pay27 (k0_pay18 Bq Bk L) (k0_pay20 (BitVec.ofNat 32 j)) (k0_pay21 (BitVec.ofNat 32 i)) (k0_pay22 (BitVec.ofNat 32 i)) k0_pay23) (ix2 r x)
      = acc (ix2 r x) + ∑ z, pTile Bq Bk L i j (ix2 z r) * Bd (ix2 z x) := by
    pointwise [k0_pay6, k0_pay25, k0_pay27]
  rw [e]
  exact congrArg _ (Finset.sum_congr rfl fun z _ => by rw [p_diag H hq hk _ _ i j hi hj ha hb, H.d_at])

end Diagonal

end Tile

end Cert.KernelIdeal.Attn
-- ==== Proof.Blocks.lean ====
/- The blocks a grid step reads, in terms of the four arguments: step `t` works for head `t / 64` on the keys' tile
   `t / 8 % 8` and on the queries' tile `t % 8` (or, above the diagonal, on the queries' tile of the diagonal). -/
module

public import proofs.«01_k».proof.Proof.Entry
public import proofs.«01_k».proof.Proof.Rows
public import proofs.«01_k».proof.Proof.Tiles

@[expose] public section

set_option maxRecDepth 16384

noncomputable section

namespace Cert.KernelIdeal.Attn

open Idealize.ShloMosaic Idealize.ShloMosaic.TcCoe Idealize.SL.Sem Cert.KernelIdeal Cert.KernelIdeal.Gen
open Cert.ReferenceIdeal.Attn

/-- Every window's block at every step. -/
theorem idx : ∀ t : Fin cfg0.N,
    win0_0.index t = ![max (t.val % 8) (t.val / 8 % 8), t.val / 64] ∧ win0_1.index t = ![t.val / 8 % 8, t.val / 64]
    ∧ win0_2.index t = ![t.val / 8 % 8, t.val / 64] ∧ win0_3.index t = ![max (t.val % 8) (t.val / 8 % 8), t.val / 64]
    ∧ win0_4.index t = ![max (t.val % 8) (t.val / 8 % 8), t.val / 64] ∧ win0_5.index t = ![t.val / 64, max (t.val % 8) (t.val / 8 % 8), 0]
    ∧ win0_6.index t = ![0, t.val / 64] ∧ win0_7.index t = ![t.val / 8 % 8, t.val / 64] ∧ win0_8.index t = ![t.val / 8 % 8, t.val / 64] :=
  (by decide +kernel : ∀ t : Fin grid0.N, _)

/-- A step's second and third coordinates. -/
theorem coords_at : ∀ t : Fin cfg0.N, ((grid0.coords t 1 : Fin _) : Nat) = t.val / 8 % 8 ∧ ((grid0.coords t 2 : Fin _) : Nat) = t.val % 8 :=
  (by decide +kernel : ∀ t : Fin grid0.N, _)

theorem step_lt (t : Fin cfg0.N) : t.val < 256 := t.isLt

/-- The head a step works for. -/
def headOf (t : Fin cfg0.N) : Fin 4 := ⟨t.val / 64, by have := step_lt t; omega⟩

/-- The query at a place of a step's tile. -/
def rowA (t : Fin cfg0.N) (r : Fin 1024) : Fin 8192 := ⟨t.val % 8 * 1024 + r.val, by omega⟩

/-- The key at a place of a step's tile. -/
def rowB (t : Fin cfg0.N) (r : Fin 1024) : Fin 8192 := ⟨t.val / 8 % 8 * 1024 + r.val, by omega⟩

section Reads

variable {F : FTy → Type} [FloatOps F] (m : (ℓ : Loc nD τ sig) → Buf (Elt F) ℓ) (c : Dev nD) (t : Fin cfg0.N)

theorem blk_q (r : Fin 1024) (x : Fin 256) :
    (iblk m c 0 t : Vec F S1024x256 .bf16) (ix2 r x) = (V m c main_v47 : Vec F S8192x1024 .bf16) (ix2 ⟨max (t.val % 8) (t.val / 8 % 8) * 1024 + r.val, by omega⟩ ⟨t.val / 64 * 256 + x.val, by have := step_lt t; omega⟩) := by
  blk_ext [iblk, idx t]

theorem blk_k (r : Fin 1024) (x : Fin 256) :
    (iblk m c 1 t : Vec F S1024x256 .bf16) (ix2 r x) = (V m c main_v48 : Vec F S8192x1024 .bf16) (ix2 ⟨t.val / 8 % 8 * 1024 + r.val, by omega⟩ ⟨t.val / 64 * 256 + x.val, by have := step_lt t; omega⟩) := by
  blk_ext [iblk, idx t]

theorem blk_v (r : Fin 1024) (x : Fin 128) :
    (iblk m c 2 t : Vec F S1024x128 .bf16) (ix2 r x) = (V m c main_v49 : Vec F S8192x512 .bf16) (ix2 ⟨t.val / 8 % 8 * 1024 + r.val, by omega⟩ ⟨t.val / 64 * 128 + x.val, by have := step_lt t; omega⟩) := by
  blk_ext [iblk, idx t]

theorem blk_o (r : Fin 1024) (x : Fin 128) :
    (iblk m c 3 t : Vec F S1024x128 .f32) (ix2 r x) = (V m c main_v25 : Vec F S8192x512 .f32) (ix2 ⟨max (t.val % 8) (t.val / 8 % 8) * 1024 + r.val, by omega⟩ ⟨t.val / 64 * 128 + x.val, by have := step_lt t; omega⟩) := by
  blk_ext [iblk, idx t]

theorem blk_d (r : Fin 1024) (x : Fin 128) :
    (iblk m c 4 t : Vec F S1024x128 .f32) (ix2 r x) = (V m c main_arg3 : Vec F S8192x512 .f32) (ix2 ⟨max (t.val % 8) (t.val / 8 % 8) * 1024 + r.val, by omega⟩ ⟨t.val / 64 * 128 + x.val, by have := step_lt t; omega⟩) := by
  blk_ext [iblk, idx t]

theorem raw_lse (r : Fin 1024) (x : Fin 128) :
    (iblk m c 5 t : Vec F S1x1024x128 .f32) (ix3 0 r x) = (V m c main_v46 : Vec F S4x8192x128 .f32) (ix3 ⟨t.val / 64, by have := step_lt t; omega⟩ ⟨max (t.val % 8) (t.val / 8 % 8) * 1024 + r.val, by omega⟩ x) := by
  blk_ext [iblk, idx t]

/-- The first lane of the block of log-sum-exps. -/
abbrev lseBlk : Vec F S1x1024x1 .f32 := View.ld (iblk m c 5 t) (Rect.unit ![0, 0, 0] ![1, 1024, 1] inb_S1x1024x128_S1x1024x1_0_0_0)

theorem ld_lse (B : Vec F S1x1024x128 .f32) (r : Fin 1024) :
    (View.ld B (Rect.unit ![0, 0, 0] ![1, 1024, 1] inb_S1x1024x128_S1x1024x1_0_0_0) : Vec F S1x1024x1 .f32) (ix3 0 r 0) = B (ix3 0 r 0) := by
  have e : (Rect.unit (s := S1x1024x128) ![0, 0, 0] ![1, 1024, 1] inb_S1x1024x128_S1x1024x1_0_0_0).idx (ix3 0 r 0) = ix3 0 r 0 := by
    funext d
    fin_cases d <;> exact Fin.ext (by simp)
  exact congrArg B e

theorem blk_lse (r : Fin 1024) :
    lseBlk m c t (ix3 0 r 0) = (V m c main_v46 : Vec F S4x8192x128 .f32) (ix3 ⟨t.val / 64, by have := step_lt t; omega⟩ ⟨max (t.val % 8) (t.val / 8 % 8) * 1024 + r.val, by omega⟩ 0) :=
  (ld_lse _ r).trans (raw_lse m c t r 0)

end Reads

section Operands

theorem lseV_at (mx l : FVec Ideal S4x8192 .f32) (h : Fin 4) (a : Fin 8192) (x : Fin 128) :
    lseV mx l (ix3 h a x) = mx (ix2 h a) + Ideal.log (l (ix2 h a)) := by
  pointwise [lseV]

theorem outV_at (v : FVec Ideal S8192x512 .f32) (p : FVec Ideal S4x8192x8192 .f32) (y : S8192x512.Idx) :
    outV v p dot_S8192x4x128_S4x8192x8192_S4x128x8192_0_2_2_1_1_0 transposes_S4x128x8192_S8192x4x128_2_0_1 y
      = ∑ x, v (ix2 x (y 1)) * p (ix3 ⟨(y 1).val / 128, by have := (y 1).isLt; simp at this; omega⟩ (y 0) x) := by
  pointwise [outV]

variable {q k : FVec Ideal S8192x1024 .f32} {v : FVec Ideal S8192x512 .f32}

theorem lse_real (hq : Finite q) (hk : Finite k) (h : Fin 4) (a : Fin 8192) (x : Fin 128) :
    lseV (maxV (scoresV q k)) (sumV (expV (scoresV q k) (maxV (scoresV q k)))) (ix3 h a x) = (lseR q k h a : EReal) := by
  have e : sumV (expV (scoresV q k) (maxV (scoresV q k))) (ix2 h a) = (lR q k h a : EReal) := by
    rw [sumV_at, lR, coe_sum]
    exact Finset.sum_congr rfl fun b _ => exp_real h a b hq hk _ (max_real h a hq hk)
  rw [lseV_at, e, max_real h a hq hk, Ideal.log_coe, if_neg (not_le.2 (lR_pos h a)), ← EReal.coe_add, lseR]

theorem out_real (hq : Finite q) (hk : Finite k) (hv : Finite v) (h : Fin 4) (a : Fin 8192) (x : Fin 128) :
    outV v (probV (smE q k) (sumV (smE q k))) dot_S8192x4x128_S4x8192x8192_S4x128x8192_0_2_2_1_1_0 transposes_S4x128x8192_S8192x4x128_2_0_1
      (ix2 a ⟨h.val * 128 + x.val, by omega⟩) = (oR q k v h a x : EReal) := by
  rw [outV_at, oR, coe_sum]
  refine Finset.sum_congr rfl fun b _ => ?_
  have e : (⟨(h.val * 128 + x.val) / 128, by omega⟩ : Fin 4) = h := Fin.ext (by dsimp only; omega)
  rw [EReal.coe_mul, hv]
  refine congrArg (_ * ·) (Eq.trans ?_ (prob_real h a b hq hk))
  exact congrArg (fun z => probV (smE q k) (sumV (smE q k)) (ix3 z a b)) e

end Operands

variable (m : (ℓ : Loc nD τ sig) → Buf (Elt Ideal) ℓ) (c : Dev nD)

/-- The arguments. -/
abbrev argQ : FVec Ideal S8192x1024 .f32 := m ((c.tc : Thread nD τ).loc main_arg0)
abbrev argK : FVec Ideal S8192x1024 .f32 := m ((c.tc : Thread nD τ).loc main_arg1)
abbrev argV : FVec Ideal S8192x512 .f32 := m ((c.tc : Thread nD τ).loc main_arg2)
abbrev argG : FVec Ideal S8192x512 .f32 := m ((c.tc : Thread nD τ).loc main_arg3)

/-- On and below the diagonal a step's blocks hold the tiles of its queries and of its keys. -/
theorem holds (hq : Finite (argQ m c)) (hk : Finite (argK m c)) (hv : Finite (argV m c)) (t : Fin cfg0.N)
    (hji : t.val / 8 % 8 ≤ t.val % 8) :
    Holds (argQ m c) (argK m c) (argV m c) (argG m c) (headOf t) (rowA t) (rowB t)
      (iblk m c 0 t) (iblk m c 1 t) (iblk m c 2 t) (iblk m c 3 t) (iblk m c 4 t) (lseBlk m c t) := by
  have hrow : ∀ r : Fin 1024, (⟨max (t.val % 8) (t.val / 8 % 8) * 1024 + r.val, by omega⟩ : Fin 8192) = rowA t r :=
    fun r => Fin.ext (by dsimp only [rowA]; omega)
  refine ⟨fun r x => ?_, fun r x => ?_, fun r x => ?_, fun r x => ?_, fun r x => ?_, fun r => ?_⟩
  · rw [blk_q, V_q, hrow]; rfl
  · rw [blk_k, V_k]; rfl
  · rw [blk_v, V_v]; rfl
  · rw [blk_o, V_o, hrow]; exact out_real hq hk hv (headOf t) (rowA t r) x
  · rw [blk_d, V_main_arg3, hrow]; rfl
  · rw [blk_lse, V_lse, hrow]; exact lse_real hq hk (headOf t) (rowA t r) 0

end Cert.KernelIdeal.Attn
-- ==== Proof.Points.A.lean ====
/- What a grid step leaves in the kernel's accumulators, at the first step of a head. -/
module

public import proofs.«01_k».proof.Proof.Blocks
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (c : Dev nD) (t : Fin cfg0.N)

theorem dk_A (h0 : t.val % 64 = 0) (h1 : t.val % 8 = 0) (h2 : ¬t.val / 8 % 8 + 1 ≤ t.val % 8) (h3 : t.val / 8 % 8 = t.val % 8) (h4 : ¬t.val % 8 = 7) (h5 : ¬t.val % 64 = 63) :
    (outsAt0 m c t.val t.isLt).2.2.2.1 = k0_pay7 (k0_pay16 (iblk m c 0 t)) (k0_pay26 (iblk m c 4 t) (k0_pay18 (iblk m c 0 t) (iblk m c 1 t) (lseBlk m c t)) (k0_pay20 (BitVec.ofNat 32 ((grid0.coords t 1 : Fin _) : Nat))) (k0_pay21 (BitVec.ofNat 32 ((grid0.coords t 2 : Fin _) : Nat))) (k0_pay22 (BitVec.ofNat 32 ((grid0.coords t 2 : Fin _) : Nat))) k0_pay23 (iblk m c 2 t) (iblk m c 3 t)) k0_pay2 := by
  rw [outsAt0_A m c t h0 h1 h2 h3 h4 h5]
  frame_out
  rfl

theorem dv_A (h0 : t.val % 64 = 0) (h1 : t.val % 8 = 0) (h2 : ¬t.val / 8 % 8 + 1 ≤ t.val % 8) (h3 : t.val / 8 % 8 = t.val % 8) (h4 : ¬t.val % 8 = 7) (h5 : ¬t.val % 64 = 63) :
    (outsAt0 m c t.val t.isLt).2.2.2.2.1 = k0_pay6 (k0_pay25 (iblk m c 4 t)) k0_pay3 (k0_pay27 (k0_pay18 (iblk m c 0 t) (iblk m c 1 t) (lseBlk m c t)) (k0_pay20 (BitVec.ofNat 32 ((grid0.coords t 1 : Fin _) : Nat))) (k0_pay21 (BitVec.ofNat 32 ((grid0.coords t 2 : Fin _) : Nat))) (k0_pay22 (BitVec.ofNat 32 ((grid0.coords t 2 : Fin _) : Nat))) k0_pay23) := by
  rw [outsAt0_A m c t h0 h1 h2 h3 h4 h5]
  frame_out
  rfl

theorem dq_A (h0 : t.val % 64 = 0) (h1 : t.val % 8 = 0) (h2 : ¬t.val / 8 % 8 + 1 ≤ t.val % 8) (h3 : t.val / 8 % 8 = t.val % 8) (h4 : ¬t.val % 8 = 7) (h5 : ¬t.val % 64 = 63) :
    (outsAt0 m c t.val t.isLt).2.2.2.2.2 = rowsUpd (k0_pay1 : Vec F S8192x256 .f32) (k0_off2 (grid0.coords t)) (k0_off2_inb (grid0.coords t) ((hcond0_3 t).mpr h3)) (k0_pay8 (k0_pay17 (iblk m c 1 t)) (k0_pay26 (iblk m c 4 t) (k0_pay18 (iblk m c 0 t) (iblk m c 1 t) (lseBlk m c t)) (k0_pay20 (BitVec.ofNat 32 ((grid0.coords t 1 : Fin _) : Nat))) (k0_pay21 (BitVec.ofNat 32 ((grid0.coords t 2 : Fin _) : Nat))) (k0_pay22 (BitVec.ofNat 32 ((grid0.coords t 2 : Fin _) : Nat))) k0_pay23 (iblk m c 2 t) (iblk m c 3 t)) (rowsOf (k0_pay1 : Vec F S8192x256 .f32) (k0_off2 (grid0.coords t)) (k0_off2_inb (grid0.coords t) ((hcond0_3 t).mpr h3)))) := by
  rw [outsAt0_A m c t h0 h1 h2 h3 h4 h5]
  frame_out
  exact canon_rows ..

end Cert.KernelIdeal.Attn
-- ==== Proof.Points.B.lean ====
/- What a grid step leaves in the kernel's accumulators, below the diagonal. -/
module

public import proofs.«01_k».proof.Proof.Blocks
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (c : Dev nD) (t : Fin cfg0.N)

theorem dk_B (h0 : ¬t.val % 64 = 0) (h1 : ¬t.val % 8 = 0) (h2 : t.val / 8 % 8 + 1 ≤ t.val % 8) (h3 : ¬t.val / 8 % 8 = t.val % 8) (h4 : ¬t.val % 8 = 7) (h5 : ¬t.val % 64 = 63) :
    (outsAt0 m c t.val t.isLt).2.2.2.1 = k0_pay4 (k0_pay15 (iblk m c 0 t) (iblk m c 1 t) (iblk m c 4 t) (lseBlk m c t) (iblk m c 2 t) (iblk m c 3 t) (outsAt0 m c (t.val - 1) (Nat.lt_of_le_of_lt (Nat.sub_le _ _) t.isLt)).2.2.2.1) := by
  rw [outsAt0_B m c t h0 h1 h2 h3 h4 h5]
  frame_out
  simp only [read_unread_whole]
  rfl

theorem dv_B (h0 : ¬t.val % 64 = 0) (h1 : ¬t.val % 8 = 0) (h2 : t.val / 8 % 8 + 1 ≤ t.val % 8) (h3 : ¬t.val / 8 % 8 = t.val % 8) (h4 : ¬t.val % 8 = 7) (h5 : ¬t.val % 64 = 63) :
    (outsAt0 m c t.val t.isLt).2.2.2.2.1 = k0_pay14 (iblk m c 0 t) (iblk m c 1 t) (iblk m c 4 t) (lseBlk m c t) (outsAt0 m c (t.val - 1) (Nat.lt_of_le_of_lt (Nat.sub_le _ _) t.isLt)).2.2.2.2.1 := by
  rw [outsAt0_B m c t h0 h1 h2 h3 h4 h5]
  frame_out
  simp only [read_unread_whole]
  rfl

theorem dq_B (h0 : ¬t.val % 64 = 0) (h1 : ¬t.val % 8 = 0) (h2 : t.val / 8 % 8 + 1 ≤ t.val % 8) (h3 : ¬t.val / 8 % 8 = t.val % 8) (h4 : ¬t.val % 8 = 7) (h5 : ¬t.val % 64 = 63) :
    (outsAt0 m c t.val t.isLt).2.2.2.2.2 = rowsUpd (outsAt0 m c (t.val - 1) (Nat.lt_of_le_of_lt (Nat.sub_le _ _) t.isLt)).2.2.2.2.2 (k0_off1 (grid0.coords t)) (k0_off1_inb (grid0.coords t) ((hcond0_2 t).mpr h2)) (k0_pay5 (k0_pay10 (iblk m c 1 t)) (k0_pay13 (iblk m c 0 t) (iblk m c 1 t) (iblk m c 4 t) (lseBlk m c t) (iblk m c 2 t) (iblk m c 3 t)) (rowsOf (outsAt0 m c (t.val - 1) (Nat.lt_of_le_of_lt (Nat.sub_le _ _) t.isLt)).2.2.2.2.2 (k0_off1 (grid0.coords t)) (k0_off1_inb (grid0.coords t) ((hcond0_2 t).mpr h2)))) := by
  rw [outsAt0_B m c t h0 h1 h2 h3 h4 h5]
  frame_out
  simp only [read_unread_whole]
  rfl

end Cert.KernelIdeal.Attn
-- ==== Proof.Points.C.lean ====
/- What a grid step leaves in the kernel's accumulators, below the diagonal, the last queries of a keys' tile. -/
module

public import proofs.«01_k».proof.Proof.Blocks
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (c : Dev nD) (t : Fin cfg0.N)

theorem dk_C (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) :
    (outsAt0 m c t.val t.isLt).2.2.2.1 = k0_pay4 (k0_pay15 (iblk m c 0 t) (iblk m c 1 t) (iblk m c 4 t) (lseBlk m c t) (iblk m c 2 t) (iblk m c 3 t) (outsAt0 m c (t.val - 1) (Nat.lt_of_le_of_lt (Nat.sub_le _ _) t.isLt)).2.2.2.1) := by
  rw [outsAt0_C m c t h0 h1 h2 h3 h4 h5]
  frame_out
  simp only [read_unread_whole]
  rfl

theorem dv_C (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) :
    (outsAt0 m c t.val t.isLt).2.2.2.2.1 = k0_pay14 (iblk m c 0 t) (iblk m c 1 t) (iblk m c 4 t) (lseBlk m c t) (outsAt0 m c (t.val - 1) (Nat.lt_of_le_of_lt (Nat.sub_le _ _) t.isLt)).2.2.2.2.1 := by
  rw [outsAt0_C m c t h0 h1 h2 h3 h4 h5]
  frame_out
  simp only [read_unread_whole]
  rfl

theorem dq_C (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) :
    (outsAt0 m c t.val t.isLt).2.2.2.2.2 = rowsUpd (outsAt0 m c (t.val - 1) (Nat.lt_of_le_of_lt (Nat.sub_le _ _) t.isLt)).2.2.2.2.2 (k0_off1 (grid0.coords t)) (k0_off1_inb (grid0.coords t) ((hcond0_2 t).mpr h2)) (k0_pay5 (k0_pay10 (iblk m c 1 t)) (k0_pay13 (iblk m c 0 t) (iblk m c 1 t) (iblk m c 4 t) (lseBlk m c t) (iblk m c 2 t) (iblk m c 3 t)) (rowsOf (outsAt0 m c (t.val - 1) (Nat.lt_of_le_of_lt (Nat.sub_le _ _) t.isLt)).2.2.2.2.2 (k0_off1 (grid0.coords t)) (k0_off1_inb (grid0.coords t) ((hcond0_2 t).mpr h2)))) := by
  rw [outsAt0_C m c t h0 h1 h2 h3 h4 h5]
  frame_out
  simp only [read_unread_whole]
  rfl

theorem o7_C (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) :
    (outsAt0 m c t.val t.isLt).2.1 = k0_pay4 (k0_pay15 (iblk m c 0 t) (iblk m c 1 t) (iblk m c 4 t) (lseBlk m c t) (iblk m c 2 t) (iblk m c 3 t) (outsAt0 m c (t.val - 1) (Nat.lt_of_le_of_lt (Nat.sub_le _ _) t.isLt)).2.2.2.1) := by
  rw [outsAt0_C m c t h0 h1 h2 h3 h4 h5]
  frame_out
  simp only [read_unread_whole]
  rfl

theorem o8_C (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) :
    (outsAt0 m c t.val t.isLt).2.2.1 = k0_pay14 (iblk m c 0 t) (iblk m c 1 t) (iblk m c 4 t) (lseBlk m c t) (outsAt0 m c (t.val - 1) (Nat.lt_of_le_of_lt (Nat.sub_le _ _) t.isLt)).2.2.2.2.1 := by
  rw [outsAt0_C m c t h0 h1 h2 h3 h4 h5]
  frame_out
  simp only [read_unread_whole]
  rfl

end Cert.KernelIdeal.Attn
-- ==== Proof.Points.D.lean ====
/- What a grid step leaves in the kernel's accumulators, above the diagonal, the first queries of a keys' tile. -/
module

public import proofs.«01_k».proof.Proof.Blocks
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (c : Dev nD) (t : Fin cfg0.N)

theorem dk_D (h0 : ¬t.val % 64 = 0) (h1 : t.val % 8 = 0) (h2 : ¬t.val / 8 % 8 + 1 ≤ t.val % 8) (h3 : ¬t.val / 8 % 8 = t.val % 8) (h4 : ¬t.val % 8 = 7) (h5 : ¬t.val % 64 = 63) :
    (outsAt0 m c t.val t.isLt).2.2.2.1 = k0_pay2 := by
  rw [outsAt0_D m c t h0 h1 h2 h3 h4 h5]
  frame_out

theorem dv_D (h0 : ¬t.val % 64 = 0) (h1 : t.val % 8 = 0) (h2 : ¬t.val / 8 % 8 + 1 ≤ t.val % 8) (h3 : ¬t.val / 8 % 8 = t.val % 8) (h4 : ¬t.val % 8 = 7) (h5 : ¬t.val % 64 = 63) :
    (outsAt0 m c t.val t.isLt).2.2.2.2.1 = k0_pay3 := by
  rw [outsAt0_D m c t h0 h1 h2 h3 h4 h5]
  frame_out

theorem dq_D (h0 : ¬t.val % 64 = 0) (h1 : t.val % 8 = 0) (h2 : ¬t.val / 8 % 8 + 1 ≤ t.val % 8) (h3 : ¬t.val / 8 % 8 = t.val % 8) (h4 : ¬t.val % 8 = 7) (h5 : ¬t.val % 64 = 63) :
    (outsAt0 m c t.val t.isLt).2.2.2.2.2 = (outsAt0 m c (t.val - 1) (Nat.lt_of_le_of_lt (Nat.sub_le _ _) t.isLt)).2.2.2.2.2 := by
  rw [outsAt0_D m c t h0 h1 h2 h3 h4 h5]
  rfl

end Cert.KernelIdeal.Attn
-- ==== Proof.Points.E.lean ====
/- What a grid step leaves in the kernel's accumulators, on the diagonal. -/
module

public import proofs.«01_k».proof.Proof.Blocks
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (c : Dev nD) (t : Fin cfg0.N)

theorem dk_E (h0 : ¬t.val % 64 = 0) (h1 : ¬t.val % 8 = 0) (h2 : ¬t.val / 8 % 8 + 1 ≤ t.val % 8) (h3 : t.val / 8 % 8 = t.val % 8) (h4 : ¬t.val % 8 = 7) (h5 : ¬t.val % 64 = 63) :
    (outsAt0 m c t.val t.isLt).2.2.2.1 = k0_pay7 (k0_pay16 (iblk m c 0 t)) (k0_pay26 (iblk m c 4 t) (k0_pay18 (iblk m c 0 t) (iblk m c 1 t) (lseBlk m c t)) (k0_pay20 (BitVec.ofNat 32 ((grid0.coords t 1 : Fin _) : Nat))) (k0_pay21 (BitVec.ofNat 32 ((grid0.coords t 2 : Fin _) : Nat))) (k0_pay22 (BitVec.ofNat 32 ((grid0.coords t 2 : Fin _) : Nat))) k0_pay23 (iblk m c 2 t) (iblk m c 3 t)) (outsAt0 m c (t.val - 1) (Nat.lt_of_le_of_lt (Nat.sub_le _ _) t.isLt)).2.2.2.1 := by
  rw [outsAt0_E m c t h0 h1 h2 h3 h4 h5]
  frame_out
  simp only [read_unread_whole]
  rfl

theorem dv_E (h0 : ¬t.val % 64 = 0) (h1 : ¬t.val % 8 = 0) (h2 : ¬t.val / 8 % 8 + 1 ≤ t.val % 8) (h3 : t.val / 8 % 8 = t.val % 8) (h4 : ¬t.val % 8 = 7) (h5 : ¬t.val % 64 = 63) :
    (outsAt0 m c t.val t.isLt).2.2.2.2.1 = k0_pay6 (k0_pay25 (iblk m c 4 t)) (outsAt0 m c (t.val - 1) (Nat.lt_of_le_of_lt (Nat.sub_le _ _) t.isLt)).2.2.2.2.1 (k0_pay27 (k0_pay18 (iblk m c 0 t) (iblk m c 1 t) (lseBlk m c t)) (k0_pay20 (BitVec.ofNat 32 ((grid0.coords t 1 : Fin _) : Nat))) (k0_pay21 (BitVec.ofNat 32 ((grid0.coords t 2 : Fin _) : Nat))) (k0_pay22 (BitVec.ofNat 32 ((grid0.coords t 2 : Fin _) : Nat))) k0_pay23) := by
  rw [outsAt0_E m c t h0 h1 h2 h3 h4 h5]
  frame_out
  simp only [read_unread_whole]
  rfl

theorem dq_E (h0 : ¬t.val % 64 = 0) (h1 : ¬t.val % 8 = 0) (h2 : ¬t.val / 8 % 8 + 1 ≤ t.val % 8) (h3 : t.val / 8 % 8 = t.val % 8) (h4 : ¬t.val % 8 = 7) (h5 : ¬t.val % 64 = 63) :
    (outsAt0 m c t.val t.isLt).2.2.2.2.2 = rowsUpd (outsAt0 m c (t.val - 1) (Nat.lt_of_le_of_lt (Nat.sub_le _ _) t.isLt)).2.2.2.2.2 (k0_off2 (grid0.coords t)) (k0_off2_inb (grid0.coords t) ((hcond0_3 t).mpr h3)) (k0_pay8 (k0_pay17 (iblk m c 1 t)) (k0_pay26 (iblk m c 4 t) (k0_pay18 (iblk m c 0 t) (iblk m c 1 t) (lseBlk m c t)) (k0_pay20 (BitVec.ofNat 32 ((grid0.coords t 1 : Fin _) : Nat))) (k0_pay21 (BitVec.ofNat 32 ((grid0.coords t 2 : Fin _) : Nat))) (k0_pay22 (BitVec.ofNat 32 ((grid0.coords t 2 : Fin _) : Nat))) k0_pay23 (iblk m c 2 t) (iblk m c 3 t)) (rowsOf (outsAt0 m c (t.val - 1) (Nat.lt_of_le_of_lt (Nat.sub_le _ _) t.isLt)).2.2.2.2.2 (k0_off2 (grid0.coords t)) (k0_off2_inb (grid0.coords t) ((hcond0_3 t).mpr h3)))) := by
  rw [outsAt0_E m c t h0 h1 h2 h3 h4 h5]
  frame_out
  simp only [read_unread_whole]
  rfl

end Cert.KernelIdeal.Attn
-- ==== Proof.Points.F.lean ====
/- What a grid step leaves in the kernel's accumulators, above the diagonal. -/
module

public import proofs.«01_k».proof.Proof.Blocks
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (c : Dev nD) (t : Fin cfg0.N)

theorem dk_F (h0 : ¬t.val % 64 = 0) (h1 : ¬t.val % 8 = 0) (h2 : ¬t.val / 8 % 8 + 1 ≤ t.val % 8) (h3 : ¬t.val / 8 % 8 = t.val % 8) (h4 : ¬t.val % 8 = 7) (h5 : ¬t.val % 64 = 63) :
    (outsAt0 m c t.val t.isLt).2.2.2.1 = (outsAt0 m c (t.val - 1) (Nat.lt_of_le_of_lt (Nat.sub_le _ _) t.isLt)).2.2.2.1 := by
  rw [outsAt0_F m c t h0 h1 h2 h3 h4 h5]
  rfl

theorem dv_F (h0 : ¬t.val % 64 = 0) (h1 : ¬t.val % 8 = 0) (h2 : ¬t.val / 8 % 8 + 1 ≤ t.val % 8) (h3 : ¬t.val / 8 % 8 = t.val % 8) (h4 : ¬t.val % 8 = 7) (h5 : ¬t.val % 64 = 63) :
    (outsAt0 m c t.val t.isLt).2.2.2.2.1 = (outsAt0 m c (t.val - 1) (Nat.lt_of_le_of_lt (Nat.sub_le _ _) t.isLt)).2.2.2.2.1 := by
  rw [outsAt0_F m c t h0 h1 h2 h3 h4 h5]
  rfl

theorem dq_F (h0 : ¬t.val % 64 = 0) (h1 : ¬t.val % 8 = 0) (h2 : ¬t.val / 8 % 8 + 1 ≤ t.val % 8) (h3 : ¬t.val / 8 % 8 = t.val % 8) (h4 : ¬t.val % 8 = 7) (h5 : ¬t.val % 64 = 63) :
    (outsAt0 m c t.val t.isLt).2.2.2.2.2 = (outsAt0 m c (t.val - 1) (Nat.lt_of_le_of_lt (Nat.sub_le _ _) t.isLt)).2.2.2.2.2 := by
  rw [outsAt0_F m c t h0 h1 h2 h3 h4 h5]
  rfl

end Cert.KernelIdeal.Attn
-- ==== Proof.Points.G.lean ====
/- What a grid step leaves in the kernel's accumulators, on the diagonal, the last step of a head. -/
module

public import proofs.«01_k».proof.Proof.Blocks
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (c : Dev nD) (t : Fin cfg0.N)

theorem dk_G (h0 : ¬t.val % 64 = 0) (h1 : ¬t.val % 8 = 0) (h2 : ¬t.val / 8 % 8 + 1 ≤ t.val % 8) (h3 : t.val / 8 % 8 = t.val % 8) (h4 : t.val % 8 = 7) (h5 : t.val % 64 = 63) :
    (outsAt0 m c t.val t.isLt).2.2.2.1 = k0_pay7 (k0_pay16 (iblk m c 0 t)) (k0_pay26 (iblk m c 4 t) (k0_pay18 (iblk m c 0 t) (iblk m c 1 t) (lseBlk m c t)) (k0_pay20 (BitVec.ofNat 32 ((grid0.coords t 1 : Fin _) : Nat))) (k0_pay21 (BitVec.ofNat 32 ((grid0.coords t 2 : Fin _) : Nat))) (k0_pay22 (BitVec.ofNat 32 ((grid0.coords t 2 : Fin _) : Nat))) k0_pay23 (iblk m c 2 t) (iblk m c 3 t)) (outsAt0 m c (t.val - 1) (Nat.lt_of_le_of_lt (Nat.sub_le _ _) t.isLt)).2.2.2.1 := by
  rw [outsAt0_G m c t h0 h1 h2 h3 h4 h5]
  frame_out
  simp only [read_unread_whole]
  rfl

theorem dv_G (h0 : ¬t.val % 64 = 0) (h1 : ¬t.val % 8 = 0) (h2 : ¬t.val / 8 % 8 + 1 ≤ t.val % 8) (h3 : t.val / 8 % 8 = t.val % 8) (h4 : t.val % 8 = 7) (h5 : t.val % 64 = 63) :
    (outsAt0 m c t.val t.isLt).2.2.2.2.1 = k0_pay6 (k0_pay25 (iblk m c 4 t)) (outsAt0 m c (t.val - 1) (Nat.lt_of_le_of_lt (Nat.sub_le _ _) t.isLt)).2.2.2.2.1 (k0_pay27 (k0_pay18 (iblk m c 0 t) (iblk m c 1 t) (lseBlk m c t)) (k0_pay20 (BitVec.ofNat 32 ((grid0.coords t 1 : Fin _) : Nat))) (k0_pay21 (BitVec.ofNat 32 ((grid0.coords t 2 : Fin _) : Nat))) (k0_pay22 (BitVec.ofNat 32 ((grid0.coords t 2 : Fin _) : Nat))) k0_pay23) := by
  rw [outsAt0_G m c t h0 h1 h2 h3 h4 h5]
  frame_out
  simp only [read_unread_whole]
  rfl

theorem dq_G (h0 : ¬t.val % 64 = 0) (h1 : ¬t.val % 8 = 0) (h2 : ¬t.val / 8 % 8 + 1 ≤ t.val % 8) (h3 : t.val / 8 % 8 = t.val % 8) (h4 : t.val % 8 = 7) (h5 : t.val % 64 = 63) :
    (outsAt0 m c t.val t.isLt).2.2.2.2.2 = rowsUpd (outsAt0 m c (t.val - 1) (Nat.lt_of_le_of_lt (Nat.sub_le _ _) t.isLt)).2.2.2.2.2 (k0_off2 (grid0.coords t)) (k0_off2_inb (grid0.coords t) ((hcond0_3 t).mpr h3)) (k0_pay8 (k0_pay17 (iblk m c 1 t)) (k0_pay26 (iblk m c 4 t) (k0_pay18 (iblk m c 0 t) (iblk m c 1 t) (lseBlk m c t)) (k0_pay20 (BitVec.ofNat 32 ((grid0.coords t 1 : Fin _) : Nat))) (k0_pay21 (BitVec.ofNat 32 ((grid0.coords t 2 : Fin _) : Nat))) (k0_pay22 (BitVec.ofNat 32 ((grid0.coords t 2 : Fin _) : Nat))) k0_pay23 (iblk m c 2 t) (iblk m c 3 t)) (rowsOf (outsAt0 m c (t.val - 1) (Nat.lt_of_le_of_lt (Nat.sub_le _ _) t.isLt)).2.2.2.2.2 (k0_off2 (grid0.coords t)) (k0_off2_inb (grid0.coords t) ((hcond0_3 t).mpr h3)))) := by
  rw [outsAt0_G m c t h0 h1 h2 h3 h4 h5]
  frame_out
  simp only [read_unread_whole]
  rfl

theorem o6_G (h0 : ¬t.val % 64 = 0) (h1 : ¬t.val % 8 = 0) (h2 : ¬t.val / 8 % 8 + 1 ≤ t.val % 8) (h3 : t.val / 8 % 8 = t.val % 8) (h4 : t.val % 8 = 7) (h5 : t.val % 64 = 63) :
    (outsAt0 m c t.val t.isLt).1 = rowsUpd (outsAt0 m c (t.val - 1) (Nat.lt_of_le_of_lt (Nat.sub_le _ _) t.isLt)).2.2.2.2.2 (k0_off2 (grid0.coords t)) (k0_off2_inb (grid0.coords t) ((hcond0_3 t).mpr h3)) (k0_pay8 (k0_pay17 (iblk m c 1 t)) (k0_pay26 (iblk m c 4 t) (k0_pay18 (iblk m c 0 t) (iblk m c 1 t) (lseBlk m c t)) (k0_pay20 (BitVec.ofNat 32 ((grid0.coords t 1 : Fin _) : Nat))) (k0_pay21 (BitVec.ofNat 32 ((grid0.coords t 2 : Fin _) : Nat))) (k0_pay22 (BitVec.ofNat 32 ((grid0.coords t 2 : Fin _) : Nat))) k0_pay23 (iblk m c 2 t) (iblk m c 3 t)) (rowsOf (outsAt0 m c (t.val - 1) (Nat.lt_of_le_of_lt (Nat.sub_le _ _) t.isLt)).2.2.2.2.2 (k0_off2 (grid0.coords t)) (k0_off2_inb (grid0.coords t) ((hcond0_3 t).mpr h3)))) := by
  rw [outsAt0_G m c t h0 h1 h2 h3 h4 h5]
  frame_out
  simp only [read_unread_whole]
  rfl

theorem o7_G (h0 : ¬t.val % 64 = 0) (h1 : ¬t.val % 8 = 0) (h2 : ¬t.val / 8 % 8 + 1 ≤ t.val % 8) (h3 : t.val / 8 % 8 = t.val % 8) (h4 : t.val % 8 = 7) (h5 : t.val % 64 = 63) :
    (outsAt0 m c t.val t.isLt).2.1 = k0_pay7 (k0_pay16 (iblk m c 0 t)) (k0_pay26 (iblk m c 4 t) (k0_pay18 (iblk m c 0 t) (iblk m c 1 t) (lseBlk m c t)) (k0_pay20 (BitVec.ofNat 32 ((grid0.coords t 1 : Fin _) : Nat))) (k0_pay21 (BitVec.ofNat 32 ((grid0.coords t 2 : Fin _) : Nat))) (k0_pay22 (BitVec.ofNat 32 ((grid0.coords t 2 : Fin _) : Nat))) k0_pay23 (iblk m c 2 t) (iblk m c 3 t)) (outsAt0 m c (t.val - 1) (Nat.lt_of_le_of_lt (Nat.sub_le _ _) t.isLt)).2.2.2.1 := by
  rw [outsAt0_G m c t h0 h1 h2 h3 h4 h5]
  frame_out
  simp only [read_unread_whole]
  rfl

theorem o8_G (h0 : ¬t.val % 64 = 0) (h1 : ¬t.val % 8 = 0) (h2 : ¬t.val / 8 % 8 + 1 ≤ t.val % 8) (h3 : t.val / 8 % 8 = t.val % 8) (h4 : t.val % 8 = 7) (h5 : t.val % 64 = 63) :
    (outsAt0 m c t.val t.isLt).2.2.1 = k0_pay6 (k0_pay25 (iblk m c 4 t)) (outsAt0 m c (t.val - 1) (Nat.lt_of_le_of_lt (Nat.sub_le _ _) t.isLt)).2.2.2.2.1 (k0_pay27 (k0_pay18 (iblk m c 0 t) (iblk m c 1 t) (lseBlk m c t)) (k0_pay20 (BitVec.ofNat 32 ((grid0.coords t 1 : Fin _) : Nat))) (k0_pay21 (BitVec.ofNat 32 ((grid0.coords t 2 : Fin _) : Nat))) (k0_pay22 (BitVec.ofNat 32 ((grid0.coords t 2 : Fin _) : Nat))) k0_pay23) := by
  rw [outsAt0_G m c t h0 h1 h2 h3 h4 h5]
  frame_out
  simp only [read_unread_whole]
  rfl

end Cert.KernelIdeal.Attn
-- ==== Proof.Accum.lean ====
/- What the kernel's accumulators hold after each grid step: the keys' and values' gradients sum over the eight steps of
   one keys' tile, the queries' gradient over the sixty-four steps of one head. A step above the diagonal adds zero. -/
module

public import proofs.«01_k».proof.Proof.Points.A
public import proofs.«01_k».proof.Proof.Points.B
public import proofs.«01_k».proof.Proof.Points.C
public import proofs.«01_k».proof.Proof.Points.D
public import proofs.«01_k».proof.Proof.Points.E
public import proofs.«01_k».proof.Proof.Points.F
public import proofs.«01_k».proof.Proof.Points.G

@[expose] public section

set_option maxRecDepth 16384

noncomputable section

namespace Cert.KernelIdeal.Attn

open Idealize.ShloMosaic Idealize.ShloMosaic.TcCoe Idealize.SL.Sem Cert.KernelIdeal Cert.KernelIdeal.Gen
open Cert.ReferenceIdeal.Attn

theorem zero_dq (y : S8192x256.Idx) : k0_pay1 (F := Ideal) y = 0 := by pointwise [k0_pay1]
theorem zero_dk (y : S1024x256.Idx) : k0_pay2 (F := Ideal) y = 0 := by pointwise [k0_pay2]
theorem zero_dv (y : S1024x128.Idx) : k0_pay3 (F := Ideal) y = 0 := by pointwise [k0_pay3]

variable (q k : FVec Ideal S8192x1024 .f32) (v g : FVec Ideal S8192x512 .f32)

/-- What a step adds to the keys' gradient. -/
def dkTerm (t : Fin cfg0.N) (y : Fin 1024 × Fin 256) : EReal :=
  ∑ z, (dsR q k v g (headOf t) (rowA t z) (rowB t y.1) : EReal) * q (ix2 (rowA t z) ⟨(headOf t).val * 256 + y.2.val, by omega⟩)

/-- What a step adds to the values' gradient. -/
def dvTerm (t : Fin cfg0.N) (y : Fin 1024 × Fin 128) : EReal :=
  ∑ z, (pR q k (headOf t) (rowA t z) (rowB t y.1) : EReal) * g (ix2 (rowA t z) ⟨(headOf t).val * 128 + y.2.val, by omega⟩)

/-- What a step adds to the queries' gradient: to the rows of its own tile only. -/
def dqTerm (t : Fin cfg0.N) (y : Fin 8192 × Fin 256) : EReal :=
  if y.1.val / 1024 = t.val % 8 then
    ∑ z, (dsR q k v g (headOf t) y.1 (rowB t z) : EReal) * k (ix2 (rowB t z) ⟨(headOf t).val * 256 + y.2.val, by omega⟩)
  else 0

theorem above (t : Fin cfg0.N) (h : t.val % 8 < t.val / 8 % 8) (r s : Fin 1024) : ¬(rowB t s).val / 64 ≤ (rowA t r).val / 64 := by
  dsimp only [rowA, rowB]; omega

theorem below (t : Fin cfg0.N) (h : t.val / 8 % 8 < t.val % 8) (r s : Fin 1024) : (rowB t s).val / 64 ≤ (rowA t r).val / 64 := by
  dsimp only [rowA, rowB]; omega

theorem rowA_tile (t : Fin cfg0.N) (r : Fin 8192) (h : r.val / 1024 = t.val % 8) : rowA t ⟨r.val % 1024, Nat.mod_lt _ (by decide)⟩ = r :=
  Fin.ext (by dsimp only [rowA]; omega)

theorem dkTerm_above (t : Fin cfg0.N) (h : t.val % 8 < t.val / 8 % 8) (y) : dkTerm q k v g t y = 0 :=
  Finset.sum_eq_zero fun z _ => by rw [dsR_unseen q k v g _ _ _ (above t h z y.1), EReal.coe_zero, zero_mul]

theorem dvTerm_above (t : Fin cfg0.N) (h : t.val % 8 < t.val / 8 % 8) (y) : dvTerm q k g t y = 0 :=
  Finset.sum_eq_zero fun z _ => by rw [pR_unseen q k _ _ _ (above t h z y.1), EReal.coe_zero, zero_mul]

theorem dqTerm_above (t : Fin cfg0.N) (h : t.val % 8 < t.val / 8 % 8) (y) : dqTerm q k v g t y = 0 := by
  rw [dqTerm]
  split
  · rename_i hy
    refine Finset.sum_eq_zero fun z _ => ?_
    have := above t h ⟨y.1.val % 1024, Nat.mod_lt _ (by decide)⟩ z
    rw [rowA_tile t y.1 hy] at this
    rw [dsR_unseen q k v g _ _ _ this, EReal.coe_zero, zero_mul]
  · rfl

section Steps

variable {q k v g} (m : (ℓ : Loc nD τ sig) → Buf (Elt Ideal) ℓ) (c : Dev nD)
variable (hq : Finite (argQ m c)) (hk : Finite (argK m c)) (hv : Finite (argV m c)) (hg : Finite (argG m c))

/-- The accumulators after a step. -/
def dkAt (n : Nat) (hn : n < cfg0.N) (y : Fin 1024 × Fin 256) : EReal := (outsAt0 m c n hn).2.2.2.1 (ix2 y.1 y.2)
def dvAt (n : Nat) (hn : n < cfg0.N) (y : Fin 1024 × Fin 128) : EReal := (outsAt0 m c n hn).2.2.2.2.1 (ix2 y.1 y.2)
def dqAt (n : Nat) (hn : n < cfg0.N) (y : Fin 8192 × Fin 256) : EReal := (outsAt0 m c n hn).2.2.2.2.2 (ix2 y.1 y.2)

variable (t : Fin cfg0.N)

theorem i_lt : ((grid0.coords t 2 : Fin _) : Nat) < 8 := by rw [(coords_at t).2]; omega
theorem j_lt : ((grid0.coords t 1 : Fin _) : Nat) < 8 := by rw [(coords_at t).1]; omega
theorem rowA_val (r : Fin 1024) : (rowA t r).val = ((grid0.coords t 2 : Fin _) : Nat) * 1024 + r.val := by rw [(coords_at t).2]; rfl
theorem rowB_val (r : Fin 1024) : (rowB t r).val = ((grid0.coords t 1 : Fin _) : Nat) * 1024 + r.val := by rw [(coords_at t).1]; rfl

include hq hk hv hg

theorem dk_first (h1 : t.val % 8 = 0) (y) : dkAt m c t.val t.isLt y = 0 + dkTerm (argQ m c) (argK m c) (argV m c) (argG m c) t y := by
  by_cases h0 : t.val % 64 = 0
  · rw [dkAt, dk_A m c t h0 h1 (by omega) (by omega) (by omega) (by omega)]
    refine (dk_diag (holds m c hq hk hv t (by omega)) hq hk hv hg _ _ (i_lt t) (j_lt t) (rowA_val t) (rowB_val t) _ y.1 y.2).trans ?_
    rw [zero_dk]; rfl
  · rw [dkAt, dk_D m c t h0 h1 (by omega) (by omega) (by omega) (by omega), zero_dk, dkTerm_above _ _ _ _ _ (by omega), add_zero]

theorem dk_next (h1 : ¬t.val % 8 = 0) (y) : dkAt m c t.val t.isLt y
    = dkAt m c (t.val - 1) (Nat.lt_of_le_of_lt (Nat.sub_le _ _) t.isLt) y + dkTerm (argQ m c) (argK m c) (argV m c) (argG m c) t y := by
  rcases Nat.lt_trichotomy (t.val / 8 % 8) (t.val % 8) with h | h | h
  · have key := dk_seen (holds m c hq hk hv t (by omega)) hq hk hv hg (fun r s => below t h r s)
      ((outsAt0 m c (t.val - 1) (Nat.lt_of_le_of_lt (Nat.sub_le _ _) t.isLt)).2.2.2.1) y.1 y.2
    by_cases h4 : t.val % 8 = 7
    · rw [dkAt, dk_C m c t (by omega) h1 (by omega) (by omega) h4 (by omega)]; exact key
    · rw [dkAt, dk_B m c t (by omega) h1 (by omega) (by omega) h4 (by omega)]; exact key
  · have key := dk_diag (holds m c hq hk hv t (by omega)) hq hk hv hg _ _ (i_lt t) (j_lt t) (rowA_val t) (rowB_val t)
      ((outsAt0 m c (t.val - 1) (Nat.lt_of_le_of_lt (Nat.sub_le _ _) t.isLt)).2.2.2.1) y.1 y.2
    by_cases h4 : t.val % 8 = 7
    · rw [dkAt, dk_G m c t (by omega) h1 (by omega) (by omega) h4 (by omega)]; exact key
    · rw [dkAt, dk_E m c t (by omega) h1 (by omega) (by omega) h4 (by omega)]; exact key
  · rw [dkAt, dk_F m c t (by omega) h1 (by omega) (by omega) (by omega) (by omega), dkTerm_above _ _ _ _ _ h, add_zero]; rfl

theorem dv_first (h1 : t.val % 8 = 0) (y) : dvAt m c t.val t.isLt y = 0 + dvTerm (argQ m c) (argK m c) (argG m c) t y := by
  by_cases h0 : t.val % 64 = 0
  · rw [dvAt, dv_A m c t h0 h1 (by omega) (by omega) (by omega) (by omega)]
    refine (dv_diag (holds m c hq hk hv t (by omega)) hq hk _ _ (i_lt t) (j_lt t) (rowA_val t) (rowB_val t) _ y.1 y.2).trans ?_
    rw [zero_dv]; rfl
  · rw [dvAt, dv_D m c t h0 h1 (by omega) (by omega) (by omega) (by omega), zero_dv, dvTerm_above _ _ _ _ (by omega), add_zero]

theorem dv_next (h1 : ¬t.val % 8 = 0) (y) : dvAt m c t.val t.isLt y
    = dvAt m c (t.val - 1) (Nat.lt_of_le_of_lt (Nat.sub_le _ _) t.isLt) y + dvTerm (argQ m c) (argK m c) (argG m c) t y := by
  rcases Nat.lt_trichotomy (t.val / 8 % 8) (t.val % 8) with h | h | h
  · have key := dv_seen (holds m c hq hk hv t (by omega)) hq hk (fun r s => below t h r s)
      ((outsAt0 m c (t.val - 1) (Nat.lt_of_le_of_lt (Nat.sub_le _ _) t.isLt)).2.2.2.2.1) y.1 y.2
    by_cases h4 : t.val % 8 = 7
    · rw [dvAt, dv_C m c t (by omega) h1 (by omega) (by omega) h4 (by omega)]; exact key
    · rw [dvAt, dv_B m c t (by omega) h1 (by omega) (by omega) h4 (by omega)]; exact key
  · have key := dv_diag (holds m c hq hk hv t (by omega)) hq hk _ _ (i_lt t) (j_lt t) (rowA_val t) (rowB_val t)
      ((outsAt0 m c (t.val - 1) (Nat.lt_of_le_of_lt (Nat.sub_le _ _) t.isLt)).2.2.2.2.1) y.1 y.2
    by_cases h4 : t.val % 8 = 7
    · rw [dvAt, dv_G m c t (by omega) h1 (by omega) (by omega) h4 (by omega)]; exact key
    · rw [dvAt, dv_E m c t (by omega) h1 (by omega) (by omega) h4 (by omega)]; exact key
  · rw [dvAt, dv_F m c t (by omega) h1 (by omega) (by omega) (by omega) (by omega), dvTerm_above _ _ _ _ h, add_zero]; rfl

/-- A tile's row added below the diagonal. -/
theorem dq_upd_seen (h : t.val / 8 % 8 < t.val % 8) (p : Vec Ideal S8192x256 .f32) (inb) (y : Fin 8192 × Fin 256) :
    rowsUpd p (k0_off1 (grid0.coords t)) inb (k0_pay5 (k0_pay10 (iblk m c 1 t)) (k0_pay13 (iblk m c 0 t) (iblk m c 1 t) (iblk m c 4 t) (lseBlk m c t) (iblk m c 2 t) (iblk m c 3 t)) (rowsOf p (k0_off1 (grid0.coords t)) inb)) (ix2 y.1 y.2)
      = p (ix2 y.1 y.2) + dqTerm (argQ m c) (argK m c) (argV m c) (argG m c) t y := by
  have hoff : k0_off1 (grid0.coords t) = ![1024 * (t.val % 8), 0] := by rw [k0_off1_eq, (coords_at t).2]
  rw [dqTerm]
  split
  · rename_i hy
    rw [rowsUpd_in p _ inb _ hoff y.1 y.2 hy]
    refine (dq_seen (holds m c hq hk hv t (by omega)) hq hk hv hg (fun r s => below t h r s) _ _ y.2).trans ?_
    rw [rowsOf_at p _ inb hoff _ y.2 (by dsimp only; omega), rowA_tile t y.1 hy]
    exact congrArg (fun r => p (ix2 r y.2) + _) (Fin.ext (by dsimp only; omega))
  · rename_i hy
    rw [rowsUpd_out p _ inb _ hoff y.1 y.2 hy, add_zero]

/-- A tile's row added on the diagonal. -/
theorem dq_upd_diag (h : t.val / 8 % 8 = t.val % 8) (p : Vec Ideal S8192x256 .f32) (inb) (y : Fin 8192 × Fin 256) :
    rowsUpd p (k0_off2 (grid0.coords t)) inb (k0_pay8 (k0_pay17 (iblk m c 1 t)) (dsTile (iblk m c 0 t) (iblk m c 1 t) (iblk m c 2 t) (iblk m c 3 t) (iblk m c 4 t) (lseBlk m c t) ((grid0.coords t 2 : Fin _) : Nat) ((grid0.coords t 1 : Fin _) : Nat)) (rowsOf p (k0_off2 (grid0.coords t)) inb)) (ix2 y.1 y.2)
      = p (ix2 y.1 y.2) + dqTerm (argQ m c) (argK m c) (argV m c) (argG m c) t y := by
  have hoff : k0_off2 (grid0.coords t) = ![1024 * (t.val % 8), 0] := by rw [k0_off2_eq, (coords_at t).2]
  rw [dqTerm]
  split
  · rename_i hy
    rw [rowsUpd_in p _ inb _ hoff y.1 y.2 hy]
    refine (dq_diag (holds m c hq hk hv t (by omega)) hq hk hv hg _ _ (i_lt t) (j_lt t) (rowA_val t) (rowB_val t) _ _ y.2).trans ?_
    rw [rowsOf_at p _ inb hoff _ y.2 (by dsimp only; omega), rowA_tile t y.1 hy]
    exact congrArg (fun r => p (ix2 r y.2) + _) (Fin.ext (by dsimp only; omega))
  · rename_i hy
    rw [rowsUpd_out p _ inb _ hoff y.1 y.2 hy, add_zero]

theorem dq_first (h0 : t.val % 64 = 0) (y) : dqAt m c t.val t.isLt y = 0 + dqTerm (argQ m c) (argK m c) (argV m c) (argG m c) t y := by
  rw [dqAt, dq_A m c t h0 (by omega) (by omega) (by omega) (by omega) (by omega)]
  refine (dq_upd_diag m c hq hk hv hg t (by omega) _ _ y).trans ?_
  rw [zero_dq]

theorem dq_next (h0 : ¬t.val % 64 = 0) (y) : dqAt m c t.val t.isLt y
    = dqAt m c (t.val - 1) (Nat.lt_of_le_of_lt (Nat.sub_le _ _) t.isLt) y + dqTerm (argQ m c) (argK m c) (argV m c) (argG m c) t y := by
  rcases Nat.lt_trichotomy (t.val / 8 % 8) (t.val % 8) with h | h | h
  · by_cases h4 : t.val % 8 = 7
    · rw [dqAt, dq_C m c t (by omega) (by omega) (by omega) (by omega) h4 (by omega)]; exact dq_upd_seen m c hq hk hv hg t h _ _ y
    · rw [dqAt, dq_B m c t (by omega) (by omega) (by omega) (by omega) h4 (by omega)]; exact dq_upd_seen m c hq hk hv hg t h _ _ y
  · by_cases h4 : t.val % 8 = 7
    · rw [dqAt, dq_G m c t (by omega) (by omega) (by omega) (by omega) h4 (by omega)]; exact dq_upd_diag m c hq hk hv hg t h _ _ y
    · rw [dqAt, dq_E m c t (by omega) (by omega) (by omega) (by omega) h4 (by omega)]; exact dq_upd_diag m c hq hk hv hg t h _ _ y
  · by_cases h1 : t.val % 8 = 0
    · rw [dqAt, dq_D m c t h0 h1 (by omega) (by omega) (by omega) (by omega), dqTerm_above _ _ _ _ _ h, add_zero]; rfl
    · rw [dqAt, dq_F m c t h0 h1 (by omega) (by omega) (by omega) (by omega), dqTerm_above _ _ _ _ _ h, add_zero]; rfl

end Steps

end Cert.KernelIdeal.Attn
-- ==== Proof.Results.lean ====
/- The kernel's three result arrays are the reference's three gradients. -/
module

public import proofs.«01_k».proof.Proof.Accum

@[expose] public section

set_option maxRecDepth 16384

noncomputable section

namespace Cert.KernelIdeal.Attn

open Idealize.ShloMosaic Idealize.ShloMosaic.TcCoe Idealize.SL.Sem Cert.KernelIdeal Cert.KernelIdeal.Gen
open Cert.ReferenceIdeal.Attn

section Sums

variable (q k : FVec Ideal S8192x1024 .f32) (v g : FVec Ideal S8192x512 .f32) (t : Fin cfg0.N)

/-- The eight steps of a keys' tile see every query once. -/
theorem dk_total (hr : t.val % 8 = 8 - 1) (y : Fin 1024 × Fin 256) :
    ∑ s : Fin 8, dkTerm q k v g ⟨8 * (t.val / 8) + s.val, Pipeline.run_point_lt_of_flush t hr s⟩ y
      = ∑ x, (dsR q k v g (headOf t) x (rowB t y.1) : EReal) * q (ix2 x ⟨(headOf t).val * 256 + y.2.val, by omega⟩) := by
  refine Fin.sum_mul_add_congr (n := 1024) fun s z hl => ?_
  have e1 : headOf ⟨8 * (t.val / 8) + s.val, Pipeline.run_point_lt_of_flush t hr s⟩ = headOf t := Fin.ext (by dsimp only [headOf]; omega)
  have e2 : rowA ⟨8 * (t.val / 8) + s.val, Pipeline.run_point_lt_of_flush t hr s⟩ z = ⟨s.val * 1024 + z.val, hl⟩ := Fin.ext (by dsimp only [rowA]; omega)
  have e3 : rowB ⟨8 * (t.val / 8) + s.val, Pipeline.run_point_lt_of_flush t hr s⟩ y.1 = rowB t y.1 := Fin.ext (by dsimp only [rowB]; omega)
  simp only [dkTerm, e1, e2, e3]

theorem dv_total (hr : t.val % 8 = 8 - 1) (y : Fin 1024 × Fin 128) :
    ∑ s : Fin 8, dvTerm q k g ⟨8 * (t.val / 8) + s.val, Pipeline.run_point_lt_of_flush t hr s⟩ y
      = ∑ x, (pR q k (headOf t) x (rowB t y.1) : EReal) * g (ix2 x ⟨(headOf t).val * 128 + y.2.val, by omega⟩) := by
  refine Fin.sum_mul_add_congr (n := 1024) fun s z hl => ?_
  have e1 : headOf ⟨8 * (t.val / 8) + s.val, Pipeline.run_point_lt_of_flush t hr s⟩ = headOf t := Fin.ext (by dsimp only [headOf]; omega)
  have e2 : rowA ⟨8 * (t.val / 8) + s.val, Pipeline.run_point_lt_of_flush t hr s⟩ z = ⟨s.val * 1024 + z.val, hl⟩ := Fin.ext (by dsimp only [rowA]; omega)
  have e3 : rowB ⟨8 * (t.val / 8) + s.val, Pipeline.run_point_lt_of_flush t hr s⟩ y.1 = rowB t y.1 := Fin.ext (by dsimp only [rowB]; omega)
  simp only [dkTerm, e1, e2, e3]

/-- The sixty-four steps of a head see every key once for each query. -/
theorem dq_total (hr : t.val % 64 = 64 - 1) (y : Fin 8192 × Fin 256) :
    ∑ s : Fin 64, dqTerm q k v g ⟨64 * (t.val / 64) + s.val, Pipeline.run_point_lt_of_flush t hr s⟩ y
      = ∑ x, (dsR q k v g (headOf t) y.1 x : EReal) * k (ix2 x ⟨(headOf t).val * 256 + y.2.val, by omega⟩) := by
  have hs : ∑ s : Fin 64, dqTerm q k v g ⟨64 * (t.val / 64) + s.val, Pipeline.run_point_lt_of_flush t hr s⟩ y
      = ∑ a : Fin 8, ∑ b : Fin 8, if y.1.val / 1024 = b.val then
          ∑ z : Fin 1024, (dsR q k v g (headOf t) y.1 ⟨a.val * 1024 + z.val, by omega⟩ : EReal)
            * k (ix2 ⟨a.val * 1024 + z.val, by omega⟩ ⟨(headOf t).val * 256 + y.2.val, by omega⟩)
        else 0 := by
    refine Fin.sum_divmod_congr (S := 8) fun s ha hb => ?_
    have e0 : (64 * (t.val / 64) + s.val) % 8 = s.val % 8 := by omega
    have e1 : headOf ⟨64 * (t.val / 64) + s.val, Pipeline.run_point_lt_of_flush t hr s⟩ = headOf t := Fin.ext (by dsimp only [headOf]; omega)
    have e3 : ∀ z, rowB ⟨64 * (t.val / 64) + s.val, Pipeline.run_point_lt_of_flush t hr s⟩ z = ⟨s.val / 8 * 1024 + z.val, by omega⟩ :=
      fun z => Fin.ext (by dsimp only [rowB]; omega)
    simp only [dqTerm, e1, e3, e0]
  rw [hs]
  refine Eq.trans (Finset.sum_congr rfl fun a _ => ?_) (Fin.sum_mul_add_fin (L := 8192) 8 1024
    fun x => (dsR q k v g (headOf t) y.1 x : EReal) * k (ix2 x ⟨(headOf t).val * 256 + y.2.val, by omega⟩))
  refine (Finset.sum_eq_single (⟨y.1.val / 1024, by omega⟩ : Fin 8) (fun b _ hb => if_neg fun h => hb (Fin.ext h.symm))
    fun h => absurd (Finset.mem_univ _) h).trans (if_pos rfl)

end Sums

section Arrays

variable (m : (ℓ : Loc nD τ sig) → Buf (Elt Ideal) ℓ) (c : Dev nD)
variable (hq : Finite (argQ m c)) (hk : Finite (argK m c)) (hv : Finite (argV m c)) (hg : Finite (argG m c))

theorem flush7 : ∀ t : Fin cfg0.N, (cfg0.win 7).flush t = true → t.val % 8 = 7 := (by decide +kernel : ∀ t : Fin grid0.N, _)
theorem flush8 : ∀ t : Fin cfg0.N, (cfg0.win 8).flush t = true → t.val % 8 = 7 := (by decide +kernel : ∀ t : Fin grid0.N, _)
theorem flush6 : ∀ t : Fin cfg0.N, (cfg0.win 6).flush t = true → t.val % 64 = 63 := (by decide +kernel : ∀ t : Fin grid0.N, _)

include hq hk hv hg

/-- A keys' tile's gradient at its last step. -/
theorem dk_last (t : Fin cfg0.N) (h : t.val % 8 = 7) (r : Fin 1024) (x : Fin 256) :
    (outsAt0 m c t.val t.isLt).2.1 (ix2 r x)
      = dkV (smDs (argQ m c) (argK m c) (argV m c) (argG m c)) (argQ m c) (ix2 (rowB t r) ⟨t.val / 64 * 256 + x.val, by have := step_lt t; omega⟩) := by
  have e : (outsAt0 m c t.val t.isLt).2.1 = (outsAt0 m c t.val t.isLt).2.2.2.1 := by
    by_cases h5 : t.val % 64 = 63
    · rw [o7_G m c t (by omega) (by omega) (by omega) (by omega) h h5, dk_G m c t (by omega) (by omega) (by omega) (by omega) h h5]
    · rw [o7_C m c t (by omega) (by omega) (by omega) (by omega) h h5, dk_C m c t (by omega) (by omega) (by omega) (by omega) h h5]
  rw [e, dk_real hq hk hv hg]
  refine (Pipeline.eq_sum_fin_of_reset_step_apply_of_flush (dkAt m c) 8 (fun _ => 0) _ (fun t h y => dk_first m c hq hk hv hg t h y)
    (fun t h y => dk_next m c hq hk hv hg t h y) t h (r, x)).trans ?_
  rw [zero_add, dk_total _ _ _ _ t h (r, x)]
  have e1 : (⟨(t.val / 64 * 256 + x.val) / 256, by have := step_lt t; omega⟩ : Fin 4) = headOf t := Fin.ext (by dsimp only [headOf]; omega)
  exact Finset.sum_congr rfl fun z _ => congrArg (fun h => (dsR (argQ m c) (argK m c) (argV m c) (argG m c) h z (rowB t r) : EReal) * _) e1.symm

theorem dv_last (t : Fin cfg0.N) (h : t.val % 8 = 7) (r : Fin 1024) (x : Fin 128) :
    (outsAt0 m c t.val t.isLt).2.2.1 (ix2 r x)
      = dvV (argG m c) (probV (smE (argQ m c) (argK m c)) (sumV (smE (argQ m c) (argK m c)))) (ix2 (rowB t r) ⟨t.val / 64 * 128 + x.val, by have := step_lt t; omega⟩) := by
  have e : (outsAt0 m c t.val t.isLt).2.2.1 = (outsAt0 m c t.val t.isLt).2.2.2.2.1 := by
    by_cases h5 : t.val % 64 = 63
    · rw [o8_G m c t (by omega) (by omega) (by omega) (by omega) h h5, dv_G m c t (by omega) (by omega) (by omega) (by omega) h h5]
    · rw [o8_C m c t (by omega) (by omega) (by omega) (by omega) h h5, dv_C m c t (by omega) (by omega) (by omega) (by omega) h h5]
  rw [e, dv_real hq hk]
  refine (Pipeline.eq_sum_fin_of_reset_step_apply_of_flush (dvAt m c) 8 (fun _ => 0) _ (fun t h y => dv_first m c hq hk hv hg t h y)
    (fun t h y => dv_next m c hq hk hv hg t h y) t h (r, x)).trans ?_
  rw [zero_add, dv_total _ _ _ t h (r, x)]
  have e1 : (⟨(t.val / 64 * 128 + x.val) / 128, by have := step_lt t; omega⟩ : Fin 4) = headOf t := Fin.ext (by dsimp only [headOf]; omega)
  exact Finset.sum_congr rfl fun z _ => congrArg (fun h => (pR (argQ m c) (argK m c) h z (rowB t r) : EReal) * _) e1.symm

theorem dq_last (t : Fin cfg0.N) (h : t.val % 64 = 63) (r : Fin 8192) (x : Fin 256) :
    (outsAt0 m c t.val t.isLt).1 (ix2 r x)
      = dqV (smDs (argQ m c) (argK m c) (argV m c) (argG m c)) (argK m c) (ix2 r ⟨t.val / 64 * 256 + x.val, by have := step_lt t; omega⟩) := by
  have e : (outsAt0 m c t.val t.isLt).1 = (outsAt0 m c t.val t.isLt).2.2.2.2.2 := by
    rw [o6_G m c t (by omega) (by omega) (by omega) (by omega) (by omega) h, dq_G m c t (by omega) (by omega) (by omega) (by omega) (by omega) h]
  rw [e, dq_real hq hk hv hg]
  refine (Pipeline.eq_sum_fin_of_reset_step_apply_of_flush (dqAt m c) 64 (fun _ => 0) _ (fun t h y => dq_first m c hq hk hv hg t h y)
    (fun t h y => dq_next m c hq hk hv hg t h y) t h (r, x)).trans ?_
  rw [zero_add, dq_total _ _ _ _ t h (r, x)]
  have e1 : (⟨(t.val / 64 * 256 + x.val) / 256, by have := step_lt t; omega⟩ : Fin 4) = headOf t := Fin.ext (by dsimp only [headOf]; omega)
  exact Finset.sum_congr rfl fun z _ => congrArg (fun h => (dsR (argQ m c) (argK m c) (argV m c) (argG m c) h r z : EReal) * _) e1.symm

/-- The keys' gradient. -/
theorem dk_array : (dats m 0 c).arrAt 7 cfg0.N = dkV (smDs (argQ m c) (argK m c) (argV m c) (argG m c)) (argQ m c) := by
  refine (dats m 0 c).arrAt_eq_of_covers 7 _ (by decide +kernel) fun t hf y => ?_
  blk_simp
  rw [after0_7]
  have hy : y = ix2 (y 0) (y 1) := by funext d; fin_cases d <;> rfl
  refine (congrArg _ hy).trans ((dk_last m c hq hk hv hg t (flush7 t hf) (y 0) (y 1)).trans ?_)
  generalize dkV (smDs (argQ m c) (argK m c) (argV m c) (argG m c)) (argQ m c) = X
  blk_ext [idx t]
  rfl

/-- The values' gradient. -/
theorem dv_array : (dats m 0 c).arrAt 8 cfg0.N = dvV (argG m c) (probV (smE (argQ m c) (argK m c)) (sumV (smE (argQ m c) (argK m c)))) := by
  refine (dats m 0 c).arrAt_eq_of_covers 8 _ (by decide +kernel) fun t hf y => ?_
  blk_simp
  rw [after0_8]
  have hy : y = ix2 (y 0) (y 1) := by funext d; fin_cases d <;> rfl
  refine (congrArg _ hy).trans ((dv_last m c hq hk hv hg t (flush8 t hf) (y 0) (y 1)).trans ?_)
  generalize dvV (argG m c) (probV (smE (argQ m c) (argK m c)) (sumV (smE (argQ m c) (argK m c)))) = X
  blk_ext [idx t]
  rfl

/-- The queries' gradient. -/
theorem dq_array : (dats m 0 c).arrAt 6 cfg0.N = dqV (smDs (argQ m c) (argK m c) (argV m c) (argG m c)) (argK m c) := by
  refine (dats m 0 c).arrAt_eq_of_covers 6 _ (by decide +kernel) fun t hf y => ?_
  blk_simp
  rw [after0_6]
  have hy : y = ix2 (y 0) (y 1) := by funext d; fin_cases d <;> rfl
  refine (congrArg _ hy).trans ((dq_last m c hq hk hv hg t (flush6 t hf) (y 0) (y 1)).trans ?_)
  generalize dqV (smDs (argQ m c) (argK m c) (argV m c) (argG m c)) (argK m c) = X
  blk_ext [idx t]

end Arrays

end Cert.KernelIdeal.Attn
-- ==== Proof.Finite.lean ====
/- The precondition read: every entry of the four arguments is a real number. -/
module

public import proofs.«01_k».proof.Proof.RealRef
public import proofs.«01_k».proof.Pre_finite

@[expose] public section

noncomputable section

namespace Cert.KernelIdeal.Attn

open Idealize.ShloMosaic Cert.ReferenceIdeal.Attn

/-- The side conditions of the precondition's function. -/
theorem finite_facts : Cert.Pre_finite.Facts := ⟨by decide, by decide⟩

/-- The word of +∞. -/
theorem posInf : Ideal.ofBits .f32 0x7F800000#32 = ⊤ := by
  simp [Ideal.ofBits, Ideal.ieee]

/-- An array whose entries' magnitudes compare below +∞ has real entries. -/
theorem finite_of {s : Shape} (x : FVec Ideal s .f32) (hb : Cert.Pre_finite.S_.BroadcastsInDim s (![] : Fin 0 → Fin s.rank))
    (h : cmpf .olt (Host.absf x) (broadcastInDim s ![] hb (constant Cert.Pre_finite.S_ .f32 0x7F800000#32)) = fun _ => 1#1) : Finite x := by
  intro y
  have e : Ideal.cmp .olt (max (x y) (-(x y))) (Ideal.ofBits .f32 0x7F800000#32) = 1#1 := congrFun h y
  rw [posInf] at e
  have hlt : max (x y) (-(x y)) < ⊤ := by
    by_contra hn
    simp [Ideal.cmp, hn] at e
  rw [max_lt_iff] at hlt
  refine EReal.coe_toReal hlt.1.ne fun hx => ?_
  rw [hx] at hlt
  simp at hlt

end Cert.KernelIdeal.Attn
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Products.FeedInWeights
public import proofs.«01_k».proof.Proof.Gen.Kernel3.Frame
public import proofs.«01_k».proof.Proof.Products.FeedIn
public import proofs.«01_k».proof.Proof.Gen.Kernel4.Frame
public import proofs.«01_k».proof.Proof.Products.FeedOut
public import proofs.«01_k».proof.Proof.Gen.Kernel5.Frame
public import proofs.«01_k».proof.Proof.Products.FeedOutWeights
public import proofs.«01_k».proof.Proof.Gen.Kernel6.Frame
public import proofs.«01_k».proof.Proof.Products.MixIn
public import proofs.«01_k».proof.Proof.Gen.Kernel7.Frame
public import proofs.«01_k».proof.Proof.Products.MixInWeights
public import proofs.«01_k».proof.Proof.Gen.Kernel8.Frame
public import proofs.«01_k».proof.Proof.Products.MixOut
public import proofs.«01_k».proof.Proof.Gen.Kernel9.Frame
public import proofs.«01_k».proof.Proof.Products.MixOutWeights
public import proofs.«01_k».proof.Proof.Gen.Kernel10.Frame
public import proofs.«01_k».proof.Proof.Products.Queries
public import proofs.«01_k».proof.Proof.Gen.Kernel11.Frame
public import proofs.«01_k».proof.Proof.Products.QueriesWeights
public import proofs.«01_k».proof.Proof.Gen.Kernel12.Frame
public import proofs.«01_k».proof.Proof.Products.KeysValues
public import proofs.«01_k».proof.Proof.Gen.Kernel13.Frame
public import proofs.«01_k».proof.Proof.Products.KeysValuesWeights
public import proofs.«01_k».proof.Proof.Gen.Kernel14.Frame
public import proofs.«01_k».proof.Proof.Products.ForwardFeedIn
public import proofs.«01_k».proof.Proof.Gen.Kernel15.Frame
public import proofs.«01_k».proof.Proof.Products.ForwardFeedOut
public import proofs.«01_k».proof.Proof.Gen.Kernel16.Frame
public import proofs.«01_k».proof.Proof.Products.ForwardQueries
public import proofs.«01_k».proof.Proof.Gen.Kernel17.Frame
public import proofs.«01_k».proof.Proof.Products.ForwardKeysValues
public import proofs.«01_k».proof.Proof.Gen.Kernel18.Frame
public import proofs.«01_k».proof.Proof.Products.ForwardMixOut
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gates.GateGrad
public import proofs.«01_k».proof.Proof.Gen.Kernel27.Frame
public import proofs.«01_k».proof.Proof.Gates.Gate
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Optimizer.AdaGrad
public import proofs.«01_k».proof.Proof.Gen.Kernel30.Frame
public import proofs.«01_k».proof.Proof.Optimizer.Total
public import proofs.«01_k».proof.Proof.Gen.Kernel31.Frame
public import proofs.«01_k».proof.Proof.Losses.Loss
public import proofs.«01_k».proof.Proof.Gen.Kernel32.Frame
public import proofs.«01_k».proof.Proof.Losses.Modulation
public import proofs.«01_k».proof.Proof.Results
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.ReferenceIdeal.Attn Cert.KernelIdeal.Attn

instance : Cert.Kernel.Facts := Cert.Kernel.Gen.facts
instance : Cert.KernelIdeal.Facts := Cert.KernelIdeal.Gen.facts
instance : Cert.ReferenceIdeal.Facts := Cert.ReferenceIdeal.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts
instance : Cert.Kernel5.Facts := Cert.Kernel5.Gen.facts
instance : Cert.Kernel5Ideal.Facts := Cert.Kernel5Ideal.Gen.facts
instance : Cert.Reference5Ideal.Facts := Cert.Reference5Ideal.Gen.facts
instance : Cert.Kernel6.Facts := Cert.Kernel6.Gen.facts
instance : Cert.Kernel6Ideal.Facts := Cert.Kernel6Ideal.Gen.facts
instance : Cert.Reference6Ideal.Facts := Cert.Reference6Ideal.Gen.facts
instance : Cert.Kernel7.Facts := Cert.Kernel7.Gen.facts
instance : Cert.Kernel7Ideal.Facts := Cert.Kernel7Ideal.Gen.facts
instance : Cert.Reference7Ideal.Facts := Cert.Reference7Ideal.Gen.facts
instance : Cert.Kernel8.Facts := Cert.Kernel8.Gen.facts
instance : Cert.Kernel8Ideal.Facts := Cert.Kernel8Ideal.Gen.facts
instance : Cert.Reference8Ideal.Facts := Cert.Reference8Ideal.Gen.facts
instance : Cert.Kernel9.Facts := Cert.Kernel9.Gen.facts
instance : Cert.Kernel9Ideal.Facts := Cert.Kernel9Ideal.Gen.facts
instance : Cert.Reference9Ideal.Facts := Cert.Reference9Ideal.Gen.facts
instance : Cert.Kernel10.Facts := Cert.Kernel10.Gen.facts
instance : Cert.Kernel10Ideal.Facts := Cert.Kernel10Ideal.Gen.facts
instance : Cert.Reference10Ideal.Facts := Cert.Reference10Ideal.Gen.facts
instance : Cert.Kernel11.Facts := Cert.Kernel11.Gen.facts
instance : Cert.Kernel11Ideal.Facts := Cert.Kernel11Ideal.Gen.facts
instance : Cert.Reference11Ideal.Facts := Cert.Reference11Ideal.Gen.facts
instance : Cert.Kernel12.Facts := Cert.Kernel12.Gen.facts
instance : Cert.Kernel12Ideal.Facts := Cert.Kernel12Ideal.Gen.facts
instance : Cert.Reference12Ideal.Facts := Cert.Reference12Ideal.Gen.facts
instance : Cert.Kernel13.Facts := Cert.Kernel13.Gen.facts
instance : Cert.Kernel13Ideal.Facts := Cert.Kernel13Ideal.Gen.facts
instance : Cert.Reference13Ideal.Facts := Cert.Reference13Ideal.Gen.facts
instance : Cert.Kernel14.Facts := Cert.Kernel14.Gen.facts
instance : Cert.Kernel14Ideal.Facts := Cert.Kernel14Ideal.Gen.facts
instance : Cert.Reference14Ideal.Facts := Cert.Reference14Ideal.Gen.facts
instance : Cert.Kernel15.Facts := Cert.Kernel15.Gen.facts
instance : Cert.Kernel15Ideal.Facts := Cert.Kernel15Ideal.Gen.facts
instance : Cert.Reference15Ideal.Facts := Cert.Reference15Ideal.Gen.facts
instance : Cert.Kernel16.Facts := Cert.Kernel16.Gen.facts
instance : Cert.Kernel16Ideal.Facts := Cert.Kernel16Ideal.Gen.facts
instance : Cert.Reference16Ideal.Facts := Cert.Reference16Ideal.Gen.facts
instance : Cert.Kernel17.Facts := Cert.Kernel17.Gen.facts
instance : Cert.Kernel17Ideal.Facts := Cert.Kernel17Ideal.Gen.facts
instance : Cert.Reference17Ideal.Facts := Cert.Reference17Ideal.Gen.facts
instance : Cert.Kernel18.Facts := Cert.Kernel18.Gen.facts
instance : Cert.Kernel18Ideal.Facts := Cert.Kernel18Ideal.Gen.facts
instance : Cert.Reference18Ideal.Facts := Cert.Reference18Ideal.Gen.facts
instance : Cert.Kernel19.Facts := Cert.Kernel19.Gen.facts
instance : Cert.Kernel19Ideal.Facts := Cert.Kernel19Ideal.Gen.facts
instance : Cert.Reference19Ideal.Facts := Cert.Reference19Ideal.Gen.facts
instance : Cert.Kernel20.Facts := Cert.Kernel20.Gen.facts
instance : Cert.Kernel20Ideal.Facts := Cert.Kernel20Ideal.Gen.facts
instance : Cert.Reference20Ideal.Facts := Cert.Reference20Ideal.Gen.facts
instance : Cert.Kernel21.Facts := Cert.Kernel21.Gen.facts
instance : Cert.Kernel21Ideal.Facts := Cert.Kernel21Ideal.Gen.facts
instance : Cert.Reference21Ideal.Facts := Cert.Reference21Ideal.Gen.facts
instance : Cert.Kernel22.Facts := Cert.Kernel22.Gen.facts
instance : Cert.Kernel22Ideal.Facts := Cert.Kernel22Ideal.Gen.facts
instance : Cert.Reference22Ideal.Facts := Cert.Reference22Ideal.Gen.facts
instance : Cert.Kernel23.Facts := Cert.Kernel23.Gen.facts
instance : Cert.Kernel23Ideal.Facts := Cert.Kernel23Ideal.Gen.facts
instance : Cert.Reference23Ideal.Facts := Cert.Reference23Ideal.Gen.facts
instance : Cert.Kernel24.Facts := Cert.Kernel24.Gen.facts
instance : Cert.Kernel24Ideal.Facts := Cert.Kernel24Ideal.Gen.facts
instance : Cert.Reference24Ideal.Facts := Cert.Reference24Ideal.Gen.facts
instance : Cert.Kernel25.Facts := Cert.Kernel25.Gen.facts
instance : Cert.Kernel25Ideal.Facts := Cert.Kernel25Ideal.Gen.facts
instance : Cert.Reference25Ideal.Facts := Cert.Reference25Ideal.Gen.facts
instance : Cert.Kernel26.Facts := Cert.Kernel26.Gen.facts
instance : Cert.Kernel26Ideal.Facts := Cert.Kernel26Ideal.Gen.facts
instance : Cert.Reference26Ideal.Facts := Cert.Reference26Ideal.Gen.facts
instance : Cert.Kernel27.Facts := Cert.Kernel27.Gen.facts
instance : Cert.Kernel27Ideal.Facts := Cert.Kernel27Ideal.Gen.facts
instance : Cert.Reference27Ideal.Facts := Cert.Reference27Ideal.Gen.facts
instance : Cert.Kernel28.Facts := Cert.Kernel28.Gen.facts
instance : Cert.Kernel28Ideal.Facts := Cert.Kernel28Ideal.Gen.facts
instance : Cert.Reference28Ideal.Facts := Cert.Reference28Ideal.Gen.facts
instance : Cert.Kernel29.Facts := Cert.Kernel29.Gen.facts
instance : Cert.Kernel29Ideal.Facts := Cert.Kernel29Ideal.Gen.facts
instance : Cert.Reference29Ideal.Facts := Cert.Reference29Ideal.Gen.facts
instance : Cert.Kernel30.Facts := Cert.Kernel30.Gen.facts
instance : Cert.Kernel30Ideal.Facts := Cert.Kernel30Ideal.Gen.facts
instance : Cert.Reference30Ideal.Facts := Cert.Reference30Ideal.Gen.facts
instance : Cert.Kernel31.Facts := Cert.Kernel31.Gen.facts
instance : Cert.Kernel31Ideal.Facts := Cert.Kernel31Ideal.Gen.facts
instance : Cert.Reference31Ideal.Facts := Cert.Reference31Ideal.Gen.facts
instance : Cert.Kernel32.Facts := Cert.Kernel32.Gen.facts
instance : Cert.Kernel32Ideal.Facts := Cert.Kernel32Ideal.Gen.facts
instance : Cert.Reference32Ideal.Facts := Cert.Reference32Ideal.Gen.facts
instance : Cert.Pre_finite.Facts := finite_facts

/-- The kernel as it runs terminates without a fault, leaves its arguments and every counter at zero. -/
theorem frame_kernel : Cert.quiescent_Kernel := fun m ρ _ => Cert.Kernel.Gen.frame (F := Bits) m ρ

/-- So does the kernel over the extended reals. -/
theorem frame_ideal : Cert.quiescent_KernelIdeal := fun m ρ _ => Cert.KernelIdeal.Gen.frame (F := Ideal) m ρ

/-- So it does on finite arguments. -/
theorem frame_ideal_pre : Cert.quiescent_KernelIdeal_pre_finite := fun m ρ _ => Cert.KernelIdeal.Gen.frame (F := Ideal) m ρ

/-- So does the reference. -/
theorem frame_reference : Cert.quiescent_ReferenceIdeal := fun m ρ _ =>
  (θ_run Cert.ReferenceIdeal.defs _ _).mono (fun _ h => ⟨fun c => (h c).2.2.2, sem_eq_zero_of_no_sems rfl _⟩) (Cert.ReferenceIdeal.Value.run (F := Ideal) m ρ)

/-- So it does on finite arguments. -/
theorem frame_reference_pre : Cert.quiescent_ReferenceIdeal_pre_finite := fun m ρ _ =>
  (θ_run Cert.ReferenceIdeal.defs _ _).mono (fun _ h => ⟨fun c => (h c).2.2.2, sem_eq_zero_of_no_sems rfl _⟩) (Cert.ReferenceIdeal.Value.run (F := Ideal) m ρ)

/-- On finite arguments the kernel's gradients of the attention's q, k and v are the reference's. -/
theorem value : Cert.algebraic_KernelIdeal_ReferenceIdeal_pre_finite := by
  intro m ρ m' ρ' hpre hagree
  have fin : ∀ c : Dev Cert.KernelIdeal.nD, Finite (argQ m c) ∧ Finite (argK m c) ∧ Finite (argV m c) ∧ Finite (argG m c) := fun c =>
    ⟨finite_of _ _ (hpre c).1, finite_of _ _ (hpre c).2.1, finite_of _ _ (hpre c).2.2.1, finite_of _ _ (hpre c).2.2.2⟩
  refine ⟨fun c => dqV (smDs (argQ m c) (argK m c) (argV m c) (argG m c)) (argK m c),
    fun c => dkV (smDs (argQ m c) (argK m c) (argV m c) (argG m c)) (argQ m c),
    fun c => dvV (argG m c) (probV (smE (argQ m c) (argK m c)) (sumV (smE (argQ m c) (argK m c)))), ?_, ?_⟩
  · refine (θ_run Cert.KernelIdeal.defs _ _).mono (fun r h c => ?_)
      (θ_run_and (Cert.KernelIdeal.Gen.run_main m ρ) (Cert.KernelIdeal.Gen.unchanged m ρ))
    obtain ⟨hq, hk, hv, hg⟩ := fin c
    exact ⟨(h.1.out_eq c 6).trans (dq_array m c hq hk hv hg), (h.1.out_eq c 7).trans (dk_array m c hq hk hv hg),
      (h.1.out_eq c 8).trans (dv_array m c hq hk hv hg), h.2 c⟩
  · refine (θ_run Cert.ReferenceIdeal.defs _ _).mono (fun r h c => ?_) (Cert.ReferenceIdeal.Value.run m' ρ')
    obtain ⟨h0, h1, h2, h3⟩ := hagree c
    refine ⟨(h c).1.trans ((res0_eq m' c).trans ?_), (h c).2.1.trans ((res1_eq m' c).trans ?_),
      (h c).2.2.1.trans ((res2_eq m' c).trans ?_), (h c).2.2.2⟩
    · rw [h0, h1, h2, h3]
    · rw [h0, h1, h2, h3]
    · rw [h0, h1, h3]

/-! ## The gradient of the feed-forward's first product h @ w_in in w_in -/

/-- The kernel runs whole and leaves its arguments alone. -/
theorem frame_kernel2 : Cert.quiescent_Kernel2 := fun m ρ _ => Cert.Kernel2.Gen.frame (F := Bits) m ρ

/-- So does the ideal kernel. -/
theorem frame_ideal2 : Cert.quiescent_Kernel2Ideal := fun m ρ _ => Cert.Kernel2Ideal.Gen.frame (F := Ideal) m ρ

/-- So does the reference. -/
theorem frame_reference2 : Cert.quiescent_Reference2Ideal := fun m ρ _ =>
  (θ_run Cert.Reference2Ideal.defs _ _).mono (fun _ h => ⟨fun c => (h c).2, sem_eq_zero_of_no_sems rfl _⟩) (Cert.Reference2Ideal.Value.run (F := Ideal) m ρ)

/-- The kernel's product is the reference's. -/
theorem value2 : Cert.algebraic_Kernel2Ideal_Reference2Ideal := by
  intro m ρ m' ρ' _ hagree
  refine ⟨fun c => Cert.Kernel2Ideal.Product.product (Cert.Kernel2Ideal.Product.argA m c) (Cert.Kernel2Ideal.Product.argB m c), ?_, ?_⟩
  · refine (θ_run Cert.Kernel2Ideal.defs _ _).mono (fun r h c => ?_)
      (θ_run_and (Cert.Kernel2Ideal.Gen.run_main m ρ) (Cert.Kernel2Ideal.Gen.unchanged m ρ))
    exact ⟨(h.1.out_eq c 2).trans (Cert.Kernel2Ideal.Product.array_eq m c), h.2 c⟩
  · refine (θ_run Cert.Reference2Ideal.defs _ _).mono (fun r h c => ?_) (Cert.Reference2Ideal.Value.run m' ρ')
    obtain ⟨h0, h1⟩ := hagree c
    refine ⟨(h c).1.trans ((Cert.Kernel2Ideal.Product.reference_eq _ _ _ _).trans ?_), (h c).2⟩
    rw [h0, h1]

/-! ## The gradient of the feed-forward's first product h @ w_in in h -/

/-- The kernel runs whole and leaves its arguments alone. -/
theorem frame_kernel3 : Cert.quiescent_Kernel3 := fun m ρ _ => Cert.Kernel3.Gen.frame (F := Bits) m ρ

/-- So does the ideal kernel. -/
theorem frame_ideal3 : Cert.quiescent_Kernel3Ideal := fun m ρ _ => Cert.Kernel3Ideal.Gen.frame (F := Ideal) m ρ

/-- So does the reference. -/
theorem frame_reference3 : Cert.quiescent_Reference3Ideal := fun m ρ _ =>
  (θ_run Cert.Reference3Ideal.defs _ _).mono (fun _ h => ⟨fun c => (h c).2, sem_eq_zero_of_no_sems rfl _⟩) (Cert.Reference3Ideal.Value.run (F := Ideal) m ρ)

/-- The kernel's product is the reference's. -/
theorem value3 : Cert.algebraic_Kernel3Ideal_Reference3Ideal := by
  intro m ρ m' ρ' _ hagree
  refine ⟨fun c => Cert.Kernel3Ideal.Product.product (Cert.Kernel3Ideal.Product.argA m c) (Cert.Kernel3Ideal.Product.argB m c), ?_, ?_⟩
  · refine (θ_run Cert.Kernel3Ideal.defs _ _).mono (fun r h c => ?_)
      (θ_run_and (Cert.Kernel3Ideal.Gen.run_main m ρ) (Cert.Kernel3Ideal.Gen.unchanged m ρ))
    exact ⟨(h.1.out_eq c 2).trans (Cert.Kernel3Ideal.Product.array_eq m c), h.2 c⟩
  · refine (θ_run Cert.Reference3Ideal.defs _ _).mono (fun r h c => ?_) (Cert.Reference3Ideal.Value.run m' ρ')
    obtain ⟨h0, h1⟩ := hagree c
    refine ⟨(h c).1.trans ((Cert.Kernel3Ideal.Product.reference_eq _ _ _).trans ?_), (h c).2⟩
    rw [h0, h1]

/-! ## The gradient of the feed-forward's second product act @ w_out in act -/

/-- The kernel runs whole and leaves its arguments alone. -/
theorem frame_kernel4 : Cert.quiescent_Kernel4 := fun m ρ _ => Cert.Kernel4.Gen.frame (F := Bits) m ρ

/-- So does the ideal kernel. -/
theorem frame_ideal4 : Cert.quiescent_Kernel4Ideal := fun m ρ _ => Cert.Kernel4Ideal.Gen.frame (F := Ideal) m ρ

/-- So does the reference. -/
theorem frame_reference4 : Cert.quiescent_Reference4Ideal := fun m ρ _ =>
  (θ_run Cert.Reference4Ideal.defs _ _).mono (fun _ h => ⟨fun c => (h c).2, sem_eq_zero_of_no_sems rfl _⟩) (Cert.Reference4Ideal.Value.run (F := Ideal) m ρ)

/-- The kernel's product is the reference's. -/
theorem value4 : Cert.algebraic_Kernel4Ideal_Reference4Ideal := by
  intro m ρ m' ρ' _ hagree
  refine ⟨fun c => Cert.Kernel4Ideal.Product.product (Cert.Kernel4Ideal.Product.argA m c) (Cert.Kernel4Ideal.Product.argB m c), ?_, ?_⟩
  · refine (θ_run Cert.Kernel4Ideal.defs _ _).mono (fun r h c => ?_)
      (θ_run_and (Cert.Kernel4Ideal.Gen.run_main m ρ) (Cert.Kernel4Ideal.Gen.unchanged m ρ))
    exact ⟨(h.1.out_eq c 2).trans (Cert.Kernel4Ideal.Product.array_eq m c), h.2 c⟩
  · refine (θ_run Cert.Reference4Ideal.defs _ _).mono (fun r h c => ?_) (Cert.Reference4Ideal.Value.run m' ρ')
    obtain ⟨h0, h1⟩ := hagree c
    refine ⟨(h c).1.trans ((Cert.Kernel4Ideal.Product.reference_eq _ _ _ _).trans ?_), (h c).2⟩
    rw [h0, h1]

/-! ## The gradient of the feed-forward's second product act @ w_out in w_out -/

/-- The kernel runs whole and leaves its arguments alone. -/
theorem frame_kernel5 : Cert.quiescent_Kernel5 := fun m ρ _ => Cert.Kernel5.Gen.frame (F := Bits) m ρ

/-- So does the ideal kernel. -/
theorem frame_ideal5 : Cert.quiescent_Kernel5Ideal := fun m ρ _ => Cert.Kernel5Ideal.Gen.frame (F := Ideal) m ρ

/-- So does the reference. -/
theorem frame_reference5 : Cert.quiescent_Reference5Ideal := fun m ρ _ =>
  (θ_run Cert.Reference5Ideal.defs _ _).mono (fun _ h => ⟨fun c => (h c).2, sem_eq_zero_of_no_sems rfl _⟩) (Cert.Reference5Ideal.Value.run (F := Ideal) m ρ)

/-- The kernel's product is the reference's. -/
theorem value5 : Cert.algebraic_Kernel5Ideal_Reference5Ideal := by
  intro m ρ m' ρ' _ hagree
  refine ⟨fun c => Cert.Kernel5Ideal.Product.product (Cert.Kernel5Ideal.Product.argA m c) (Cert.Kernel5Ideal.Product.argB m c), ?_, ?_⟩
  · refine (θ_run Cert.Kernel5Ideal.defs _ _).mono (fun r h c => ?_)
      (θ_run_and (Cert.Kernel5Ideal.Gen.run_main m ρ) (Cert.Kernel5Ideal.Gen.unchanged m ρ))
    exact ⟨(h.1.out_eq c 2).trans (Cert.Kernel5Ideal.Product.array_eq m c), h.2 c⟩
  · refine (θ_run Cert.Reference5Ideal.defs _ _).mono (fun r h c => ?_) (Cert.Reference5Ideal.Value.run m' ρ')
    obtain ⟨h0, h1⟩ := hagree c
    refine ⟨(h c).1.trans ((Cert.Kernel5Ideal.Product.reference_eq _ _ _ _).trans ?_), (h c).2⟩
    rw [h0, h1]

/-! ## The gradient of the mixer's product h @ w_in, its columns packed to 3072, in h -/

/-- The kernel runs whole and leaves its arguments alone. -/
theorem frame_kernel6 : Cert.quiescent_Kernel6 := fun m ρ _ => Cert.Kernel6.Gen.frame (F := Bits) m ρ

/-- So does the ideal kernel. -/
theorem frame_ideal6 : Cert.quiescent_Kernel6Ideal := fun m ρ _ => Cert.Kernel6Ideal.Gen.frame (F := Ideal) m ρ

/-- So does the reference. -/
theorem frame_reference6 : Cert.quiescent_Reference6Ideal := fun m ρ _ =>
  (θ_run Cert.Reference6Ideal.defs _ _).mono (fun _ h => ⟨fun c => (h c).2, sem_eq_zero_of_no_sems rfl _⟩) (Cert.Reference6Ideal.Value.run (F := Ideal) m ρ)

/-- The kernel's product is the reference's. -/
theorem value6 : Cert.algebraic_Kernel6Ideal_Reference6Ideal := by
  intro m ρ m' ρ' _ hagree
  refine ⟨fun c => Cert.Kernel6Ideal.Product.product (Cert.Kernel6Ideal.Product.argA m c) (Cert.Kernel6Ideal.Product.argB m c), ?_, ?_⟩
  · refine (θ_run Cert.Kernel6Ideal.defs _ _).mono (fun r h c => ?_)
      (θ_run_and (Cert.Kernel6Ideal.Gen.run_main m ρ) (Cert.Kernel6Ideal.Gen.unchanged m ρ))
    exact ⟨(h.1.out_eq c 2).trans (Cert.Kernel6Ideal.Product.array_eq m c), h.2 c⟩
  · refine (θ_run Cert.Reference6Ideal.defs _ _).mono (fun r h c => ?_) (Cert.Reference6Ideal.Value.run m' ρ')
    obtain ⟨h0, h1⟩ := hagree c
    refine ⟨(h c).1.trans ((Cert.Kernel6Ideal.Product.reference_eq _ _ _).trans ?_), (h c).2⟩
    rw [h0, h1]

/-! ## The gradient of the mixer's product h @ w_in, its columns packed to 3072, in w_in -/

/-- The kernel runs whole and leaves its arguments alone. -/
theorem frame_kernel7 : Cert.quiescent_Kernel7 := fun m ρ _ => Cert.Kernel7.Gen.frame (F := Bits) m ρ

/-- So does the ideal kernel. -/
theorem frame_ideal7 : Cert.quiescent_Kernel7Ideal := fun m ρ _ => Cert.Kernel7Ideal.Gen.frame (F := Ideal) m ρ

/-- So does the reference. -/
theorem frame_reference7 : Cert.quiescent_Reference7Ideal := fun m ρ _ =>
  (θ_run Cert.Reference7Ideal.defs _ _).mono (fun _ h => ⟨fun c => (h c).2, sem_eq_zero_of_no_sems rfl _⟩) (Cert.Reference7Ideal.Value.run (F := Ideal) m ρ)

/-- The kernel's product is the reference's. -/
theorem value7 : Cert.algebraic_Kernel7Ideal_Reference7Ideal := by
  intro m ρ m' ρ' _ hagree
  refine ⟨fun c => Cert.Kernel7Ideal.Product.product (Cert.Kernel7Ideal.Product.argA m c) (Cert.Kernel7Ideal.Product.argB m c), ?_, ?_⟩
  · refine (θ_run Cert.Kernel7Ideal.defs _ _).mono (fun r h c => ?_)
      (θ_run_and (Cert.Kernel7Ideal.Gen.run_main m ρ) (Cert.Kernel7Ideal.Gen.unchanged m ρ))
    exact ⟨(h.1.out_eq c 2).trans (Cert.Kernel7Ideal.Product.array_eq m c), h.2 c⟩
  · refine (θ_run Cert.Reference7Ideal.defs _ _).mono (fun r h c => ?_) (Cert.Reference7Ideal.Value.run m' ρ')
    obtain ⟨h0, h1⟩ := hagree c
    refine ⟨(h c).1.trans ((Cert.Kernel7Ideal.Product.reference_eq _ _ _).trans ?_), (h c).2⟩
    rw [h0, h1]

/-! ## The gradient of the mixer's product mixed @ w_out in mixed -/

/-- The kernel runs whole and leaves its arguments alone. -/
theorem frame_kernel8 : Cert.quiescent_Kernel8 := fun m ρ _ => Cert.Kernel8.Gen.frame (F := Bits) m ρ

/-- So does the ideal kernel. -/
theorem frame_ideal8 : Cert.quiescent_Kernel8Ideal := fun m ρ _ => Cert.Kernel8Ideal.Gen.frame (F := Ideal) m ρ

/-- So does the reference. -/
theorem frame_reference8 : Cert.quiescent_Reference8Ideal := fun m ρ _ =>
  (θ_run Cert.Reference8Ideal.defs _ _).mono (fun _ h => ⟨fun c => (h c).2, sem_eq_zero_of_no_sems rfl _⟩) (Cert.Reference8Ideal.Value.run (F := Ideal) m ρ)

/-- The kernel's product is the reference's. -/
theorem value8 : Cert.algebraic_Kernel8Ideal_Reference8Ideal := by
  intro m ρ m' ρ' _ hagree
  refine ⟨fun c => Cert.Kernel8Ideal.Product.product (Cert.Kernel8Ideal.Product.argA m c) (Cert.Kernel8Ideal.Product.argB m c), ?_, ?_⟩
  · refine (θ_run Cert.Kernel8Ideal.defs _ _).mono (fun r h c => ?_)
      (θ_run_and (Cert.Kernel8Ideal.Gen.run_main m ρ) (Cert.Kernel8Ideal.Gen.unchanged m ρ))
    exact ⟨(h.1.out_eq c 2).trans (Cert.Kernel8Ideal.Product.array_eq m c), h.2 c⟩
  · refine (θ_run Cert.Reference8Ideal.defs _ _).mono (fun r h c => ?_) (Cert.Reference8Ideal.Value.run m' ρ')
    obtain ⟨h0, h1⟩ := hagree c
    refine ⟨(h c).1.trans ((Cert.Kernel8Ideal.Product.reference_eq _ _ _).trans ?_), (h c).2⟩
    rw [h0, h1]

/-! ## The gradient of the mixer's product mixed @ w_out in w_out -/

/-- The kernel runs whole and leaves its arguments alone. -/
theorem frame_kernel9 : Cert.quiescent_Kernel9 := fun m ρ _ => Cert.Kernel9.Gen.frame (F := Bits) m ρ

/-- So does the ideal kernel. -/
theorem frame_ideal9 : Cert.quiescent_Kernel9Ideal := fun m ρ _ => Cert.Kernel9Ideal.Gen.frame (F := Ideal) m ρ

/-- So does the reference. -/
theorem frame_reference9 : Cert.quiescent_Reference9Ideal := fun m ρ _ =>
  (θ_run Cert.Reference9Ideal.defs _ _).mono (fun _ h => ⟨fun c => (h c).2, sem_eq_zero_of_no_sems rfl _⟩) (Cert.Reference9Ideal.Value.run (F := Ideal) m ρ)

/-- The kernel's product is the reference's. -/
theorem value9 : Cert.algebraic_Kernel9Ideal_Reference9Ideal := by
  intro m ρ m' ρ' _ hagree
  refine ⟨fun c => Cert.Kernel9Ideal.Product.product (Cert.Kernel9Ideal.Product.argA m c) (Cert.Kernel9Ideal.Product.argB m c), ?_, ?_⟩
  · refine (θ_run Cert.Kernel9Ideal.defs _ _).mono (fun r h c => ?_)
      (θ_run_and (Cert.Kernel9Ideal.Gen.run_main m ρ) (Cert.Kernel9Ideal.Gen.unchanged m ρ))
    exact ⟨(h.1.out_eq c 2).trans (Cert.Kernel9Ideal.Product.array_eq m c), h.2 c⟩
  · refine (θ_run Cert.Reference9Ideal.defs _ _).mono (fun r h c => ?_) (Cert.Reference9Ideal.Value.run m' ρ')
    obtain ⟨h0, h1⟩ := hagree c
    refine ⟨(h c).1.trans ((Cert.Kernel9Ideal.Product.reference_eq _ _ _ _).trans ?_), (h c).2⟩
    rw [h0, h1]

/-! ## The gradient of the queries' product cq @ mla_w_uq, its columns packed to 1024, in cq -/

/-- The kernel runs whole and leaves its arguments alone. -/
theorem frame_kernel10 : Cert.quiescent_Kernel10 := fun m ρ _ => Cert.Kernel10.Gen.frame (F := Bits) m ρ

/-- So does the ideal kernel. -/
theorem frame_ideal10 : Cert.quiescent_Kernel10Ideal := fun m ρ _ => Cert.Kernel10Ideal.Gen.frame (F := Ideal) m ρ

/-- So does the reference. -/
theorem frame_reference10 : Cert.quiescent_Reference10Ideal := fun m ρ _ =>
  (θ_run Cert.Reference10Ideal.defs _ _).mono (fun _ h => ⟨fun c => (h c).2, sem_eq_zero_of_no_sems rfl _⟩) (Cert.Reference10Ideal.Value.run (F := Ideal) m ρ)

/-- The kernel's product is the reference's. -/
theorem value10 : Cert.algebraic_Kernel10Ideal_Reference10Ideal := by
  intro m ρ m' ρ' _ hagree
  refine ⟨fun c => Cert.Kernel10Ideal.Product.product (Cert.Kernel10Ideal.Product.argA m c) (Cert.Kernel10Ideal.Product.argB m c), ?_, ?_⟩
  · refine (θ_run Cert.Kernel10Ideal.defs _ _).mono (fun r h c => ?_)
      (θ_run_and (Cert.Kernel10Ideal.Gen.run_main m ρ) (Cert.Kernel10Ideal.Gen.unchanged m ρ))
    exact ⟨(h.1.out_eq c 2).trans (Cert.Kernel10Ideal.Product.array_eq m c), h.2 c⟩
  · refine (θ_run Cert.Reference10Ideal.defs _ _).mono (fun r h c => ?_) (Cert.Reference10Ideal.Value.run m' ρ')
    obtain ⟨h0, h1⟩ := hagree c
    refine ⟨(h c).1.trans ((Cert.Kernel10Ideal.Product.reference_eq _ _ _).trans ?_), (h c).2⟩
    rw [h0, h1]

/-! ## The gradient of the queries' product cq @ mla_w_uq, its columns packed to 1024, in mla_w_uq -/

/-- The kernel runs whole and leaves its arguments alone. -/
theorem frame_kernel11 : Cert.quiescent_Kernel11 := fun m ρ _ => Cert.Kernel11.Gen.frame (F := Bits) m ρ

/-- So does the ideal kernel. -/
theorem frame_ideal11 : Cert.quiescent_Kernel11Ideal := fun m ρ _ => Cert.Kernel11Ideal.Gen.frame (F := Ideal) m ρ

/-- So does the reference. -/
theorem frame_reference11 : Cert.quiescent_Reference11Ideal := fun m ρ _ =>
  (θ_run Cert.Reference11Ideal.defs _ _).mono (fun _ h => ⟨fun c => (h c).2, sem_eq_zero_of_no_sems rfl _⟩) (Cert.Reference11Ideal.Value.run (F := Ideal) m ρ)

/-- The kernel's product is the reference's. -/
theorem value11 : Cert.algebraic_Kernel11Ideal_Reference11Ideal := by
  intro m ρ m' ρ' _ hagree
  refine ⟨fun c => Cert.Kernel11Ideal.Product.product (Cert.Kernel11Ideal.Product.argA m c) (Cert.Kernel11Ideal.Product.argB m c), ?_, ?_⟩
  · refine (θ_run Cert.Kernel11Ideal.defs _ _).mono (fun r h c => ?_)
      (θ_run_and (Cert.Kernel11Ideal.Gen.run_main m ρ) (Cert.Kernel11Ideal.Gen.unchanged m ρ))
    exact ⟨(h.1.out_eq c 2).trans (Cert.Kernel11Ideal.Product.array_eq m c), h.2 c⟩
  · refine (θ_run Cert.Reference11Ideal.defs _ _).mono (fun r h c => ?_) (Cert.Reference11Ideal.Value.run m' ρ')
    obtain ⟨h0, h1⟩ := hagree c
    refine ⟨(h c).1.trans ((Cert.Kernel11Ideal.Product.reference_eq _ _ _).trans ?_), (h c).2⟩
    rw [h0, h1]

/-! ## The gradient of the keys' and values' product ckv @ mla_w_ukv in ckv -/

/-- The kernel runs whole and leaves its arguments alone. -/
theorem frame_kernel12 : Cert.quiescent_Kernel12 := fun m ρ _ => Cert.Kernel12.Gen.frame (F := Bits) m ρ

/-- So does the ideal kernel. -/
theorem frame_ideal12 : Cert.quiescent_Kernel12Ideal := fun m ρ _ => Cert.Kernel12Ideal.Gen.frame (F := Ideal) m ρ

/-- So does the reference. -/
theorem frame_reference12 : Cert.quiescent_Reference12Ideal := fun m ρ _ =>
  (θ_run Cert.Reference12Ideal.defs _ _).mono (fun _ h => ⟨fun c => (h c).2, sem_eq_zero_of_no_sems rfl _⟩) (Cert.Reference12Ideal.Value.run (F := Ideal) m ρ)

/-- The kernel's product is the reference's. -/
theorem value12 : Cert.algebraic_Kernel12Ideal_Reference12Ideal := by
  intro m ρ m' ρ' _ hagree
  refine ⟨fun c => Cert.Kernel12Ideal.Product.product (Cert.Kernel12Ideal.Product.argA m c) (Cert.Kernel12Ideal.Product.argB m c), ?_, ?_⟩
  · refine (θ_run Cert.Kernel12Ideal.defs _ _).mono (fun r h c => ?_)
      (θ_run_and (Cert.Kernel12Ideal.Gen.run_main m ρ) (Cert.Kernel12Ideal.Gen.unchanged m ρ))
    exact ⟨(h.1.out_eq c 2).trans (Cert.Kernel12Ideal.Product.array_eq m c), h.2 c⟩
  · refine (θ_run Cert.Reference12Ideal.defs _ _).mono (fun r h c => ?_) (Cert.Reference12Ideal.Value.run m' ρ')
    obtain ⟨h0, h1⟩ := hagree c
    refine ⟨(h c).1.trans ((Cert.Kernel12Ideal.Product.reference_eq _ _ _).trans ?_), (h c).2⟩
    rw [h0, h1]

/-! ## The gradient of the keys' and values' product ckv @ mla_w_ukv in mla_w_ukv -/

/-- The kernel runs whole and leaves its arguments alone. -/
theorem frame_kernel13 : Cert.quiescent_Kernel13 := fun m ρ _ => Cert.Kernel13.Gen.frame (F := Bits) m ρ

/-- So does the ideal kernel. -/
theorem frame_ideal13 : Cert.quiescent_Kernel13Ideal := fun m ρ _ => Cert.Kernel13Ideal.Gen.frame (F := Ideal) m ρ

/-- So does the reference. -/
theorem frame_reference13 : Cert.quiescent_Reference13Ideal := fun m ρ _ =>
  (θ_run Cert.Reference13Ideal.defs _ _).mono (fun _ h => ⟨fun c => (h c).2, sem_eq_zero_of_no_sems rfl _⟩) (Cert.Reference13Ideal.Value.run (F := Ideal) m ρ)

/-- The kernel's product is the reference's. -/
theorem value13 : Cert.algebraic_Kernel13Ideal_Reference13Ideal := by
  intro m ρ m' ρ' _ hagree
  refine ⟨fun c => Cert.Kernel13Ideal.Product.product (Cert.Kernel13Ideal.Product.argA m c) (Cert.Kernel13Ideal.Product.argB m c), ?_, ?_⟩
  · refine (θ_run Cert.Kernel13Ideal.defs _ _).mono (fun r h c => ?_)
      (θ_run_and (Cert.Kernel13Ideal.Gen.run_main m ρ) (Cert.Kernel13Ideal.Gen.unchanged m ρ))
    exact ⟨(h.1.out_eq c 2).trans (Cert.Kernel13Ideal.Product.array_eq m c), h.2 c⟩
  · refine (θ_run Cert.Reference13Ideal.defs _ _).mono (fun r h c => ?_) (Cert.Reference13Ideal.Value.run m' ρ')
    obtain ⟨h0, h1⟩ := hagree c
    refine ⟨(h c).1.trans ((Cert.Kernel13Ideal.Product.reference_eq _ _ _).trans ?_), (h c).2⟩
    rw [h0, h1]

/-! ## The second feed-forward's first product -/

/-- The kernel runs whole and leaves its arguments alone. -/
theorem frame_kernel14 : Cert.quiescent_Kernel14 := fun m ρ _ => Cert.Kernel14.Gen.frame (F := Bits) m ρ

/-- So does the ideal kernel. -/
theorem frame_ideal14 : Cert.quiescent_Kernel14Ideal := fun m ρ _ => Cert.Kernel14Ideal.Gen.frame (F := Ideal) m ρ

/-- So does the reference. -/
theorem frame_reference14 : Cert.quiescent_Reference14Ideal := fun m ρ _ =>
  (θ_run Cert.Reference14Ideal.defs _ _).mono (fun _ h => ⟨fun c => (h c).2, sem_eq_zero_of_no_sems rfl _⟩) (Cert.Reference14Ideal.Value.run (F := Ideal) m ρ)

/-- The kernel's product is the reference's. -/
theorem value14 : Cert.algebraic_Kernel14Ideal_Reference14Ideal := by
  intro m ρ m' ρ' _ hagree
  refine ⟨fun c => Cert.Kernel14Ideal.Product.product (Cert.Kernel14Ideal.Product.argA m c) (Cert.Kernel14Ideal.Product.argB m c), ?_, ?_⟩
  · refine (θ_run Cert.Kernel14Ideal.defs _ _).mono (fun r h c => ?_)
      (θ_run_and (Cert.Kernel14Ideal.Gen.run_main m ρ) (Cert.Kernel14Ideal.Gen.unchanged m ρ))
    exact ⟨(h.1.out_eq c 2).trans (Cert.Kernel14Ideal.Product.array_eq m c), h.2 c⟩
  · refine (θ_run Cert.Reference14Ideal.defs _ _).mono (fun r h c => ?_) (Cert.Reference14Ideal.Value.run m' ρ')
    obtain ⟨h0, h1⟩ := hagree c
    refine ⟨(h c).1.trans ((Cert.Kernel14Ideal.Product.reference_eq _ _ _).trans ?_), (h c).2⟩
    rw [h0, h1]

/-! ## The second feed-forward's second product -/

/-- The kernel runs whole and leaves its arguments alone. -/
theorem frame_kernel15 : Cert.quiescent_Kernel15 := fun m ρ _ => Cert.Kernel15.Gen.frame (F := Bits) m ρ

/-- So does the ideal kernel. -/
theorem frame_ideal15 : Cert.quiescent_Kernel15Ideal := fun m ρ _ => Cert.Kernel15Ideal.Gen.frame (F := Ideal) m ρ

/-- So does the reference. -/
theorem frame_reference15 : Cert.quiescent_Reference15Ideal := fun m ρ _ =>
  (θ_run Cert.Reference15Ideal.defs _ _).mono (fun _ h => ⟨fun c => (h c).2, sem_eq_zero_of_no_sems rfl _⟩) (Cert.Reference15Ideal.Value.run (F := Ideal) m ρ)

/-- The kernel's product is the reference's. -/
theorem value15 : Cert.algebraic_Kernel15Ideal_Reference15Ideal := by
  intro m ρ m' ρ' _ hagree
  refine ⟨fun c => Cert.Kernel15Ideal.Product.product (Cert.Kernel15Ideal.Product.argA m c) (Cert.Kernel15Ideal.Product.argB m c), ?_, ?_⟩
  · refine (θ_run Cert.Kernel15Ideal.defs _ _).mono (fun r h c => ?_)
      (θ_run_and (Cert.Kernel15Ideal.Gen.run_main m ρ) (Cert.Kernel15Ideal.Gen.unchanged m ρ))
    exact ⟨(h.1.out_eq c 2).trans (Cert.Kernel15Ideal.Product.array_eq m c), h.2 c⟩
  · refine (θ_run Cert.Reference15Ideal.defs _ _).mono (fun r h c => ?_) (Cert.Reference15Ideal.Value.run m' ρ')
    obtain ⟨h0, h1⟩ := hagree c
    refine ⟨(h c).1.trans ((Cert.Kernel15Ideal.Product.reference_eq _ _).trans ?_), (h c).2⟩
    rw [h0, h1]

/-! ## The queries' product, its columns packed to 1024 -/

/-- The kernel runs whole and leaves its arguments alone. -/
theorem frame_kernel16 : Cert.quiescent_Kernel16 := fun m ρ _ => Cert.Kernel16.Gen.frame (F := Bits) m ρ

/-- So does the ideal kernel. -/
theorem frame_ideal16 : Cert.quiescent_Kernel16Ideal := fun m ρ _ => Cert.Kernel16Ideal.Gen.frame (F := Ideal) m ρ

/-- So does the reference. -/
theorem frame_reference16 : Cert.quiescent_Reference16Ideal := fun m ρ _ =>
  (θ_run Cert.Reference16Ideal.defs _ _).mono (fun _ h => ⟨fun c => (h c).2, sem_eq_zero_of_no_sems rfl _⟩) (Cert.Reference16Ideal.Value.run (F := Ideal) m ρ)

/-- The kernel's product is the reference's. -/
theorem value16 : Cert.algebraic_Kernel16Ideal_Reference16Ideal := by
  intro m ρ m' ρ' _ hagree
  refine ⟨fun c => Cert.Kernel16Ideal.Product.product (Cert.Kernel16Ideal.Product.argA m c) (Cert.Kernel16Ideal.Product.argB m c), ?_, ?_⟩
  · refine (θ_run Cert.Kernel16Ideal.defs _ _).mono (fun r h c => ?_)
      (θ_run_and (Cert.Kernel16Ideal.Gen.run_main m ρ) (Cert.Kernel16Ideal.Gen.unchanged m ρ))
    exact ⟨(h.1.out_eq c 2).trans (Cert.Kernel16Ideal.Product.array_eq m c), h.2 c⟩
  · refine (θ_run Cert.Reference16Ideal.defs _ _).mono (fun r h c => ?_) (Cert.Reference16Ideal.Value.run m' ρ')
    obtain ⟨h0, h1⟩ := hagree c
    refine ⟨(h c).1.trans ((Cert.Kernel16Ideal.Product.reference_eq _ _).trans ?_), (h c).2⟩
    rw [h0, h1]

/-! ## The keys' and values' product -/

/-- The kernel runs whole and leaves its arguments alone. -/
theorem frame_kernel17 : Cert.quiescent_Kernel17 := fun m ρ _ => Cert.Kernel17.Gen.frame (F := Bits) m ρ

/-- So does the ideal kernel. -/
theorem frame_ideal17 : Cert.quiescent_Kernel17Ideal := fun m ρ _ => Cert.Kernel17Ideal.Gen.frame (F := Ideal) m ρ

/-- So does the reference. -/
theorem frame_reference17 : Cert.quiescent_Reference17Ideal := fun m ρ _ =>
  (θ_run Cert.Reference17Ideal.defs _ _).mono (fun _ h => ⟨fun c => (h c).2, sem_eq_zero_of_no_sems rfl _⟩) (Cert.Reference17Ideal.Value.run (F := Ideal) m ρ)

/-- The kernel's product is the reference's. -/
theorem value17 : Cert.algebraic_Kernel17Ideal_Reference17Ideal := by
  intro m ρ m' ρ' _ hagree
  refine ⟨fun c => Cert.Kernel17Ideal.Product.product (Cert.Kernel17Ideal.Product.argA m c) (Cert.Kernel17Ideal.Product.argB m c), ?_, ?_⟩
  · refine (θ_run Cert.Kernel17Ideal.defs _ _).mono (fun r h c => ?_)
      (θ_run_and (Cert.Kernel17Ideal.Gen.run_main m ρ) (Cert.Kernel17Ideal.Gen.unchanged m ρ))
    exact ⟨(h.1.out_eq c 2).trans (Cert.Kernel17Ideal.Product.array_eq m c), h.2 c⟩
  · refine (θ_run Cert.Reference17Ideal.defs _ _).mono (fun r h c => ?_) (Cert.Reference17Ideal.Value.run m' ρ')
    obtain ⟨h0, h1⟩ := hagree c
    refine ⟨(h c).1.trans ((Cert.Kernel17Ideal.Product.reference_eq _ _).trans ?_), (h c).2⟩
    rw [h0, h1]

/-! ## The mixer's product -/

/-- The kernel runs whole and leaves its arguments alone. -/
theorem frame_kernel18 : Cert.quiescent_Kernel18 := fun m ρ _ => Cert.Kernel18.Gen.frame (F := Bits) m ρ

/-- So does the ideal kernel. -/
theorem frame_ideal18 : Cert.quiescent_Kernel18Ideal := fun m ρ _ => Cert.Kernel18Ideal.Gen.frame (F := Ideal) m ρ

/-- So does the reference. -/
theorem frame_reference18 : Cert.quiescent_Reference18Ideal := fun m ρ _ =>
  (θ_run Cert.Reference18Ideal.defs _ _).mono (fun _ h => ⟨fun c => (h c).2, sem_eq_zero_of_no_sems rfl _⟩) (Cert.Reference18Ideal.Value.run (F := Ideal) m ρ)

/-- The kernel's product is the reference's. -/
theorem value18 : Cert.algebraic_Kernel18Ideal_Reference18Ideal := by
  intro m ρ m' ρ' _ hagree
  refine ⟨fun c => Cert.Kernel18Ideal.Product.product (Cert.Kernel18Ideal.Product.argA m c) (Cert.Kernel18Ideal.Product.argB m c), ?_, ?_⟩
  · refine (θ_run Cert.Kernel18Ideal.defs _ _).mono (fun r h c => ?_)
      (θ_run_and (Cert.Kernel18Ideal.Gen.run_main m ρ) (Cert.Kernel18Ideal.Gen.unchanged m ρ))
    exact ⟨(h.1.out_eq c 2).trans (Cert.Kernel18Ideal.Product.array_eq m c), h.2 c⟩
  · refine (θ_run Cert.Reference18Ideal.defs _ _).mono (fun r h c => ?_) (Cert.Reference18Ideal.Value.run m' ρ')
    obtain ⟨h0, h1⟩ := hagree c
    refine ⟨(h c).1.trans ((Cert.Kernel18Ideal.Product.reference_eq _ _).trans ?_), (h c).2⟩
    rw [h0, h1]

/-! ## The AdamW step of the modulation's weight -/

/-- The kernel runs whole and leaves its arguments alone. -/
theorem frame_kernel19 : Cert.quiescent_Kernel19 := fun m ρ _ => Cert.Kernel19.Gen.frame (F := Bits) m ρ

/-- So does the ideal kernel. -/
theorem frame_ideal19 : Cert.quiescent_Kernel19Ideal := fun m ρ _ => Cert.Kernel19Ideal.Gen.frame (F := Ideal) m ρ

/-- So does the reference. -/
theorem frame_reference19 : Cert.quiescent_Reference19Ideal := fun m ρ _ =>
  (θ_run Cert.Reference19Ideal.defs _ _).mono (fun _ h => ⟨fun c => (h c).2.2.2, sem_eq_zero_of_no_sems rfl _⟩) (Cert.Reference19Ideal.Value.run (F := Ideal) m ρ)

/-- The kernel's step and its two moments are the reference's. -/
theorem value19 : Cert.algebraic_Kernel19Ideal_Reference19Ideal := by
  intro m ρ m' ρ' _ hagree
  refine ⟨fun c => Cert.Kernel19Ideal.Value.G4 (m ((c.tc : Thread _ _).loc Cert.Kernel19Ideal.main_arg1)) (m ((c.tc : Thread _ _).loc Cert.Kernel19Ideal.main_arg2)) (m ((c.tc : Thread _ _).loc Cert.Kernel19Ideal.main_arg3)) (m ((c.tc : Thread _ _).loc Cert.Kernel19Ideal.main_arg0)),
    fun c => Cert.Kernel19Ideal.Value.G5 (m ((c.tc : Thread _ _).loc Cert.Kernel19Ideal.main_arg1)) (m ((c.tc : Thread _ _).loc Cert.Kernel19Ideal.main_arg2)),
    fun c => Cert.Kernel19Ideal.Value.G6 (m ((c.tc : Thread _ _).loc Cert.Kernel19Ideal.main_arg1)) (m ((c.tc : Thread _ _).loc Cert.Kernel19Ideal.main_arg3)), ?_, ?_⟩
  · exact Cert.Kernel19Ideal.Value.run m ρ
  · refine (θ_run Cert.Reference19Ideal.defs _ _).mono (fun r h c => ?_) (Cert.Reference19Ideal.Value.run m' ρ')
    obtain ⟨h0, h1, h2, h3⟩ := hagree c
    refine ⟨(h c).1.trans ?_, (h c).2.1.trans ?_, (h c).2.2.1.trans ?_, (h c).2.2.2⟩
    · rw [h0, h1, h2, h3]; rfl
    · rw [h1, h2]; rfl
    · rw [h1, h3]; rfl

/-! ## The AdamW step of a feed-forward's first weight -/

/-- The kernel runs whole and leaves its arguments alone. -/
theorem frame_kernel20 : Cert.quiescent_Kernel20 := fun m ρ _ => Cert.Kernel20.Gen.frame (F := Bits) m ρ

/-- So does the ideal kernel. -/
theorem frame_ideal20 : Cert.quiescent_Kernel20Ideal := fun m ρ _ => Cert.Kernel20Ideal.Gen.frame (F := Ideal) m ρ

/-- So does the reference. -/
theorem frame_reference20 : Cert.quiescent_Reference20Ideal := fun m ρ _ =>
  (θ_run Cert.Reference20Ideal.defs _ _).mono (fun _ h => ⟨fun c => (h c).2.2.2, sem_eq_zero_of_no_sems rfl _⟩) (Cert.Reference20Ideal.Value.run (F := Ideal) m ρ)

/-- The kernel's step and its two moments are the reference's. -/
theorem value20 : Cert.algebraic_Kernel20Ideal_Reference20Ideal := by
  intro m ρ m' ρ' _ hagree
  refine ⟨fun c => Cert.Kernel20Ideal.Value.G4 (m ((c.tc : Thread _ _).loc Cert.Kernel20Ideal.main_arg1)) (m ((c.tc : Thread _ _).loc Cert.Kernel20Ideal.main_arg2)) (m ((c.tc : Thread _ _).loc Cert.Kernel20Ideal.main_arg3)) (m ((c.tc : Thread _ _).loc Cert.Kernel20Ideal.main_arg0)),
    fun c => Cert.Kernel20Ideal.Value.G5 (m ((c.tc : Thread _ _).loc Cert.Kernel20Ideal.main_arg1)) (m ((c.tc : Thread _ _).loc Cert.Kernel20Ideal.main_arg2)),
    fun c => Cert.Kernel20Ideal.Value.G6 (m ((c.tc : Thread _ _).loc Cert.Kernel20Ideal.main_arg1)) (m ((c.tc : Thread _ _).loc Cert.Kernel20Ideal.main_arg3)), ?_, ?_⟩
  · exact Cert.Kernel20Ideal.Value.run m ρ
  · refine (θ_run Cert.Reference20Ideal.defs _ _).mono (fun r h c => ?_) (Cert.Reference20Ideal.Value.run m' ρ')
    obtain ⟨h0, h1, h2, h3⟩ := hagree c
    refine ⟨(h c).1.trans ?_, (h c).2.1.trans ?_, (h c).2.2.1.trans ?_, (h c).2.2.2⟩
    · rw [h0, h1, h2, h3]; rfl
    · rw [h1, h2]; rfl
    · rw [h1, h3]; rfl

/-! ## The AdamW step of a feed-forward's second weight -/

/-- The kernel runs whole and leaves its arguments alone. -/
theorem frame_kernel21 : Cert.quiescent_Kernel21 := fun m ρ _ => Cert.Kernel21.Gen.frame (F := Bits) m ρ

/-- So does the ideal kernel. -/
theorem frame_ideal21 : Cert.quiescent_Kernel21Ideal := fun m ρ _ => Cert.Kernel21Ideal.Gen.frame (F := Ideal) m ρ

/-- So does the reference. -/
theorem frame_reference21 : Cert.quiescent_Reference21Ideal := fun m ρ _ =>
  (θ_run Cert.Reference21Ideal.defs _ _).mono (fun _ h => ⟨fun c => (h c).2.2.2, sem_eq_zero_of_no_sems rfl _⟩) (Cert.Reference21Ideal.Value.run (F := Ideal) m ρ)

/-- The kernel's step and its two moments are the reference's. -/
theorem value21 : Cert.algebraic_Kernel21Ideal_Reference21Ideal := by
  intro m ρ m' ρ' _ hagree
  refine ⟨fun c => Cert.Kernel21Ideal.Value.G4 (m ((c.tc : Thread _ _).loc Cert.Kernel21Ideal.main_arg1)) (m ((c.tc : Thread _ _).loc Cert.Kernel21Ideal.main_arg2)) (m ((c.tc : Thread _ _).loc Cert.Kernel21Ideal.main_arg3)) (m ((c.tc : Thread _ _).loc Cert.Kernel21Ideal.main_arg0)),
    fun c => Cert.Kernel21Ideal.Value.G5 (m ((c.tc : Thread _ _).loc Cert.Kernel21Ideal.main_arg1)) (m ((c.tc : Thread _ _).loc Cert.Kernel21Ideal.main_arg2)),
    fun c => Cert.Kernel21Ideal.Value.G6 (m ((c.tc : Thread _ _).loc Cert.Kernel21Ideal.main_arg1)) (m ((c.tc : Thread _ _).loc Cert.Kernel21Ideal.main_arg3)), ?_, ?_⟩
  · exact Cert.Kernel21Ideal.Value.run m ρ
  · refine (θ_run Cert.Reference21Ideal.defs _ _).mono (fun r h c => ?_) (Cert.Reference21Ideal.Value.run m' ρ')
    obtain ⟨h0, h1, h2, h3⟩ := hagree c
    refine ⟨(h c).1.trans ?_, (h c).2.1.trans ?_, (h c).2.2.1.trans ?_, (h c).2.2.2⟩
    · rw [h0, h1, h2, h3]; rfl
    · rw [h1, h2]; rfl
    · rw [h1, h3]; rfl

/-! ## The AdamW step of the mixer's input weight -/

/-- The kernel runs whole and leaves its arguments alone. -/
theorem frame_kernel22 : Cert.quiescent_Kernel22 := fun m ρ _ => Cert.Kernel22.Gen.frame (F := Bits) m ρ

/-- So does the ideal kernel. -/
theorem frame_ideal22 : Cert.quiescent_Kernel22Ideal := fun m ρ _ => Cert.Kernel22Ideal.Gen.frame (F := Ideal) m ρ

/-- So does the reference. -/
theorem frame_reference22 : Cert.quiescent_Reference22Ideal := fun m ρ _ =>
  (θ_run Cert.Reference22Ideal.defs _ _).mono (fun _ h => ⟨fun c => (h c).2.2.2, sem_eq_zero_of_no_sems rfl _⟩) (Cert.Reference22Ideal.Value.run (F := Ideal) m ρ)

/-- The kernel's step and its two moments are the reference's. -/
theorem value22 : Cert.algebraic_Kernel22Ideal_Reference22Ideal := by
  intro m ρ m' ρ' _ hagree
  refine ⟨fun c => Cert.Kernel22Ideal.Value.G4 (m ((c.tc : Thread _ _).loc Cert.Kernel22Ideal.main_arg1)) (m ((c.tc : Thread _ _).loc Cert.Kernel22Ideal.main_arg2)) (m ((c.tc : Thread _ _).loc Cert.Kernel22Ideal.main_arg3)) (m ((c.tc : Thread _ _).loc Cert.Kernel22Ideal.main_arg0)),
    fun c => Cert.Kernel22Ideal.Value.G5 (m ((c.tc : Thread _ _).loc Cert.Kernel22Ideal.main_arg1)) (m ((c.tc : Thread _ _).loc Cert.Kernel22Ideal.main_arg2)),
    fun c => Cert.Kernel22Ideal.Value.G6 (m ((c.tc : Thread _ _).loc Cert.Kernel22Ideal.main_arg1)) (m ((c.tc : Thread _ _).loc Cert.Kernel22Ideal.main_arg3)), ?_, ?_⟩
  · exact Cert.Kernel22Ideal.Value.run m ρ
  · refine (θ_run Cert.Reference22Ideal.defs _ _).mono (fun r h c => ?_) (Cert.Reference22Ideal.Value.run m' ρ')
    obtain ⟨h0, h1, h2, h3⟩ := hagree c
    refine ⟨(h c).1.trans ?_, (h c).2.1.trans ?_, (h c).2.2.1.trans ?_, (h c).2.2.2⟩
    · rw [h0, h1, h2, h3]; rfl
    · rw [h1, h2]; rfl
    · rw [h1, h3]; rfl

/-! ## The AdamW step of the queries' weight -/

/-- The kernel runs whole and leaves its arguments alone. -/
theorem frame_kernel23 : Cert.quiescent_Kernel23 := fun m ρ _ => Cert.Kernel23.Gen.frame (F := Bits) m ρ

/-- So does the ideal kernel. -/
theorem frame_ideal23 : Cert.quiescent_Kernel23Ideal := fun m ρ _ => Cert.Kernel23Ideal.Gen.frame (F := Ideal) m ρ

/-- So does the reference. -/
theorem frame_reference23 : Cert.quiescent_Reference23Ideal := fun m ρ _ =>
  (θ_run Cert.Reference23Ideal.defs _ _).mono (fun _ h => ⟨fun c => (h c).2.2.2, sem_eq_zero_of_no_sems rfl _⟩) (Cert.Reference23Ideal.Value.run (F := Ideal) m ρ)

/-- The kernel's step and its two moments are the reference's. -/
theorem value23 : Cert.algebraic_Kernel23Ideal_Reference23Ideal := by
  intro m ρ m' ρ' _ hagree
  refine ⟨fun c => Cert.Kernel23Ideal.Value.G4 (m ((c.tc : Thread _ _).loc Cert.Kernel23Ideal.main_arg1)) (m ((c.tc : Thread _ _).loc Cert.Kernel23Ideal.main_arg2)) (m ((c.tc : Thread _ _).loc Cert.Kernel23Ideal.main_arg3)) (m ((c.tc : Thread _ _).loc Cert.Kernel23Ideal.main_arg0)),
    fun c => Cert.Kernel23Ideal.Value.G5 (m ((c.tc : Thread _ _).loc Cert.Kernel23Ideal.main_arg1)) (m ((c.tc : Thread _ _).loc Cert.Kernel23Ideal.main_arg2)),
    fun c => Cert.Kernel23Ideal.Value.G6 (m ((c.tc : Thread _ _).loc Cert.Kernel23Ideal.main_arg1)) (m ((c.tc : Thread _ _).loc Cert.Kernel23Ideal.main_arg3)), ?_, ?_⟩
  · exact Cert.Kernel23Ideal.Value.run m ρ
  · refine (θ_run Cert.Reference23Ideal.defs _ _).mono (fun r h c => ?_) (Cert.Reference23Ideal.Value.run m' ρ')
    obtain ⟨h0, h1, h2, h3⟩ := hagree c
    refine ⟨(h c).1.trans ?_, (h c).2.1.trans ?_, (h c).2.2.1.trans ?_, (h c).2.2.2⟩
    · rw [h0, h1, h2, h3]; rfl
    · rw [h1, h2]; rfl
    · rw [h1, h3]; rfl

/-! ## The AdamW step of the keys' and values' weight -/

/-- The kernel runs whole and leaves its arguments alone. -/
theorem frame_kernel24 : Cert.quiescent_Kernel24 := fun m ρ _ => Cert.Kernel24.Gen.frame (F := Bits) m ρ

/-- So does the ideal kernel. -/
theorem frame_ideal24 : Cert.quiescent_Kernel24Ideal := fun m ρ _ => Cert.Kernel24Ideal.Gen.frame (F := Ideal) m ρ

/-- So does the reference. -/
theorem frame_reference24 : Cert.quiescent_Reference24Ideal := fun m ρ _ =>
  (θ_run Cert.Reference24Ideal.defs _ _).mono (fun _ h => ⟨fun c => (h c).2.2.2, sem_eq_zero_of_no_sems rfl _⟩) (Cert.Reference24Ideal.Value.run (F := Ideal) m ρ)

/-- The kernel's step and its two moments are the reference's. -/
theorem value24 : Cert.algebraic_Kernel24Ideal_Reference24Ideal := by
  intro m ρ m' ρ' _ hagree
  refine ⟨fun c => Cert.Kernel24Ideal.Value.G4 (m ((c.tc : Thread _ _).loc Cert.Kernel24Ideal.main_arg1)) (m ((c.tc : Thread _ _).loc Cert.Kernel24Ideal.main_arg2)) (m ((c.tc : Thread _ _).loc Cert.Kernel24Ideal.main_arg3)) (m ((c.tc : Thread _ _).loc Cert.Kernel24Ideal.main_arg0)),
    fun c => Cert.Kernel24Ideal.Value.G5 (m ((c.tc : Thread _ _).loc Cert.Kernel24Ideal.main_arg1)) (m ((c.tc : Thread _ _).loc Cert.Kernel24Ideal.main_arg2)),
    fun c => Cert.Kernel24Ideal.Value.G6 (m ((c.tc : Thread _ _).loc Cert.Kernel24Ideal.main_arg1)) (m ((c.tc : Thread _ _).loc Cert.Kernel24Ideal.main_arg3)), ?_, ?_⟩
  · exact Cert.Kernel24Ideal.Value.run m ρ
  · refine (θ_run Cert.Reference24Ideal.defs _ _).mono (fun r h c => ?_) (Cert.Reference24Ideal.Value.run m' ρ')
    obtain ⟨h0, h1, h2, h3⟩ := hagree c
    refine ⟨(h c).1.trans ?_, (h c).2.1.trans ?_, (h c).2.2.1.trans ?_, (h c).2.2.2⟩
    · rw [h0, h1, h2, h3]; rfl
    · rw [h1, h2]; rfl
    · rw [h1, h3]; rfl

/-! ## The AdamW step of the mixer's output weight -/

/-- The kernel runs whole and leaves its arguments alone. -/
theorem frame_kernel25 : Cert.quiescent_Kernel25 := fun m ρ _ => Cert.Kernel25.Gen.frame (F := Bits) m ρ

/-- So does the ideal kernel. -/
theorem frame_ideal25 : Cert.quiescent_Kernel25Ideal := fun m ρ _ => Cert.Kernel25Ideal.Gen.frame (F := Ideal) m ρ

/-- So does the reference. -/
theorem frame_reference25 : Cert.quiescent_Reference25Ideal := fun m ρ _ =>
  (θ_run Cert.Reference25Ideal.defs _ _).mono (fun _ h => ⟨fun c => (h c).2.2.2, sem_eq_zero_of_no_sems rfl _⟩) (Cert.Reference25Ideal.Value.run (F := Ideal) m ρ)

/-- The kernel's step and its two moments are the reference's. -/
theorem value25 : Cert.algebraic_Kernel25Ideal_Reference25Ideal := by
  intro m ρ m' ρ' _ hagree
  refine ⟨fun c => Cert.Kernel25Ideal.Value.G4 (m ((c.tc : Thread _ _).loc Cert.Kernel25Ideal.main_arg1)) (m ((c.tc : Thread _ _).loc Cert.Kernel25Ideal.main_arg2)) (m ((c.tc : Thread _ _).loc Cert.Kernel25Ideal.main_arg3)) (m ((c.tc : Thread _ _).loc Cert.Kernel25Ideal.main_arg0)),
    fun c => Cert.Kernel25Ideal.Value.G5 (m ((c.tc : Thread _ _).loc Cert.Kernel25Ideal.main_arg1)) (m ((c.tc : Thread _ _).loc Cert.Kernel25Ideal.main_arg2)),
    fun c => Cert.Kernel25Ideal.Value.G6 (m ((c.tc : Thread _ _).loc Cert.Kernel25Ideal.main_arg1)) (m ((c.tc : Thread _ _).loc Cert.Kernel25Ideal.main_arg3)), ?_, ?_⟩
  · exact Cert.Kernel25Ideal.Value.run m ρ
  · refine (θ_run Cert.Reference25Ideal.defs _ _).mono (fun r h c => ?_) (Cert.Reference25Ideal.Value.run m' ρ')
    obtain ⟨h0, h1, h2, h3⟩ := hagree c
    refine ⟨(h c).1.trans ?_, (h c).2.1.trans ?_, (h c).2.2.1.trans ?_, (h c).2.2.2⟩
    · rw [h0, h1, h2, h3]; rfl
    · rw [h1, h2]; rfl
    · rw [h1, h3]; rfl

/-! ## The gradient of the feed-forwards' gate -/

/-- The kernel runs whole and leaves its arguments alone. -/
theorem frame_kernel26 : Cert.quiescent_Kernel26 := fun m ρ _ => Cert.Kernel26.Gen.frame (F := Bits) m ρ

/-- So does the ideal kernel. -/
theorem frame_ideal26 : Cert.quiescent_Kernel26Ideal := fun m ρ _ => Cert.Kernel26Ideal.Gen.frame (F := Ideal) m ρ

/-- So does the reference. -/
theorem frame_reference26 : Cert.quiescent_Reference26Ideal := fun m ρ _ =>
  (θ_run Cert.Reference26Ideal.defs _ _).mono (fun _ h => ⟨fun c => (h c).2, sem_eq_zero_of_no_sems rfl _⟩) (Cert.Reference26Ideal.Value.run (F := Ideal) m ρ)

/-- The kernel's gradient is the reference's. -/
theorem value26 : Cert.algebraic_Kernel26Ideal_Reference26Ideal := by
  intro m ρ m' ρ' _ hagree
  refine ⟨fun c => Cert.Kernel26Ideal.Gate.gradient (Cert.Kernel26Ideal.Gate.argA m c) (Cert.Kernel26Ideal.Gate.argB m c), ?_, ?_⟩
  · exact (θ_run Cert.Kernel26Ideal.defs _ _).mono (fun r h c => ⟨(h.1.out_eq c 3).trans (Cert.Kernel26Ideal.Gate.array_eq m c), h.2 c⟩)
      (θ_run_and (Cert.Kernel26Ideal.Gen.run_main m ρ) (Cert.Kernel26Ideal.Gen.unchanged m ρ))
  · refine (θ_run Cert.Reference26Ideal.defs _ _).mono (fun r h c => ?_) (Cert.Reference26Ideal.Value.run m' ρ')
    obtain ⟨h0, h1⟩ := hagree c
    refine ⟨(h c).1.trans ?_, (h c).2⟩
    rw [h0, h1]
    rfl

/-! ## The feed-forwards' gate -/

/-- The kernel runs whole and leaves its arguments alone. -/
theorem frame_kernel27 : Cert.quiescent_Kernel27 := fun m ρ _ => Cert.Kernel27.Gen.frame (F := Bits) m ρ

/-- So does the ideal kernel. -/
theorem frame_ideal27 : Cert.quiescent_Kernel27Ideal := fun m ρ _ => Cert.Kernel27Ideal.Gen.frame (F := Ideal) m ρ

/-- So does the reference. -/
theorem frame_reference27 : Cert.quiescent_Reference27Ideal := fun m ρ _ =>
  (θ_run Cert.Reference27Ideal.defs _ _).mono (fun _ h => ⟨fun c => (h c).2, sem_eq_zero_of_no_sems rfl _⟩) (Cert.Reference27Ideal.Value.run (F := Ideal) m ρ)

/-- The kernel's gated array is the reference's. -/
theorem value27 : Cert.algebraic_Kernel27Ideal_Reference27Ideal := by
  intro m ρ m' ρ' _ hagree
  refine ⟨fun c => Cert.Kernel27Ideal.Gate.gated (Cert.Kernel27Ideal.Gate.argA m c), ?_, ?_⟩
  · exact (θ_run Cert.Kernel27Ideal.defs _ _).mono (fun r h c => ⟨(h.1.out_eq c 2).trans (Cert.Kernel27Ideal.Gate.array_eq m c), h.2 c⟩)
      (θ_run_and (Cert.Kernel27Ideal.Gen.run_main m ρ) (Cert.Kernel27Ideal.Gen.unchanged m ρ))
  · refine (θ_run Cert.Reference27Ideal.defs _ _).mono (fun r h c => ?_) (Cert.Reference27Ideal.Value.run m' ρ')
    have h0 := hagree c
    refine ⟨(h c).1.trans ?_, (h c).2⟩
    rw [h0]
    exact Cert.Kernel27Ideal.Gate.reference_eq _

/-! ## The AdamW step of the small weights, packed -/

/-- The kernel runs whole and leaves its arguments alone. -/
theorem frame_kernel28 : Cert.quiescent_Kernel28 := fun m ρ _ => Cert.Kernel28.Gen.frame (F := Bits) m ρ

/-- So does the ideal kernel. -/
theorem frame_ideal28 : Cert.quiescent_Kernel28Ideal := fun m ρ _ => Cert.Kernel28Ideal.Gen.frame (F := Ideal) m ρ

/-- So does the reference. -/
theorem frame_reference28 : Cert.quiescent_Reference28Ideal := fun m ρ _ =>
  (θ_run Cert.Reference28Ideal.defs _ _).mono (fun _ h => ⟨fun c => (h c).2.2.2, sem_eq_zero_of_no_sems rfl _⟩) (Cert.Reference28Ideal.Value.run (F := Ideal) m ρ)

/-- The kernel's step and its two moments are the reference's. -/
theorem value28 : Cert.algebraic_Kernel28Ideal_Reference28Ideal := by
  intro m ρ m' ρ' _ hagree
  refine ⟨fun c => Cert.Kernel28Ideal.Value.G4 (m ((c.tc : Thread _ _).loc Cert.Kernel28Ideal.main_arg1)) (m ((c.tc : Thread _ _).loc Cert.Kernel28Ideal.main_arg2)) (m ((c.tc : Thread _ _).loc Cert.Kernel28Ideal.main_arg3)) (m ((c.tc : Thread _ _).loc Cert.Kernel28Ideal.main_arg0)),
    fun c => Cert.Kernel28Ideal.Value.G5 (m ((c.tc : Thread _ _).loc Cert.Kernel28Ideal.main_arg1)) (m ((c.tc : Thread _ _).loc Cert.Kernel28Ideal.main_arg2)),
    fun c => Cert.Kernel28Ideal.Value.G6 (m ((c.tc : Thread _ _).loc Cert.Kernel28Ideal.main_arg1)) (m ((c.tc : Thread _ _).loc Cert.Kernel28Ideal.main_arg3)), ?_, ?_⟩
  · exact Cert.Kernel28Ideal.Value.run m ρ
  · refine (θ_run Cert.Reference28Ideal.defs _ _).mono (fun r h c => ?_) (Cert.Reference28Ideal.Value.run m' ρ')
    obtain ⟨h0, h1, h2, h3⟩ := hagree c
    refine ⟨(h c).1.trans ?_, (h c).2.1.trans ?_, (h c).2.2.1.trans ?_, (h c).2.2.2⟩
    · rw [h0, h1, h2, h3]; rfl
    · rw [h1, h2]; rfl
    · rw [h1, h3]; rfl

/-! ## The gradient of the modulation's weight -/

/-- The kernel runs whole and leaves its arguments alone. -/
theorem frame_kernel29 : Cert.quiescent_Kernel29 := fun m ρ _ => Cert.Kernel29.Gen.frame (F := Bits) m ρ

/-- So does the ideal kernel. -/
theorem frame_ideal29 : Cert.quiescent_Kernel29Ideal := fun m ρ _ => Cert.Kernel29Ideal.Gen.frame (F := Ideal) m ρ

/-- So does the reference. -/
theorem frame_reference29 : Cert.quiescent_Reference29Ideal := fun m ρ _ =>
  (θ_run Cert.Reference29Ideal.defs _ _).mono (fun _ h => ⟨fun c => (h c).2, sem_eq_zero_of_no_sems rfl _⟩) (Cert.Reference29Ideal.Value.run (F := Ideal) m ρ)

/-- The kernel's product is the reference's. -/
theorem value29 : Cert.algebraic_Kernel29Ideal_Reference29Ideal := by
  intro m ρ m' ρ' _ hagree
  refine ⟨fun c => Cert.Kernel29Ideal.Product.product (Cert.Kernel29Ideal.Product.argA m c) (Cert.Kernel29Ideal.Product.argB m c), ?_, ?_⟩
  · exact (θ_run Cert.Kernel29Ideal.defs _ _).mono (fun r h c => ⟨(h.1.out_eq c 2).trans (Cert.Kernel29Ideal.Product.array_eq m c), h.2 c⟩)
      (θ_run_and (Cert.Kernel29Ideal.Gen.run_main m ρ) (Cert.Kernel29Ideal.Gen.unchanged m ρ))
  · refine (θ_run Cert.Reference29Ideal.defs _ _).mono (fun r h c => ?_) (Cert.Reference29Ideal.Value.run m' ρ')
    obtain ⟨h0, h1⟩ := hagree c
    refine ⟨(h c).1.trans ?_, (h c).2⟩
    rw [h0, h1]
    exact Cert.Kernel29Ideal.Product.reference_eq _ _

/-! ## The sum of the devices' gradients of the small weights -/

/-- The kernel runs whole and leaves its arguments alone. -/
theorem frame_kernel30 : Cert.quiescent_Kernel30 := fun m ρ _ => Cert.Kernel30.Gen.frame (F := Bits) m ρ

/-- So does the ideal kernel. -/
theorem frame_ideal30 : Cert.quiescent_Kernel30Ideal := fun m ρ _ => Cert.Kernel30Ideal.Gen.frame (F := Ideal) m ρ

/-- So does the reference. -/
theorem frame_reference30 : Cert.quiescent_Reference30Ideal := fun m ρ _ =>
  (θ_run Cert.Reference30Ideal.defs _ _).mono (fun _ h => ⟨fun c => (h c).2, sem_eq_zero_of_no_sems rfl _⟩) (Cert.Reference30Ideal.Value.run (F := Ideal) m ρ)

/-- The kernel's sum is the reference's. -/
theorem value30 : Cert.algebraic_Kernel30Ideal_Reference30Ideal := by
  intro m ρ m' ρ' _ hagree
  refine ⟨fun c => Cert.Kernel30Ideal.Value.G1 (m ((c.tc : Thread _ _).loc Cert.Kernel30Ideal.main_arg0)), ?_, ?_⟩
  · exact Cert.Kernel30Ideal.Value.run m ρ
  · refine (θ_run Cert.Reference30Ideal.defs _ _).mono (fun r h c => ?_) (Cert.Reference30Ideal.Value.run m' ρ')
    have h0 := hagree c
    refine ⟨(h c).1.trans ?_, (h c).2⟩
    rw [h0]
    exact (Cert.Kernel30Ideal.Total.total_eq _).symm

/-! ## The loss and its gradient -/

/-- The kernel runs whole and leaves its arguments alone. -/
theorem frame_kernel31 : Cert.quiescent_Kernel31 := fun m ρ _ => Cert.Kernel31.Gen.frame (F := Bits) m ρ

/-- So does the ideal kernel. -/
theorem frame_ideal31 : Cert.quiescent_Kernel31Ideal := fun m ρ _ => Cert.Kernel31Ideal.Gen.frame (F := Ideal) m ρ

/-- So does the reference. -/
theorem frame_reference31 : Cert.quiescent_Reference31Ideal := fun m ρ _ =>
  (θ_run Cert.Reference31Ideal.defs _ _).mono (fun _ h => ⟨fun c => (h c).2.2, sem_eq_zero_of_no_sems rfl _⟩) (Cert.Reference31Ideal.Value.run (F := Ideal) m ρ)

/-- The kernel's gradient and loss are the reference's. -/
theorem value31 : Cert.algebraic_Kernel31Ideal_Reference31Ideal := by
  intro m ρ m' ρ' _ hagree
  refine ⟨fun c => Cert.Kernel31Ideal.Loss.slope (Cert.Kernel31Ideal.Loss.argA m c) (Cert.Kernel31Ideal.Loss.argB m c),
    fun c => Cert.Kernel31Ideal.Loss.total (Cert.Kernel31Ideal.Loss.argA m c) (Cert.Kernel31Ideal.Loss.argB m c), ?_, ?_⟩
  · exact (θ_run Cert.Kernel31Ideal.defs _ _).mono (fun r h c => ⟨(h.1.out_eq c 2).trans (Cert.Kernel31Ideal.Loss.slope_eq m c), (h.1.out_eq c 3).trans (Cert.Kernel31Ideal.Loss.total_eq m c), h.2 c⟩)
      (θ_run_and (Cert.Kernel31Ideal.Gen.run_main m ρ) (Cert.Kernel31Ideal.Gen.unchanged m ρ))
  · refine (θ_run Cert.Reference31Ideal.defs _ _).mono (fun r h c => ?_) (Cert.Reference31Ideal.Value.run m' ρ')
    obtain ⟨h0, h1⟩ := hagree c
    refine ⟨(h c).1.trans ?_, (h c).2.1.trans ?_, (h c).2.2⟩
    · rw [h0, h1]
      exact Cert.Kernel31Ideal.Loss.slope_reference _ _
    · rw [h0, h1]
      exact Cert.Kernel31Ideal.Loss.total_reference _ _

/-! ## The gradient through a feed-forward's norm and modulation -/

/-- The kernel runs whole and leaves its arguments alone. -/
theorem frame_kernel32 : Cert.quiescent_Kernel32 := fun m ρ _ => Cert.Kernel32.Gen.frame (F := Bits) m ρ

/-- So does the ideal kernel. -/
theorem frame_ideal32 : Cert.quiescent_Kernel32Ideal := fun m ρ _ => Cert.Kernel32Ideal.Gen.frame (F := Ideal) m ρ

/-- So does the reference. -/
theorem frame_reference32 : Cert.quiescent_Reference32Ideal := fun m ρ _ =>
  (θ_run Cert.Reference32Ideal.defs _ _).mono (fun _ h => ⟨fun c => (h c).2.2.2, sem_eq_zero_of_no_sems rfl _⟩) (Cert.Reference32Ideal.Value.run (F := Ideal) m ρ)

/-- The kernel's three gradients are the reference's. -/
theorem value32 : Cert.algebraic_Kernel32Ideal_Reference32Ideal := by
  intro m ρ m' ρ' _ hagree
  refine ⟨fun c => Cert.Kernel32Ideal.Modulation.inputGrad (Cert.Kernel32Ideal.Modulation.argX m c) (Cert.Kernel32Ideal.Modulation.argH m c)
      (Cert.Kernel32Ideal.Modulation.argD m c) (Cert.Kernel32Ideal.Modulation.argS m c),
    fun c => Cert.Kernel32Ideal.Modulation.inScale (Cert.Kernel32Ideal.Modulation.argX m c) (Cert.Kernel32Ideal.Modulation.argH m c),
    fun c => Cert.Kernel32Ideal.Modulation.inShift (Cert.Kernel32Ideal.Modulation.argH m c), ?_, ?_⟩
  · exact (θ_run Cert.Kernel32Ideal.defs _ _).mono (fun r h c => ⟨(h.1.out_eq c 5).trans (Cert.Kernel32Ideal.Modulation.input_eq m c),
        (h.1.out_eq c 6).trans (Cert.Kernel32Ideal.Modulation.scale_eq m c), (h.1.out_eq c 7).trans (Cert.Kernel32Ideal.Modulation.shift_eq m c), h.2 c⟩)
      (θ_run_and (Cert.Kernel32Ideal.Gen.run_main m ρ) (Cert.Kernel32Ideal.Gen.unchanged m ρ))
  · refine (θ_run Cert.Reference32Ideal.defs _ _).mono (fun r h c => ?_) (Cert.Reference32Ideal.Value.run m' ρ')
    obtain ⟨h0, h1, h2, h3, h4⟩ := hagree c
    refine ⟨(h c).1.trans ?_, (h c).2.1.trans ?_, (h c).2.2.1.trans ?_, (h c).2.2.2⟩
    · unfold Cert.Reference32Ideal.Value.res_main_v41
      rw [h0, h1, h2, h3]
      exact Cert.Kernel32Ideal.Modulation.input_reference _ _ _ _
    · rw [h0, h1]
      exact Cert.Kernel32Ideal.Modulation.scale_reference _ _
    · rw [h1]
      exact Cert.Kernel32Ideal.Modulation.shift_reference _

/-- Every claim. -/
theorem claim : Cert.Claim := ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
  frame_kernel, frame_ideal, frame_ideal_pre, frame_reference, frame_reference_pre,
  frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  frame_kernel13, frame_ideal13, frame_reference13,
  frame_kernel14, frame_ideal14, frame_reference14,
  frame_kernel15, frame_ideal15, frame_reference15,
  frame_kernel16, frame_ideal16, frame_reference16,
  frame_kernel17, frame_ideal17, frame_reference17,
  frame_kernel18, frame_ideal18, frame_reference18,
  frame_kernel19, frame_ideal19, frame_reference19,
  frame_kernel20, frame_ideal20, frame_reference20,
  frame_kernel21, frame_ideal21, frame_reference21,
  frame_kernel22, frame_ideal22, frame_reference22,
  frame_kernel23, frame_ideal23, frame_reference23,
  frame_kernel24, frame_ideal24, frame_reference24,
  frame_kernel25, frame_ideal25, frame_reference25,
  frame_kernel26, frame_ideal26, frame_reference26,
  frame_kernel27, frame_ideal27, frame_reference27,
  frame_kernel28, frame_ideal28, frame_reference28,
  frame_kernel29, frame_ideal29, frame_reference29,
  frame_kernel30, frame_ideal30, frame_reference30,
  frame_kernel31, frame_ideal31, frame_reference31,
  frame_kernel32, frame_ideal32, frame_reference32,
  trivial, value,
  trivial, value2,
  trivial, value3,
  trivial, value4,
  trivial, value5,
  trivial, value6,
  trivial, value7,
  trivial, value8,
  trivial, value9,
  trivial, value10,
  trivial, value11,
  trivial, value12,
  trivial, value13,
  trivial, value14,
  trivial, value15,
  trivial, value16,
  trivial, value17,
  trivial, value18,
  trivial, value19,
  trivial, value20,
  trivial, value21,
  trivial, value22,
  trivial, value23,
  trivial, value24,
  trivial, value25,
  trivial, value26,
  trivial, value27,
  trivial, value28,
  trivial, value29,
  trivial, value30,
  trivial, value31,
  trivial, value32⟩

end Cert.Proof

end
